-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttProj (m : (ℓ : Loc Cert.AttProj.nD Cert.AttProj.τ Cert.AttProj.sig) → Buf (Elt Bits) ℓ) : Prop :=
  True

def Pre_AttProjIdeal (m : (ℓ : Loc Cert.AttProjIdeal.nD Cert.AttProjIdeal.τ Cert.AttProjIdeal.sig) → Buf (Elt Ideal) ℓ) : Prop :=
  True

def Pre_AttProjRefIdeal (m : (ℓ : Loc Cert.AttProjRefIdeal.nD Cert.AttProjRefIdeal.τ Cert.AttProjRefIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjRefIdeal (m : (ℓ : Loc Cert.QkvProjRefIdeal.nD Cert.QkvProjRefIdeal.τ Cert.QkvProjRefIdeal.sig) → Buf (Elt Ideal) ℓ) : Prop :=
  True

def Pre_GateProj (m : (ℓ : Loc Cert.GateProj.nD Cert.GateProj.τ Cert.GateProj.sig) → Buf (Elt Bits) ℓ) : Prop :=
  True

def Pre_GateProjIdeal (m : (ℓ : Loc Cert.GateProjIdeal.nD Cert.GateProjIdeal.τ Cert.GateProjIdeal.sig) → Buf (Elt Ideal) ℓ) : Prop :=
  True

def Pre_GateProjRefIdeal (m : (ℓ : Loc Cert.GateProjRefIdeal.nD Cert.GateProjRefIdeal.τ Cert.GateProjRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_FfnC (m : (ℓ : Loc Cert.FfnC.nD Cert.FfnC.τ Cert.FfnC.sig) → Buf (Elt Bits) ℓ) : Prop :=
  True

def Pre_FfnCIdeal (m : (ℓ : Loc Cert.FfnCIdeal.nD Cert.FfnCIdeal.τ Cert.FfnCIdeal.sig) → Buf (Elt Ideal) ℓ) : Prop :=
  True

def Pre_FfnCRefIdeal (m : (ℓ : Loc Cert.FfnCRefIdeal.nD Cert.FfnCRefIdeal.τ Cert.FfnCRefIdeal.sig) → Buf (Elt Ideal) ℓ) : Prop :=
  True

def Pre_FfnD (m : (ℓ : Loc Cert.FfnD.nD Cert.FfnD.τ Cert.FfnD.sig) → Buf (Elt Bits) ℓ) : Prop :=
  True

def Pre_FfnDIdeal (m : (ℓ : Loc Cert.FfnDIdeal.nD Cert.FfnDIdeal.τ Cert.FfnDIdeal.sig) → Buf (Elt Ideal) ℓ) : Prop :=
  True

def Pre_FfnDRefIdeal (m : (ℓ : Loc Cert.FfnDRefIdeal.nD Cert.FfnDRefIdeal.τ Cert.FfnDRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_AttProj [hAttProj : Cert.AttProj.Facts] : Prop :=
  ∀ (m : (ℓ : Loc Cert.AttProj.nD Cert.AttProj.τ Cert.AttProj.sig) → Buf (Elt Bits) ℓ) (g : Dev Cert.AttProj.nD → PrngReg), Pre_AttProj m →
    θ_run (Cert.AttProj.defs (F := Bits)) (onTc (τ := Cert.AttProj.τ) (Cert.AttProj.main (F := Bits))) ⟨m, fun _ => 0, g⟩ (fun r => (∀ c : Dev Cert.AttProj.nD,
      r.2.mem ((c.tc : Thread Cert.AttProj.nD Cert.AttProj.τ).loc Cert.AttProj.main_arg0) = m ((c.tc : Thread Cert.AttProj.nD Cert.AttProj.τ).loc Cert.AttProj.main_arg0)
      ∧ r.2.mem ((c.tc : Thread Cert.AttProj.nD Cert.AttProj.τ).loc Cert.AttProj.main_arg1) = m ((c.tc : Thread Cert.AttProj.nD Cert.AttProj.τ).loc Cert.AttProj.main_arg1))
      ∧ r.2.sem = fun _ => 0)

def quiescent_AttProjIdeal [hAttProjIdeal : Cert.AttProjIdeal.Facts] : Prop :=
  ∀ (m : (ℓ : Loc Cert.AttProjIdeal.nD Cert.AttProjIdeal.τ Cert.AttProjIdeal.sig) → Buf (Elt Ideal) ℓ) (g : Dev Cert.AttProjIdeal.nD → PrngReg), Pre_AttProjIdeal m →
    θ_run (Cert.AttProjIdeal.defs (F := Ideal)) (onTc (τ := Cert.AttProjIdeal.τ) (Cert.AttProjIdeal.main (F := Ideal))) ⟨m, fun _ => 0, g⟩ (fun r => (∀ c : Dev Cert.AttProjIdeal.nD,
      r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
      ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ r.2.sem = fun _ => 0)

def quiescent_AttProjRefIdeal [hAttProjRefIdeal : Cert.AttProjRefIdeal.Facts] : Prop :=
  ∀ (m : (ℓ : Loc Cert.AttProjRefIdeal.nD Cert.AttProjRefIdeal.τ Cert.AttProjRefIdeal.sig) → Buf (Elt Ideal) ℓ) (g : Dev Cert.AttProjRefIdeal.nD → PrngReg), Pre_AttProjRefIdeal m →
    θ_run (Cert.AttProjRefIdeal.defs (F := Ideal)) (onTc (τ := Cert.AttProjRefIdeal.τ) (Cert.AttProjRefIdeal.main (F := Ideal))) ⟨m, fun _ => 0, g⟩ (fun r => (∀ c : Dev Cert.AttProjRefIdeal.nD,
      r.2.mem ((c.tc : Thread Cert.AttProjRefIdeal.nD Cert.AttProjRefIdeal.τ).loc Cert.AttProjRefIdeal.main_arg0) = m ((c.tc : Thread Cert.AttProjRefIdeal.nD Cert.AttProjRefIdeal.τ).loc Cert.AttProjRefIdeal.main_arg0)
      ∧ r.2.mem ((c.tc : Thread Cert.AttProjRefIdeal.nD Cert.AttProjRefIdeal.τ).loc Cert.AttProjRefIdeal.main_arg1) = m ((c.tc : Thread Cert.AttProjRefIdeal.nD Cert.AttProjRefIdeal.τ).loc Cert.AttProjRefIdeal.main_arg1))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ r.2.sem = fun _ => 0)

def quiescent_QkvProjRefIdeal [hQkvProjRefIdeal : Cert.QkvProjRefIdeal.Facts] : Prop :=
  ∀ (m : (ℓ : Loc Cert.QkvProjRefIdeal.nD Cert.QkvProjRefIdeal.τ Cert.QkvProjRefIdeal.sig) → Buf (Elt Ideal) ℓ) (g : Dev Cert.QkvProjRefIdeal.nD → PrngReg), Pre_QkvProjRefIdeal m →
    θ_run (Cert.QkvProjRefIdeal.defs (F := Ideal)) (onTc (τ := Cert.QkvProjRefIdeal.τ) (Cert.QkvProjRefIdeal.main (F := Ideal))) ⟨m, fun _ => 0, g⟩ (fun r => (∀ c : Dev Cert.QkvProjRefIdeal.nD,
      r.2.mem ((c.tc : Thread Cert.QkvProjRefIdeal.nD Cert.QkvProjRefIdeal.τ).loc Cert.QkvProjRefIdeal.main_arg0) = m ((c.tc : Thread Cert.QkvProjRefIdeal.nD Cert.QkvProjRefIdeal.τ).loc Cert.QkvProjRefIdeal.main_arg0)
      ∧ r.2.mem ((c.tc : Thread Cert.QkvProjRefIdeal.nD Cert.QkvProjRefIdeal.τ).loc Cert.QkvProjRefIdeal.main_arg1) = m ((c.tc : Thread Cert.QkvProjRefIdeal.nD Cert.QkvProjRefIdeal.τ).loc Cert.QkvProjRefIdeal.main_arg1))
      ∧ r.2.sem = fun _ => 0)

def quiescent_GateProj [hGateProj : Cert.GateProj.Facts] : Prop :=
  ∀ (m : (ℓ : Loc Cert.GateProj.nD Cert.GateProj.τ Cert.GateProj.sig) → Buf (Elt Bits) ℓ) (g : Dev Cert.GateProj.nD → PrngReg), Pre_GateProj m →
    θ_run (Cert.GateProj.defs (F := Bits)) (onTc (τ := Cert.GateProj.τ) (Cert.GateProj.main (F := Bits))) ⟨m, fun _ => 0, g⟩ (fun r => (∀ c : Dev Cert.GateProj.nD,
      r.2.mem ((c.tc : Thread Cert.GateProj.nD Cert.GateProj.τ).loc Cert.GateProj.main_arg0) = m ((c.tc : Thread Cert.GateProj.nD Cert.GateProj.τ).loc Cert.GateProj.main_arg0)
      ∧ r.2.mem ((c.tc : Thread Cert.GateProj.nD Cert.GateProj.τ).loc Cert.GateProj.main_arg1) = m ((c.tc : Thread Cert.GateProj.nD Cert.GateProj.τ).loc Cert.GateProj.main_arg1))
      ∧ r.2.sem = fun _ => 0)

def quiescent_GateProjIdeal [hGateProjIdeal : Cert.GateProjIdeal.Facts] : Prop :=
  ∀ (m : (ℓ : Loc Cert.GateProjIdeal.nD Cert.GateProjIdeal.τ Cert.GateProjIdeal.sig) → Buf (Elt Ideal) ℓ) (g : Dev Cert.GateProjIdeal.nD → PrngReg), Pre_GateProjIdeal m →
    θ_run (Cert.GateProjIdeal.defs (F := Ideal)) (onTc (τ := Cert.GateProjIdeal.τ) (Cert.GateProjIdeal.main (F := Ideal))) ⟨m, fun _ => 0, g⟩ (fun r => (∀ c : Dev Cert.GateProjIdeal.nD,
      r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
      ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ r.2.sem = fun _ => 0)

def quiescent_GateProjRefIdeal [hGateProjRefIdeal : Cert.GateProjRefIdeal.Facts] : Prop :=
  ∀ (m : (ℓ : Loc Cert.GateProjRefIdeal.nD Cert.GateProjRefIdeal.τ Cert.GateProjRefIdeal.sig) → Buf (Elt Ideal) ℓ) (g : Dev Cert.GateProjRefIdeal.nD → PrngReg), Pre_GateProjRefIdeal m →
    θ_run (Cert.GateProjRefIdeal.defs (F := Ideal)) (onTc (τ := Cert.GateProjRefIdeal.τ) (Cert.GateProjRefIdeal.main (F := Ideal))) ⟨m, fun _ => 0, g⟩ (fun r => (∀ c : Dev Cert.GateProjRefIdeal.nD,
      r.2.mem ((c.tc : Thread Cert.GateProjRefIdeal.nD Cert.GateProjRefIdeal.τ).loc Cert.GateProjRefIdeal.main_arg0) = m ((c.tc : Thread Cert.GateProjRefIdeal.nD Cert.GateProjRefIdeal.τ).loc Cert.GateProjRefIdeal.main_arg0)
      ∧ r.2.mem ((c.tc : Thread Cert.GateProjRefIdeal.nD Cert.GateProjRefIdeal.τ).loc Cert.GateProjRefIdeal.main_arg1) = m ((c.tc : Thread Cert.GateProjRefIdeal.nD Cert.GateProjRefIdeal.τ).loc Cert.GateProjRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5))
      ∧ r.2.sem = fun _ => 0)

def quiescent_FfnC [hFfnC : Cert.FfnC.Facts] : Prop :=
  ∀ (m : (ℓ : Loc Cert.FfnC.nD Cert.FfnC.τ Cert.FfnC.sig) → Buf (Elt Bits) ℓ) (g : Dev Cert.FfnC.nD → PrngReg), Pre_FfnC m →
    θ_run (Cert.FfnC.defs (F := Bits)) (onTc (τ := Cert.FfnC.τ) (Cert.FfnC.main (F := Bits))) ⟨m, fun _ => 0, g⟩ (fun r => (∀ c : Dev Cert.FfnC.nD,
      r.2.mem ((c.tc : Thread Cert.FfnC.nD Cert.FfnC.τ).loc Cert.FfnC.main_arg0) = m ((c.tc : Thread Cert.FfnC.nD Cert.FfnC.τ).loc Cert.FfnC.main_arg0)
      ∧ r.2.mem ((c.tc : Thread Cert.FfnC.nD Cert.FfnC.τ).loc Cert.FfnC.main_arg1) = m ((c.tc : Thread Cert.FfnC.nD Cert.FfnC.τ).loc Cert.FfnC.main_arg1)
      ∧ r.2.mem ((c.tc : Thread Cert.FfnC.nD Cert.FfnC.τ).loc Cert.FfnC.main_arg2) = m ((c.tc : Thread Cert.FfnC.nD Cert.FfnC.τ).loc Cert.FfnC.main_arg2)
      ∧ r.2.mem ((c.tc : Thread Cert.FfnC.nD Cert.FfnC.τ).loc Cert.FfnC.main_arg3) = m ((c.tc : Thread Cert.FfnC.nD Cert.FfnC.τ).loc Cert.FfnC.main_arg3)
      ∧ r.2.mem ((c.tc : Thread Cert.FfnC.nD Cert.FfnC.τ).loc Cert.FfnC.main_arg4) = m ((c.tc : Thread Cert.FfnC.nD Cert.FfnC.τ).loc Cert.FfnC.main_arg4)
      ∧ r.2.mem ((c.tc : Thread Cert.FfnC.nD Cert.FfnC.τ).loc Cert.FfnC.main_arg5) = m ((c.tc : Thread Cert.FfnC.nD Cert.FfnC.τ).loc Cert.FfnC.main_arg5))
      ∧ r.2.sem = fun _ => 0)

def quiescent_FfnCIdeal [hFfnCIdeal : Cert.FfnCIdeal.Facts] : Prop :=
  ∀ (m : (ℓ : Loc Cert.FfnCIdeal.nD Cert.FfnCIdeal.τ Cert.FfnCIdeal.sig) → Buf (Elt Ideal) ℓ) (g : Dev Cert.FfnCIdeal.nD → PrngReg), Pre_FfnCIdeal m →
    θ_run (Cert.FfnCIdeal.defs (F := Ideal)) (onTc (τ := Cert.FfnCIdeal.τ) (Cert.FfnCIdeal.main (F := Ideal))) ⟨m, fun _ => 0, g⟩ (fun r => (∀ c : Dev Cert.FfnCIdeal.nD,
      r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
      ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
      ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
      ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
      ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
      ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5))
      ∧ r.2.sem = fun _ => 0)

def quiescent_FfnCRefIdeal [hFfnCRefIdeal : Cert.FfnCRefIdeal.Facts] : Prop :=
  ∀ (m : (ℓ : Loc Cert.FfnCRefIdeal.nD Cert.FfnCRefIdeal.τ Cert.FfnCRefIdeal.sig) → Buf (Elt Ideal) ℓ) (g : Dev Cert.FfnCRefIdeal.nD → PrngReg), Pre_FfnCRefIdeal m →
    θ_run (Cert.FfnCRefIdeal.defs (F := Ideal)) (onTc (τ := Cert.FfnCRefIdeal.τ) (Cert.FfnCRefIdeal.main (F := Ideal))) ⟨m, fun _ => 0, g⟩ (fun r => (∀ c : Dev Cert.FfnCRefIdeal.nD,
      r.2.mem ((c.tc : Thread Cert.FfnCRefIdeal.nD Cert.FfnCRefIdeal.τ).loc Cert.FfnCRefIdeal.main_arg0) = m ((c.tc : Thread Cert.FfnCRefIdeal.nD Cert.FfnCRefIdeal.τ).loc Cert.FfnCRefIdeal.main_arg0)
      ∧ r.2.mem ((c.tc : Thread Cert.FfnCRefIdeal.nD Cert.FfnCRefIdeal.τ).loc Cert.FfnCRefIdeal.main_arg1) = m ((c.tc : Thread Cert.FfnCRefIdeal.nD Cert.FfnCRefIdeal.τ).loc Cert.FfnCRefIdeal.main_arg1)
      ∧ r.2.mem ((c.tc : Thread Cert.FfnCRefIdeal.nD Cert.FfnCRefIdeal.τ).loc Cert.FfnCRefIdeal.main_arg2) = m ((c.tc : Thread Cert.FfnCRefIdeal.nD Cert.FfnCRefIdeal.τ).loc Cert.FfnCRefIdeal.main_arg2)
      ∧ r.2.mem ((c.tc : Thread Cert.FfnCRefIdeal.nD Cert.FfnCRefIdeal.τ).loc Cert.FfnCRefIdeal.main_arg3) = m ((c.tc : Thread Cert.FfnCRefIdeal.nD Cert.FfnCRefIdeal.τ).loc Cert.FfnCRefIdeal.main_arg3)
      ∧ r.2.mem ((c.tc : Thread Cert.FfnCRefIdeal.nD Cert.FfnCRefIdeal.τ).loc Cert.FfnCRefIdeal.main_arg4) = m ((c.tc : Thread Cert.FfnCRefIdeal.nD Cert.FfnCRefIdeal.τ).loc Cert.FfnCRefIdeal.main_arg4)
      ∧ r.2.mem ((c.tc : Thread Cert.FfnCRefIdeal.nD Cert.FfnCRefIdeal.τ).loc Cert.FfnCRefIdeal.main_arg5) = m ((c.tc : Thread Cert.FfnCRefIdeal.nD Cert.FfnCRefIdeal.τ).loc Cert.FfnCRefIdeal.main_arg5))
      ∧ r.2.sem = fun _ => 0)

def quiescent_FfnD [hFfnD : Cert.FfnD.Facts] : Prop :=
  ∀ (m : (ℓ : Loc Cert.FfnD.nD Cert.FfnD.τ Cert.FfnD.sig) → Buf (Elt Bits) ℓ) (g : Dev Cert.FfnD.nD → PrngReg), Pre_FfnD m →
    θ_run (Cert.FfnD.defs (F := Bits)) (onTc (τ := Cert.FfnD.τ) (Cert.FfnD.main (F := Bits))) ⟨m, fun _ => 0, g⟩ (fun r => (∀ c : Dev Cert.FfnD.nD,
      r.2.mem ((c.tc : Thread Cert.FfnD.nD Cert.FfnD.τ).loc Cert.FfnD.main_arg0) = m ((c.tc : Thread Cert.FfnD.nD Cert.FfnD.τ).loc Cert.FfnD.main_arg0)
      ∧ r.2.mem ((c.tc : Thread Cert.FfnD.nD Cert.FfnD.τ).loc Cert.FfnD.main_arg1) = m ((c.tc : Thread Cert.FfnD.nD Cert.FfnD.τ).loc Cert.FfnD.main_arg1)
      ∧ r.2.mem ((c.tc : Thread Cert.FfnD.nD Cert.FfnD.τ).loc Cert.FfnD.main_arg2) = m ((c.tc : Thread Cert.FfnD.nD Cert.FfnD.τ).loc Cert.FfnD.main_arg2)
      ∧ r.2.mem ((c.tc : Thread Cert.FfnD.nD Cert.FfnD.τ).loc Cert.FfnD.main_arg3) = m ((c.tc : Thread Cert.FfnD.nD Cert.FfnD.τ).loc Cert.FfnD.main_arg3)
      ∧ r.2.mem ((c.tc : Thread Cert.FfnD.nD Cert.FfnD.τ).loc Cert.FfnD.main_arg4) = m ((c.tc : Thread Cert.FfnD.nD Cert.FfnD.τ).loc Cert.FfnD.main_arg4)
      ∧ r.2.mem ((c.tc : Thread Cert.FfnD.nD Cert.FfnD.τ).loc Cert.FfnD.main_arg5) = m ((c.tc : Thread Cert.FfnD.nD Cert.FfnD.τ).loc Cert.FfnD.main_arg5))
      ∧ r.2.sem = fun _ => 0)

def quiescent_FfnDIdeal [hFfnDIdeal : Cert.FfnDIdeal.Facts] : Prop :=
  ∀ (m : (ℓ : Loc Cert.FfnDIdeal.nD Cert.FfnDIdeal.τ Cert.FfnDIdeal.sig) → Buf (Elt Ideal) ℓ) (g : Dev Cert.FfnDIdeal.nD → PrngReg), Pre_FfnDIdeal m →
    θ_run (Cert.FfnDIdeal.defs (F := Ideal)) (onTc (τ := Cert.FfnDIdeal.τ) (Cert.FfnDIdeal.main (F := Ideal))) ⟨m, fun _ => 0, g⟩ (fun r => (∀ c : Dev Cert.FfnDIdeal.nD,
      r.2.mem ((c.tc : Thread Cert.FfnDIdeal.nD Cert.FfnDIdeal.τ).loc Cert.FfnDIdeal.main_arg0) = m ((c.tc : Thread Cert.FfnDIdeal.nD Cert.FfnDIdeal.τ).loc Cert.FfnDIdeal.main_arg0)
      ∧ r.2.mem ((c.tc : Thread Cert.FfnDIdeal.nD Cert.FfnDIdeal.τ).loc Cert.FfnDIdeal.main_arg1) = m ((c.tc : Thread Cert.FfnDIdeal.nD Cert.FfnDIdeal.τ).loc Cert.FfnDIdeal.main_arg1)
      ∧ r.2.mem ((c.tc : Thread Cert.FfnDIdeal.nD Cert.FfnDIdeal.τ).loc Cert.FfnDIdeal.main_arg2) = m ((c.tc : Thread Cert.FfnDIdeal.nD Cert.FfnDIdeal.τ).loc Cert.FfnDIdeal.main_arg2)
      ∧ r.2.mem ((c.tc : Thread Cert.FfnDIdeal.nD Cert.FfnDIdeal.τ).loc Cert.FfnDIdeal.main_arg3) = m ((c.tc : Thread Cert.FfnDIdeal.nD Cert.FfnDIdeal.τ).loc Cert.FfnDIdeal.main_arg3)
      ∧ r.2.mem ((c.tc : Thread Cert.FfnDIdeal.nD Cert.FfnDIdeal.τ).loc Cert.FfnDIdeal.main_arg4) = m ((c.tc : Thread Cert.FfnDIdeal.nD Cert.FfnDIdeal.τ).loc Cert.FfnDIdeal.main_arg4)
      ∧ r.2.mem ((c.tc : Thread Cert.FfnDIdeal.nD Cert.FfnDIdeal.τ).loc Cert.FfnDIdeal.main_arg5) = m ((c.tc : Thread Cert.FfnDIdeal.nD Cert.FfnDIdeal.τ).loc Cert.FfnDIdeal.main_arg5))
      ∧ r.2.sem = fun _ => 0)

def quiescent_FfnDRefIdeal [hFfnDRefIdeal : Cert.FfnDRefIdeal.Facts] : Prop :=
  ∀ (m : (ℓ : Loc Cert.FfnDRefIdeal.nD Cert.FfnDRefIdeal.τ Cert.FfnDRefIdeal.sig) → Buf (Elt Ideal) ℓ) (g : Dev Cert.FfnDRefIdeal.nD → PrngReg), Pre_FfnDRefIdeal m →
    θ_run (Cert.FfnDRefIdeal.defs (F := Ideal)) (onTc (τ := Cert.FfnDRefIdeal.τ) (Cert.FfnDRefIdeal.main (F := Ideal))) ⟨m, fun _ => 0, g⟩ (fun r => (∀ c : Dev Cert.FfnDRefIdeal.nD,
      r.2.mem ((c.tc : Thread Cert.FfnDRefIdeal.nD Cert.FfnDRefIdeal.τ).loc Cert.FfnDRefIdeal.main_arg0) = m ((c.tc : Thread Cert.FfnDRefIdeal.nD Cert.FfnDRefIdeal.τ).loc Cert.FfnDRefIdeal.main_arg0)
      ∧ r.2.mem ((c.tc : Thread Cert.FfnDRefIdeal.nD Cert.FfnDRefIdeal.τ).loc Cert.FfnDRefIdeal.main_arg1) = m ((c.tc : Thread Cert.FfnDRefIdeal.nD Cert.FfnDRefIdeal.τ).loc Cert.FfnDRefIdeal.main_arg1)
      ∧ r.2.mem ((c.tc : Thread Cert.FfnDRefIdeal.nD Cert.FfnDRefIdeal.τ).loc Cert.FfnDRefIdeal.main_arg2) = m ((c.tc : Thread Cert.FfnDRefIdeal.nD Cert.FfnDRefIdeal.τ).loc Cert.FfnDRefIdeal.main_arg2)
      ∧ r.2.mem ((c.tc : Thread Cert.FfnDRefIdeal.nD Cert.FfnDRefIdeal.τ).loc Cert.FfnDRefIdeal.main_arg3) = m ((c.tc : Thread Cert.FfnDRefIdeal.nD Cert.FfnDRefIdeal.τ).loc Cert.FfnDRefIdeal.main_arg3)
      ∧ r.2.mem ((c.tc : Thread Cert.FfnDRefIdeal.nD Cert.FfnDRefIdeal.τ).loc Cert.FfnDRefIdeal.main_arg4) = m ((c.tc : Thread Cert.FfnDRefIdeal.nD Cert.FfnDRefIdeal.τ).loc Cert.FfnDRefIdeal.main_arg4)
      ∧ r.2.mem ((c.tc : Thread Cert.FfnDRefIdeal.nD Cert.FfnDRefIdeal.τ).loc Cert.FfnDRefIdeal.main_arg5) = m ((c.tc : Thread Cert.FfnDRefIdeal.nD Cert.FfnDRefIdeal.τ).loc Cert.FfnDRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_AttProj_AttProjIdeal : Prop :=
  True

def algebraic_AttProjIdeal_AttProjRefIdeal [hAttProjIdeal : Cert.AttProjIdeal.Facts] [hAttProjRefIdeal : Cert.AttProjRefIdeal.Facts] : Prop :=
  ∀ (m : (ℓ : Loc Cert.AttProjIdeal.nD Cert.AttProjIdeal.τ Cert.AttProjIdeal.sig) → Buf (Elt Ideal) ℓ) (g : Dev Cert.AttProjIdeal.nD → PrngReg)
    (m' : (ℓ : Loc Cert.AttProjRefIdeal.nD Cert.AttProjRefIdeal.τ Cert.AttProjRefIdeal.sig) → Buf (Elt Ideal) ℓ) (g' : Dev Cert.AttProjRefIdeal.nD → PrngReg), Pre_AttProjIdeal m →
    (∀ c : Dev Cert.AttProjIdeal.nD,
      m' ((c.tc : Thread Cert.AttProjRefIdeal.nD Cert.AttProjRefIdeal.τ).loc Cert.AttProjRefIdeal.main_arg0) = m ((c.tc : Thread Cert.AttProjIdeal.nD Cert.AttProjIdeal.τ).loc Cert.AttProjIdeal.main_arg0)
      ∧ m' ((c.tc : Thread Cert.AttProjRefIdeal.nD Cert.AttProjRefIdeal.τ).loc Cert.AttProjRefIdeal.main_arg1) = m ((c.tc : Thread Cert.AttProjIdeal.nD Cert.AttProjIdeal.τ).loc Cert.AttProjIdeal.main_arg1)) →
    ∃ (v0 : (c : Dev Cert.AttProjIdeal.nD) → Buf (Elt Ideal) ((c.tc : Thread Cert.AttProjIdeal.nD Cert.AttProjIdeal.τ).loc Cert.AttProjIdeal.main_v1)),
      θ_run (Cert.AttProjIdeal.defs (F := Ideal)) (onTc (τ := Cert.AttProjIdeal.τ) (Cert.AttProjIdeal.main (F := Ideal))) ⟨m, fun _ => 0, g⟩ (fun r => ∀ c : Dev Cert.AttProjIdeal.nD,
          r.2.mem ((c.tc : Thread Cert.AttProjIdeal.nD Cert.AttProjIdeal.τ).loc Cert.AttProjIdeal.main_v1) = v0 c
          ∧ r.2.mem ((c.tc : Thread Cert.AttProjIdeal.nD Cert.AttProjIdeal.τ).loc Cert.AttProjIdeal.main_arg0) = m ((c.tc : Thread Cert.AttProjIdeal.nD Cert.AttProjIdeal.τ).loc Cert.AttProjIdeal.main_arg0)
          ∧ r.2.mem ((c.tc : Thread Cert.AttProjIdeal.nD Cert.AttProjIdeal.τ).loc Cert.AttProjIdeal.main_arg1) = m ((c.tc : Thread Cert.AttProjIdeal.nD Cert.AttProjIdeal.τ).loc Cert.AttProjIdeal.main_arg1))
      ∧ θ_run (Cert.AttProjRefIdeal.defs (F := Ideal)) (onTc (τ := Cert.AttProjRefIdeal.τ) (Cert.AttProjRefIdeal.main (F := Ideal))) ⟨m', fun _ => 0, g'⟩ (fun r => ∀ c : Dev Cert.AttProjRefIdeal.nD,
          r.2.mem ((c.tc : Thread Cert.AttProjRefIdeal.nD Cert.AttProjRefIdeal.τ).loc Cert.AttProjRefIdeal.main_v2) = v0 c
          ∧ r.2.mem ((c.tc : Thread Cert.AttProjRefIdeal.nD Cert.AttProjRefIdeal.τ).loc Cert.AttProjRefIdeal.main_arg0) = m' ((c.tc : Thread Cert.AttProjRefIdeal.nD Cert.AttProjRefIdeal.τ).loc Cert.AttProjRefIdeal.main_arg0)
          ∧ r.2.mem ((c.tc : Thread Cert.AttProjRefIdeal.nD Cert.AttProjRefIdeal.τ).loc Cert.AttProjRefIdeal.main_arg1) = m' ((c.tc : Thread Cert.AttProjRefIdeal.nD Cert.AttProjRefIdeal.τ).loc Cert.AttProjRefIdeal.main_arg1))

def preserves_QkvProj_QkvProjIdeal : Prop :=
  True

def algebraic_QkvProjIdeal_QkvProjRefIdeal [hQkvProjIdeal : Cert.QkvProjIdeal.Facts] [hQkvProjRefIdeal : Cert.QkvProjRefIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjRefIdeal.nD Cert.QkvProjRefIdeal.τ Cert.QkvProjRefIdeal.sig) → Buf (Elt Ideal) ℓ) (g' : Dev Cert.QkvProjRefIdeal.nD → PrngReg), Pre_QkvProjIdeal m →
    (∀ c : Dev Cert.QkvProjIdeal.nD,
      m' ((c.tc : Thread Cert.QkvProjRefIdeal.nD Cert.QkvProjRefIdeal.τ).loc Cert.QkvProjRefIdeal.main_arg0) = m ((c.tc : Thread Cert.QkvProjIdeal.nD Cert.QkvProjIdeal.τ).loc Cert.QkvProjIdeal.main_arg0)
      ∧ m' ((c.tc : Thread Cert.QkvProjRefIdeal.nD Cert.QkvProjRefIdeal.τ).loc Cert.QkvProjRefIdeal.main_arg1) = m ((c.tc : Thread Cert.QkvProjIdeal.nD Cert.QkvProjIdeal.τ).loc Cert.QkvProjIdeal.main_arg1)) →
    ∃ (v0 : (c : Dev Cert.QkvProjIdeal.nD) → Buf (Elt Ideal) ((c.tc : Thread Cert.QkvProjIdeal.nD Cert.QkvProjIdeal.τ).loc Cert.QkvProjIdeal.main_v1)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v1) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ θ_run (Cert.QkvProjRefIdeal.defs (F := Ideal)) (onTc (τ := Cert.QkvProjRefIdeal.τ) (Cert.QkvProjRefIdeal.main (F := Ideal))) ⟨m', fun _ => 0, g'⟩ (fun r => ∀ c : Dev Cert.QkvProjRefIdeal.nD,
          r.2.mem ((c.tc : Thread Cert.QkvProjRefIdeal.nD Cert.QkvProjRefIdeal.τ).loc Cert.QkvProjRefIdeal.main_v1) = v0 c
          ∧ r.2.mem ((c.tc : Thread Cert.QkvProjRefIdeal.nD Cert.QkvProjRefIdeal.τ).loc Cert.QkvProjRefIdeal.main_arg0) = m' ((c.tc : Thread Cert.QkvProjRefIdeal.nD Cert.QkvProjRefIdeal.τ).loc Cert.QkvProjRefIdeal.main_arg0)
          ∧ r.2.mem ((c.tc : Thread Cert.QkvProjRefIdeal.nD Cert.QkvProjRefIdeal.τ).loc Cert.QkvProjRefIdeal.main_arg1) = m' ((c.tc : Thread Cert.QkvProjRefIdeal.nD Cert.QkvProjRefIdeal.τ).loc Cert.QkvProjRefIdeal.main_arg1))

def preserves_GateProj_GateProjIdeal : Prop :=
  True

def algebraic_GateProjIdeal_GateProjRefIdeal [hGateProjIdeal : Cert.GateProjIdeal.Facts] [hGateProjRefIdeal : Cert.GateProjRefIdeal.Facts] : Prop :=
  ∀ (m : (ℓ : Loc Cert.GateProjIdeal.nD Cert.GateProjIdeal.τ Cert.GateProjIdeal.sig) → Buf (Elt Ideal) ℓ) (g : Dev Cert.GateProjIdeal.nD → PrngReg)
    (m' : (ℓ : Loc Cert.GateProjRefIdeal.nD Cert.GateProjRefIdeal.τ Cert.GateProjRefIdeal.sig) → Buf (Elt Ideal) ℓ) (g' : Dev Cert.GateProjRefIdeal.nD → PrngReg), Pre_GateProjIdeal m →
    (∀ c : Dev Cert.GateProjIdeal.nD,
      m' ((c.tc : Thread Cert.GateProjRefIdeal.nD Cert.GateProjRefIdeal.τ).loc Cert.GateProjRefIdeal.main_arg0) = m ((c.tc : Thread Cert.GateProjIdeal.nD Cert.GateProjIdeal.τ).loc Cert.GateProjIdeal.main_arg0)
      ∧ m' ((c.tc : Thread Cert.GateProjRefIdeal.nD Cert.GateProjRefIdeal.τ).loc Cert.GateProjRefIdeal.main_arg1) = m ((c.tc : Thread Cert.GateProjIdeal.nD Cert.GateProjIdeal.τ).loc Cert.GateProjIdeal.main_arg1)) →
    ∃ (v0 : (c : Dev Cert.GateProjIdeal.nD) → Buf (Elt Ideal) ((c.tc : Thread Cert.GateProjIdeal.nD Cert.GateProjIdeal.τ).loc Cert.GateProjIdeal.main_v1)),
      θ_run (Cert.GateProjIdeal.defs (F := Ideal)) (onTc (τ := Cert.GateProjIdeal.τ) (Cert.GateProjIdeal.main (F := Ideal))) ⟨m, fun _ => 0, g⟩ (fun r => ∀ c : Dev Cert.GateProjIdeal.nD,
          r.2.mem ((c.tc : Thread Cert.GateProjIdeal.nD Cert.GateProjIdeal.τ).loc Cert.GateProjIdeal.main_v1) = v0 c
          ∧ r.2.mem ((c.tc : Thread Cert.GateProjIdeal.nD Cert.GateProjIdeal.τ).loc Cert.GateProjIdeal.main_arg0) = m ((c.tc : Thread Cert.GateProjIdeal.nD Cert.GateProjIdeal.τ).loc Cert.GateProjIdeal.main_arg0)
          ∧ r.2.mem ((c.tc : Thread Cert.GateProjIdeal.nD Cert.GateProjIdeal.τ).loc Cert.GateProjIdeal.main_arg1) = m ((c.tc : Thread Cert.GateProjIdeal.nD Cert.GateProjIdeal.τ).loc Cert.GateProjIdeal.main_arg1))
      ∧ θ_run (Cert.GateProjRefIdeal.defs (F := Ideal)) (onTc (τ := Cert.GateProjRefIdeal.τ) (Cert.GateProjRefIdeal.main (F := Ideal))) ⟨m', fun _ => 0, g'⟩ (fun r => ∀ c : Dev Cert.GateProjRefIdeal.nD,
          r.2.mem ((c.tc : Thread Cert.GateProjRefIdeal.nD Cert.GateProjRefIdeal.τ).loc Cert.GateProjRefIdeal.main_v1) = v0 c
          ∧ r.2.mem ((c.tc : Thread Cert.GateProjRefIdeal.nD Cert.GateProjRefIdeal.τ).loc Cert.GateProjRefIdeal.main_arg0) = m' ((c.tc : Thread Cert.GateProjRefIdeal.nD Cert.GateProjRefIdeal.τ).loc Cert.GateProjRefIdeal.main_arg0)
          ∧ r.2.mem ((c.tc : Thread Cert.GateProjRefIdeal.nD Cert.GateProjRefIdeal.τ).loc Cert.GateProjRefIdeal.main_arg1) = m' ((c.tc : Thread Cert.GateProjRefIdeal.nD Cert.GateProjRefIdeal.τ).loc Cert.GateProjRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v64) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)) →
    ∃ (v0 : (c : Dev Cert.FfnBIdeal.nD) → Buf (Elt Ideal) ((c.tc : Thread Cert.FfnBIdeal.nD Cert.FfnBIdeal.τ).loc Cert.FfnBIdeal.main_v5)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v5) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v39) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5))

def preserves_FfnC_FfnCIdeal : Prop :=
  True

def algebraic_FfnCIdeal_FfnCRefIdeal [hFfnCIdeal : Cert.FfnCIdeal.Facts] [hFfnCRefIdeal : Cert.FfnCRefIdeal.Facts] : Prop :=
  ∀ (m : (ℓ : Loc Cert.FfnCIdeal.nD Cert.FfnCIdeal.τ Cert.FfnCIdeal.sig) → Buf (Elt Ideal) ℓ) (g : Dev Cert.FfnCIdeal.nD → PrngReg)
    (m' : (ℓ : Loc Cert.FfnCRefIdeal.nD Cert.FfnCRefIdeal.τ Cert.FfnCRefIdeal.sig) → Buf (Elt Ideal) ℓ) (g' : Dev Cert.FfnCRefIdeal.nD → PrngReg), Pre_FfnCIdeal m →
    (∀ c : Dev Cert.FfnCIdeal.nD,
      m' ((c.tc : Thread Cert.FfnCRefIdeal.nD Cert.FfnCRefIdeal.τ).loc Cert.FfnCRefIdeal.main_arg0) = m ((c.tc : Thread Cert.FfnCIdeal.nD Cert.FfnCIdeal.τ).loc Cert.FfnCIdeal.main_arg0)
      ∧ m' ((c.tc : Thread Cert.FfnCRefIdeal.nD Cert.FfnCRefIdeal.τ).loc Cert.FfnCRefIdeal.main_arg1) = m ((c.tc : Thread Cert.FfnCIdeal.nD Cert.FfnCIdeal.τ).loc Cert.FfnCIdeal.main_arg1)
      ∧ m' ((c.tc : Thread Cert.FfnCRefIdeal.nD Cert.FfnCRefIdeal.τ).loc Cert.FfnCRefIdeal.main_arg2) = m ((c.tc : Thread Cert.FfnCIdeal.nD Cert.FfnCIdeal.τ).loc Cert.FfnCIdeal.main_arg2)
      ∧ m' ((c.tc : Thread Cert.FfnCRefIdeal.nD Cert.FfnCRefIdeal.τ).loc Cert.FfnCRefIdeal.main_arg3) = m ((c.tc : Thread Cert.FfnCIdeal.nD Cert.FfnCIdeal.τ).loc Cert.FfnCIdeal.main_arg3)
      ∧ m' ((c.tc : Thread Cert.FfnCRefIdeal.nD Cert.FfnCRefIdeal.τ).loc Cert.FfnCRefIdeal.main_arg4) = m ((c.tc : Thread Cert.FfnCIdeal.nD Cert.FfnCIdeal.τ).loc Cert.FfnCIdeal.main_arg4)
      ∧ m' ((c.tc : Thread Cert.FfnCRefIdeal.nD Cert.FfnCRefIdeal.τ).loc Cert.FfnCRefIdeal.main_arg5) = m ((c.tc : Thread Cert.FfnCIdeal.nD Cert.FfnCIdeal.τ).loc Cert.FfnCIdeal.main_arg5)) →
    ∃ (v0 : (c : Dev Cert.FfnCIdeal.nD) → Buf (Elt Ideal) ((c.tc : Thread Cert.FfnCIdeal.nD Cert.FfnCIdeal.τ).loc Cert.FfnCIdeal.main_v5)),
      θ_run (Cert.FfnCIdeal.defs (F := Ideal)) (onTc (τ := Cert.FfnCIdeal.τ) (Cert.FfnCIdeal.main (F := Ideal))) ⟨m, fun _ => 0, g⟩ (fun r => ∀ c : Dev Cert.FfnCIdeal.nD,
          r.2.mem ((c.tc : Thread Cert.FfnCIdeal.nD Cert.FfnCIdeal.τ).loc Cert.FfnCIdeal.main_v5) = v0 c
          ∧ r.2.mem ((c.tc : Thread Cert.FfnCIdeal.nD Cert.FfnCIdeal.τ).loc Cert.FfnCIdeal.main_arg0) = m ((c.tc : Thread Cert.FfnCIdeal.nD Cert.FfnCIdeal.τ).loc Cert.FfnCIdeal.main_arg0)
          ∧ r.2.mem ((c.tc : Thread Cert.FfnCIdeal.nD Cert.FfnCIdeal.τ).loc Cert.FfnCIdeal.main_arg1) = m ((c.tc : Thread Cert.FfnCIdeal.nD Cert.FfnCIdeal.τ).loc Cert.FfnCIdeal.main_arg1)
          ∧ r.2.mem ((c.tc : Thread Cert.FfnCIdeal.nD Cert.FfnCIdeal.τ).loc Cert.FfnCIdeal.main_arg2) = m ((c.tc : Thread Cert.FfnCIdeal.nD Cert.FfnCIdeal.τ).loc Cert.FfnCIdeal.main_arg2)
          ∧ r.2.mem ((c.tc : Thread Cert.FfnCIdeal.nD Cert.FfnCIdeal.τ).loc Cert.FfnCIdeal.main_arg3) = m ((c.tc : Thread Cert.FfnCIdeal.nD Cert.FfnCIdeal.τ).loc Cert.FfnCIdeal.main_arg3)
          ∧ r.2.mem ((c.tc : Thread Cert.FfnCIdeal.nD Cert.FfnCIdeal.τ).loc Cert.FfnCIdeal.main_arg4) = m ((c.tc : Thread Cert.FfnCIdeal.nD Cert.FfnCIdeal.τ).loc Cert.FfnCIdeal.main_arg4)
          ∧ r.2.mem ((c.tc : Thread Cert.FfnCIdeal.nD Cert.FfnCIdeal.τ).loc Cert.FfnCIdeal.main_arg5) = m ((c.tc : Thread Cert.FfnCIdeal.nD Cert.FfnCIdeal.τ).loc Cert.FfnCIdeal.main_arg5))
      ∧ θ_run (Cert.FfnCRefIdeal.defs (F := Ideal)) (onTc (τ := Cert.FfnCRefIdeal.τ) (Cert.FfnCRefIdeal.main (F := Ideal))) ⟨m', fun _ => 0, g'⟩ (fun r => ∀ c : Dev Cert.FfnCRefIdeal.nD,
          r.2.mem ((c.tc : Thread Cert.FfnCRefIdeal.nD Cert.FfnCRefIdeal.τ).loc Cert.FfnCRefIdeal.main_v39) = v0 c
          ∧ r.2.mem ((c.tc : Thread Cert.FfnCRefIdeal.nD Cert.FfnCRefIdeal.τ).loc Cert.FfnCRefIdeal.main_arg0) = m' ((c.tc : Thread Cert.FfnCRefIdeal.nD Cert.FfnCRefIdeal.τ).loc Cert.FfnCRefIdeal.main_arg0)
          ∧ r.2.mem ((c.tc : Thread Cert.FfnCRefIdeal.nD Cert.FfnCRefIdeal.τ).loc Cert.FfnCRefIdeal.main_arg1) = m' ((c.tc : Thread Cert.FfnCRefIdeal.nD Cert.FfnCRefIdeal.τ).loc Cert.FfnCRefIdeal.main_arg1)
          ∧ r.2.mem ((c.tc : Thread Cert.FfnCRefIdeal.nD Cert.FfnCRefIdeal.τ).loc Cert.FfnCRefIdeal.main_arg2) = m' ((c.tc : Thread Cert.FfnCRefIdeal.nD Cert.FfnCRefIdeal.τ).loc Cert.FfnCRefIdeal.main_arg2)
          ∧ r.2.mem ((c.tc : Thread Cert.FfnCRefIdeal.nD Cert.FfnCRefIdeal.τ).loc Cert.FfnCRefIdeal.main_arg3) = m' ((c.tc : Thread Cert.FfnCRefIdeal.nD Cert.FfnCRefIdeal.τ).loc Cert.FfnCRefIdeal.main_arg3)
          ∧ r.2.mem ((c.tc : Thread Cert.FfnCRefIdeal.nD Cert.FfnCRefIdeal.τ).loc Cert.FfnCRefIdeal.main_arg4) = m' ((c.tc : Thread Cert.FfnCRefIdeal.nD Cert.FfnCRefIdeal.τ).loc Cert.FfnCRefIdeal.main_arg4)
          ∧ r.2.mem ((c.tc : Thread Cert.FfnCRefIdeal.nD Cert.FfnCRefIdeal.τ).loc Cert.FfnCRefIdeal.main_arg5) = m' ((c.tc : Thread Cert.FfnCRefIdeal.nD Cert.FfnCRefIdeal.τ).loc Cert.FfnCRefIdeal.main_arg5))

def preserves_FfnD_FfnDIdeal : Prop :=
  True

def algebraic_FfnDIdeal_FfnDRefIdeal [hFfnDIdeal : Cert.FfnDIdeal.Facts] [hFfnDRefIdeal : Cert.FfnDRefIdeal.Facts] : Prop :=
  ∀ (m : (ℓ : Loc Cert.FfnDIdeal.nD Cert.FfnDIdeal.τ Cert.FfnDIdeal.sig) → Buf (Elt Ideal) ℓ) (g : Dev Cert.FfnDIdeal.nD → PrngReg)
    (m' : (ℓ : Loc Cert.FfnDRefIdeal.nD Cert.FfnDRefIdeal.τ Cert.FfnDRefIdeal.sig) → Buf (Elt Ideal) ℓ) (g' : Dev Cert.FfnDRefIdeal.nD → PrngReg), Pre_FfnDIdeal m →
    (∀ c : Dev Cert.FfnDIdeal.nD,
      m' ((c.tc : Thread Cert.FfnDRefIdeal.nD Cert.FfnDRefIdeal.τ).loc Cert.FfnDRefIdeal.main_arg0) = m ((c.tc : Thread Cert.FfnDIdeal.nD Cert.FfnDIdeal.τ).loc Cert.FfnDIdeal.main_arg0)
      ∧ m' ((c.tc : Thread Cert.FfnDRefIdeal.nD Cert.FfnDRefIdeal.τ).loc Cert.FfnDRefIdeal.main_arg1) = m ((c.tc : Thread Cert.FfnDIdeal.nD Cert.FfnDIdeal.τ).loc Cert.FfnDIdeal.main_arg1)
      ∧ m' ((c.tc : Thread Cert.FfnDRefIdeal.nD Cert.FfnDRefIdeal.τ).loc Cert.FfnDRefIdeal.main_arg2) = m ((c.tc : Thread Cert.FfnDIdeal.nD Cert.FfnDIdeal.τ).loc Cert.FfnDIdeal.main_arg2)
      ∧ m' ((c.tc : Thread Cert.FfnDRefIdeal.nD Cert.FfnDRefIdeal.τ).loc Cert.FfnDRefIdeal.main_arg3) = m ((c.tc : Thread Cert.FfnDIdeal.nD Cert.FfnDIdeal.τ).loc Cert.FfnDIdeal.main_arg3)
      ∧ m' ((c.tc : Thread Cert.FfnDRefIdeal.nD Cert.FfnDRefIdeal.τ).loc Cert.FfnDRefIdeal.main_arg4) = m ((c.tc : Thread Cert.FfnDIdeal.nD Cert.FfnDIdeal.τ).loc Cert.FfnDIdeal.main_arg4)
      ∧ m' ((c.tc : Thread Cert.FfnDRefIdeal.nD Cert.FfnDRefIdeal.τ).loc Cert.FfnDRefIdeal.main_arg5) = m ((c.tc : Thread Cert.FfnDIdeal.nD Cert.FfnDIdeal.τ).loc Cert.FfnDIdeal.main_arg5)) →
    ∃ (v0 : (c : Dev Cert.FfnDIdeal.nD) → Buf (Elt Ideal) ((c.tc : Thread Cert.FfnDIdeal.nD Cert.FfnDIdeal.τ).loc Cert.FfnDIdeal.main_v5)),
      θ_run (Cert.FfnDIdeal.defs (F := Ideal)) (onTc (τ := Cert.FfnDIdeal.τ) (Cert.FfnDIdeal.main (F := Ideal))) ⟨m, fun _ => 0, g⟩ (fun r => ∀ c : Dev Cert.FfnDIdeal.nD,
          r.2.mem ((c.tc : Thread Cert.FfnDIdeal.nD Cert.FfnDIdeal.τ).loc Cert.FfnDIdeal.main_v5) = v0 c
          ∧ r.2.mem ((c.tc : Thread Cert.FfnDIdeal.nD Cert.FfnDIdeal.τ).loc Cert.FfnDIdeal.main_arg0) = m ((c.tc : Thread Cert.FfnDIdeal.nD Cert.FfnDIdeal.τ).loc Cert.FfnDIdeal.main_arg0)
          ∧ r.2.mem ((c.tc : Thread Cert.FfnDIdeal.nD Cert.FfnDIdeal.τ).loc Cert.FfnDIdeal.main_arg1) = m ((c.tc : Thread Cert.FfnDIdeal.nD Cert.FfnDIdeal.τ).loc Cert.FfnDIdeal.main_arg1)
          ∧ r.2.mem ((c.tc : Thread Cert.FfnDIdeal.nD Cert.FfnDIdeal.τ).loc Cert.FfnDIdeal.main_arg2) = m ((c.tc : Thread Cert.FfnDIdeal.nD Cert.FfnDIdeal.τ).loc Cert.FfnDIdeal.main_arg2)
          ∧ r.2.mem ((c.tc : Thread Cert.FfnDIdeal.nD Cert.FfnDIdeal.τ).loc Cert.FfnDIdeal.main_arg3) = m ((c.tc : Thread Cert.FfnDIdeal.nD Cert.FfnDIdeal.τ).loc Cert.FfnDIdeal.main_arg3)
          ∧ r.2.mem ((c.tc : Thread Cert.FfnDIdeal.nD Cert.FfnDIdeal.τ).loc Cert.FfnDIdeal.main_arg4) = m ((c.tc : Thread Cert.FfnDIdeal.nD Cert.FfnDIdeal.τ).loc Cert.FfnDIdeal.main_arg4)
          ∧ r.2.mem ((c.tc : Thread Cert.FfnDIdeal.nD Cert.FfnDIdeal.τ).loc Cert.FfnDIdeal.main_arg5) = m ((c.tc : Thread Cert.FfnDIdeal.nD Cert.FfnDIdeal.τ).loc Cert.FfnDIdeal.main_arg5))
      ∧ θ_run (Cert.FfnDRefIdeal.defs (F := Ideal)) (onTc (τ := Cert.FfnDRefIdeal.τ) (Cert.FfnDRefIdeal.main (F := Ideal))) ⟨m', fun _ => 0, g'⟩ (fun r => ∀ c : Dev Cert.FfnDRefIdeal.nD,
          r.2.mem ((c.tc : Thread Cert.FfnDRefIdeal.nD Cert.FfnDRefIdeal.τ).loc Cert.FfnDRefIdeal.main_v39) = v0 c
          ∧ r.2.mem ((c.tc : Thread Cert.FfnDRefIdeal.nD Cert.FfnDRefIdeal.τ).loc Cert.FfnDRefIdeal.main_arg0) = m' ((c.tc : Thread Cert.FfnDRefIdeal.nD Cert.FfnDRefIdeal.τ).loc Cert.FfnDRefIdeal.main_arg0)
          ∧ r.2.mem ((c.tc : Thread Cert.FfnDRefIdeal.nD Cert.FfnDRefIdeal.τ).loc Cert.FfnDRefIdeal.main_arg1) = m' ((c.tc : Thread Cert.FfnDRefIdeal.nD Cert.FfnDRefIdeal.τ).loc Cert.FfnDRefIdeal.main_arg1)
          ∧ r.2.mem ((c.tc : Thread Cert.FfnDRefIdeal.nD Cert.FfnDRefIdeal.τ).loc Cert.FfnDRefIdeal.main_arg2) = m' ((c.tc : Thread Cert.FfnDRefIdeal.nD Cert.FfnDRefIdeal.τ).loc Cert.FfnDRefIdeal.main_arg2)
          ∧ r.2.mem ((c.tc : Thread Cert.FfnDRefIdeal.nD Cert.FfnDRefIdeal.τ).loc Cert.FfnDRefIdeal.main_arg3) = m' ((c.tc : Thread Cert.FfnDRefIdeal.nD Cert.FfnDRefIdeal.τ).loc Cert.FfnDRefIdeal.main_arg3)
          ∧ r.2.mem ((c.tc : Thread Cert.FfnDRefIdeal.nD Cert.FfnDRefIdeal.τ).loc Cert.FfnDRefIdeal.main_arg4) = m' ((c.tc : Thread Cert.FfnDRefIdeal.nD Cert.FfnDRefIdeal.τ).loc Cert.FfnDRefIdeal.main_arg4)
          ∧ r.2.mem ((c.tc : Thread Cert.FfnDRefIdeal.nD Cert.FfnDRefIdeal.τ).loc Cert.FfnDRefIdeal.main_arg5) = m' ((c.tc : Thread Cert.FfnDRefIdeal.nD Cert.FfnDRefIdeal.τ).loc Cert.FfnDRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAttProj : Cert.AttProj.Facts) (hAttProjIdeal : Cert.AttProjIdeal.Facts) (hAttProjRefIdeal : Cert.AttProjRefIdeal.Facts) (hQkvProj : Cert.QkvProj.Facts) (hQkvProjIdeal : Cert.QkvProjIdeal.Facts) (hQkvProjRefIdeal : Cert.QkvProjRefIdeal.Facts) (hGateProj : Cert.GateProj.Facts) (hGateProjIdeal : Cert.GateProjIdeal.Facts) (hGateProjRefIdeal : Cert.GateProjRefIdeal.Facts) (hPrep : Cert.Prep.Facts) (hPrepIdeal : Cert.PrepIdeal.Facts) (hPrepRefIdeal : Cert.PrepRefIdeal.Facts) (hFfnB : Cert.FfnB.Facts) (hFfnBIdeal : Cert.FfnBIdeal.Facts) (hFfnBRefIdeal : Cert.FfnBRefIdeal.Facts) (hFfnC : Cert.FfnC.Facts) (hFfnCIdeal : Cert.FfnCIdeal.Facts) (hFfnCRefIdeal : Cert.FfnCRefIdeal.Facts) (hFfnD : Cert.FfnD.Facts) (hFfnDIdeal : Cert.FfnDIdeal.Facts) (hFfnDRefIdeal : Cert.FfnDRefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttProj (hAttProj := hAttProj)
    ∧ quiescent_AttProjIdeal (hAttProjIdeal := hAttProjIdeal)
    ∧ quiescent_AttProjRefIdeal (hAttProjRefIdeal := hAttProjRefIdeal)
    ∧ quiescent_QkvProj (hQkvProj := hQkvProj)
    ∧ quiescent_QkvProjIdeal (hQkvProjIdeal := hQkvProjIdeal)
    ∧ quiescent_QkvProjRefIdeal (hQkvProjRefIdeal := hQkvProjRefIdeal)
    ∧ quiescent_GateProj (hGateProj := hGateProj)
    ∧ quiescent_GateProjIdeal (hGateProjIdeal := hGateProjIdeal)
    ∧ quiescent_GateProjRefIdeal (hGateProjRefIdeal := hGateProjRefIdeal)
    ∧ quiescent_Prep (hPrep := hPrep)
    ∧ quiescent_PrepIdeal (hPrepIdeal := hPrepIdeal)
    ∧ quiescent_PrepRefIdeal (hPrepRefIdeal := hPrepRefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_FfnC (hFfnC := hFfnC)
    ∧ quiescent_FfnCIdeal (hFfnCIdeal := hFfnCIdeal)
    ∧ quiescent_FfnCRefIdeal (hFfnCRefIdeal := hFfnCRefIdeal)
    ∧ quiescent_FfnD (hFfnD := hFfnD)
    ∧ quiescent_FfnDIdeal (hFfnDIdeal := hFfnDIdeal)
    ∧ quiescent_FfnDRefIdeal (hFfnDRefIdeal := hFfnDRefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AttProj_AttProjIdeal
    ∧ algebraic_AttProjIdeal_AttProjRefIdeal (hAttProjIdeal := hAttProjIdeal) (hAttProjRefIdeal := hAttProjRefIdeal)
    ∧ preserves_QkvProj_QkvProjIdeal
    ∧ algebraic_QkvProjIdeal_QkvProjRefIdeal (hQkvProjIdeal := hQkvProjIdeal) (hQkvProjRefIdeal := hQkvProjRefIdeal)
    ∧ preserves_GateProj_GateProjIdeal
    ∧ algebraic_GateProjIdeal_GateProjRefIdeal (hGateProjIdeal := hGateProjIdeal) (hGateProjRefIdeal := hGateProjRefIdeal)
    ∧ preserves_Prep_PrepIdeal
    ∧ algebraic_PrepIdeal_PrepRefIdeal (hPrepIdeal := hPrepIdeal) (hPrepRefIdeal := hPrepRefIdeal)
    ∧ preserves_FfnB_FfnBIdeal
    ∧ algebraic_FfnBIdeal_FfnBRefIdeal (hFfnBIdeal := hFfnBIdeal) (hFfnBRefIdeal := hFfnBRefIdeal)
    ∧ preserves_FfnC_FfnCIdeal
    ∧ algebraic_FfnCIdeal_FfnCRefIdeal (hFfnCIdeal := hFfnCIdeal) (hFfnCRefIdeal := hFfnCRefIdeal)
    ∧ preserves_FfnD_FfnDIdeal
    ∧ algebraic_FfnDIdeal_FfnDRefIdeal (hFfnDIdeal := hFfnDIdeal) (hFfnDRefIdeal := hFfnDRefIdeal)
-- ==== Kernel.lean ====
abbrev S16384x8192 : Shape := ⟨2, ![16384, 8192]⟩
abbrev S2048 : Shape := ⟨1, ![2048]⟩
abbrev S8192 : Shape := ⟨1, ![8192]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x64x2 : Shape := ⟨3, ![8192, 64, 2]⟩
abbrev S8192x128 : Shape := ⟨2, ![8192, 128]⟩
abbrev S8192x64x1 : Shape := ⟨3, ![8192, 64, 1]⟩
abbrev S16 : Shape := ⟨1, ![16]⟩
abbrev S16x1x1 : Shape := ⟨3, ![16, 1, 1]⟩
abbrev S16x1x128 : Shape := ⟨3, ![16, 1, 128]⟩
abbrev S1x2048 : Shape := ⟨2, ![1, 2048]⟩
abbrev S16384x2048 : Shape := ⟨2, ![16384, 2048]⟩
abbrev S1024x128 : Shape := ⟨2, ![1024, 128]⟩
abbrev S1x1x128 : Shape := ⟨3, ![1, 1, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩

abbrev nBuf : Space → Nat
  | .hbm => 60
  | .vmem => 19
  | .smem => 0
  | _ => 0

abbrev bufTy : (tb : Table) → Fin (tcTables nBuf tb) → BufTy
  | .hbm, ⟨0, _⟩ => ⟨S16384x8192, .f32⟩
  | .hbm, ⟨1, _⟩ => ⟨S2048, .f32⟩
  | .hbm, ⟨2, _⟩ => ⟨S8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S63, .f32⟩
  | .hbm, ⟨11, _⟩ => ⟨S_, .f32⟩
  | .hbm, ⟨12, _⟩ => ⟨S63, .f32⟩
  | .hbm, ⟨13, _⟩ => ⟨S63, .f32⟩
  | .hbm, ⟨14, _⟩ => ⟨S1, .f32⟩
  | .hbm, ⟨15, _⟩ => ⟨S_, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S63, .f32⟩
  | .hbm, ⟨20, _⟩ => ⟨S1, .f32⟩
  | .hbm, ⟨21, _⟩ => ⟨S63, .f32⟩
  | .hbm, ⟨22, _⟩ => ⟨S63, .f32⟩
  | .hbm, ⟨23, _⟩ => ⟨S63, .f32⟩
  | .hbm, ⟨24, _⟩ => ⟨S1, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S8192x1, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S8192x64, .f32⟩
  | .hbm, ⟨39, _⟩ => ⟨S8192x64x2, .f32⟩
  | .hbm, ⟨40, _⟩ => ⟨S8192x128, .f32⟩
  | .hbm, ⟨41, _⟩ => ⟨S8192x64, .f32⟩
  | .hbm, ⟨42, _⟩ => ⟨S8192x64x1, .f32⟩
  | .hbm, ⟨43, _⟩ => ⟨S8192x64x1, .f32⟩
  | .hbm, ⟨44, _⟩ => ⟨S8192x64x2, .f32⟩
  | .hbm, ⟨45, _⟩ => ⟨S8192x128, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S16x1x1, .f32⟩
  | .hbm, ⟨57, _⟩ => ⟨S16x1x128, .f32⟩
  | .hbm, ⟨58, _⟩ => ⟨S1x2048, .f32⟩
  | .hbm, ⟨59, _⟩ => ⟨S16384x2048, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1x128, .f32⟩
  | .local _ .vmem, ⟨13, _⟩ => ⟨S1x1x128, .f32⟩
  | .local _ .vmem, ⟨14, _⟩ => ⟨S1x128, .f32⟩
  | .local _ .vmem, ⟨15, _⟩ => ⟨S1x128, .f32⟩
  | .local _ .vmem, ⟨16, _⟩ => ⟨S1024x128, .bf16⟩
  | .local _ .vmem, ⟨17, _⟩ => ⟨S1024x128, .bf16⟩
  | .local _ .vmem, ⟨18, _⟩ => ⟨S128x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_cst_2 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x8192 : Shape := ⟨2, ![16384, 8192]⟩
abbrev S2048 : Shape := ⟨1, ![2048]⟩
abbrev S2x8192x8192 : Shape := ⟨3, ![2, 8192, 8192]⟩
abbrev S2x8192x2048 : Shape := ⟨3, ![2, 8192, 2048]⟩
abbrev S8192 : Shape := ⟨1, ![8192]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S2x8192x16x128 : Shape := ⟨4, ![2, 8192, 16, 128]⟩
abbrev S2x16x8192x128 : Shape := ⟨4, ![2, 16, 8192, 128]⟩
abbrev S2x16x8192x64 : Shape := ⟨4, ![2, 16, 8192, 64]⟩
abbrev S1x1x8192x64 : Shape := ⟨4, ![1, 1, 8192, 64]⟩
abbrev S2x16x8192x64x1 : Shape := ⟨5, ![2, 16, 8192, 64, 1]⟩
abbrev S2x16x8192x64x2 : Shape := ⟨5, ![2, 16, 8192, 64, 2]⟩
abbrev S16 : Shape := ⟨1, ![16]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x1x1 : Shape := ⟨3, ![16, 1, 1]⟩
abbrev S1x128x128 : Shape := ⟨3, ![1, 128, 128]⟩
abbrev S16x128x128 : Shape := ⟨3, ![16, 128, 128]⟩
abbrev S2x16x64x128x128 : Shape := ⟨5, ![2, 16, 64, 128, 128]⟩
abbrev S16x1x128x128 : Shape := ⟨4, ![16, 1, 128, 128]⟩
abbrev S1x16x1x128x128 : Shape := ⟨5, ![1, 16, 1, 128, 128]⟩
abbrev S16x1 : Shape := ⟨2, ![16, 1]⟩
abbrev S16x128 : Shape := ⟨2, ![16, 128]⟩
abbrev S16x1x128x1 : Shape := ⟨4, ![16, 1, 128, 1]⟩
abbrev S1x16x1x128x1 : Shape := ⟨5, ![1, 16, 1, 128, 1]⟩
abbrev S2x16x128x128 : Shape := ⟨4, ![2, 16, 128, 128]⟩
abbrev S64x2x16x128x128 : Shape := ⟨5, ![64, 2, 16, 128, 128]⟩
abbrev S1x2x16x128x128 : Shape := ⟨5, ![1, 2, 16, 128, 128]⟩
abbrev S1x16x1x1 : Shape := ⟨4, ![1, 16, 1, 1]⟩
abbrev S2x16x8192 : Shape := ⟨3, ![2, 16, 8192]⟩
abbrev S2x16x8192x1 : Shape := ⟨4, ![2, 16, 8192, 1]⟩
abbrev S16x1x128 : Shape := ⟨3, ![16, 1, 128]⟩
abbrev S1x16x1x128 : Shape := ⟨4, ![1, 16, 1, 128]⟩
abbrev S16384x2048 : Shape := ⟨2, ![16384, 2048]⟩

abbrev nBuf : Space → Nat
  | .hbm => 243
  | .vmem => 0
  | .smem => 0
  | _ => 0

abbrev hbmTy0_0 (i : Nat) : BufTy := match i % 128 with
  | 0 => ⟨S16384x8192, .f32⟩
  | 1 => ⟨S2048, .f32⟩
  | 2 => ⟨S2x8192x8192, .f32⟩
  | 3 => ⟨S2x8192x2048, .f32⟩
  | 4 => ⟨S2x8192x2048, .f32⟩
  | 5 => ⟨S2x8192x2048, .f32⟩
  | 6 => ⟨S2x8192x2048, .f32⟩
  | 7 => ⟨S8192, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S63, .f32⟩
  | 16 => ⟨S_, .f32⟩
  | 17 => ⟨S63, .f32⟩
  | 18 => ⟨S63, .f32⟩
  | 19 => ⟨S1, .f32⟩
  | 20 => ⟨S_, .f32⟩
  | 21 => ⟨S63, .f32⟩
  | 22 => ⟨S63, .f32⟩
  | 23 => ⟨S63, .f32⟩
  | 24 => ⟨S63, .f32⟩
  | 25 => ⟨S1, .f32⟩
  | 26 => ⟨S63, .f32⟩
  | 27 => ⟨S63, .f32⟩
  | 28 => ⟨S63, .f32⟩
  | 29 => ⟨S1, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S8192x1, .f32⟩
  | 38 => ⟨S1x64, .f32⟩
  | 39 => ⟨S8192x64, .f32⟩
  | 40 => ⟨S8192x64, .f32⟩
  | 41 => ⟨S8192x64, .f32⟩
  | 42 => ⟨S8192x64, .f32⟩
  | 43 => ⟨S8192x64, .f32⟩
  | 44 => ⟨S2x8192x16x128, .f32⟩
  | 45 => ⟨S2x16x8192x128, .f32⟩
  | 46 => ⟨S2x16x8192x64, .f32⟩
  | 47 => ⟨S2x16x8192x64, .f32⟩
  | 48 => ⟨S1x1x8192x64, .f32⟩
  | 49 => ⟨S2x16x8192x64, .f32⟩
  | 50 => ⟨S2x16x8192x64, .f32⟩
  | 51 => ⟨S1x1x8192x64, .f32⟩
  | 52 => ⟨S2x16x8192x64, .f32⟩
  | 53 => ⟨S2x16x8192x64, .f32⟩
  | 54 => ⟨S2x16x8192x64, .f32⟩
  | 55 => ⟨S1x1x8192x64, .f32⟩
  | 56 => ⟨S2x16x8192x64, .f32⟩
  | 57 => ⟨S2x16x8192x64, .f32⟩
  | 58 => ⟨S1x1x8192x64, .f32⟩
  | 59 => ⟨S2x16x8192x64, .f32⟩
  | 60 => ⟨S2x16x8192x64, .f32⟩
  | 61 => ⟨S2x16x8192x64, .f32⟩
  | 62 => ⟨S2x16x8192x64x1, .f32⟩
  | 63 => ⟨S2x16x8192x64x1, .f32⟩
  | 64 => ⟨S2x16x8192x64x2, .f32⟩
  | 65 => ⟨S2x16x8192x128, .f32⟩
  | 66 => ⟨S2x8192x16x128, .f32⟩
  | 67 => ⟨S2x16x8192x128, .f32⟩
  | 68 => ⟨S2x16x8192x64, .f32⟩
  | 69 => ⟨S2x16x8192x64, .f32⟩
  | 70 => ⟨S1x1x8192x64, .f32⟩
  | 71 => ⟨S2x16x8192x64, .f32⟩
  | 72 => ⟨S2x16x8192x64, .f32⟩
  | 73 => ⟨S1x1x8192x64, .f32⟩
  | 74 => ⟨S2x16x8192x64, .f32⟩
  | 75 => ⟨S2x16x8192x64, .f32⟩
  | 76 => ⟨S2x16x8192x64, .f32⟩
  | 77 => ⟨S1x1x8192x64, .f32⟩
  | 78 => ⟨S2x16x8192x64, .f32⟩
  | 79 => ⟨S2x16x8192x64, .f32⟩
  | 80 => ⟨S1x1x8192x64, .f32⟩
  | 81 => ⟨S2x16x8192x64, .f32⟩
  | 82 => ⟨S2x16x8192x64, .f32⟩
  | 83 => ⟨S2x16x8192x64, .f32⟩
  | 84 => ⟨S2x16x8192x64x1, .f32⟩
  | 85 => ⟨S2x16x8192x64x1, .f32⟩
  | 86 => ⟨S2x16x8192x64x2, .f32⟩
  | 87 => ⟨S2x16x8192x128, .f32⟩
  | 88 => ⟨S_, .f32⟩
  | 89 => ⟨S2x16x8192x128, .f32⟩
  | 90 => ⟨S2x16x8192x128, .f32⟩
  | 91 => ⟨S2x8192x16x128, .f32⟩
  | 92 => ⟨S2x16x8192x128, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S16, .f32⟩
  | 101 => ⟨S16, .f32⟩
  | 102 => ⟨S16, .f32⟩
  | 103 => ⟨S128, .f32⟩
  | 104 => ⟨S128x1, .f32⟩
  | 105 => ⟨S1x128, .f32⟩
  | 106 => ⟨S128x128, .f32⟩
  | 107 => ⟨S128x128, .f32⟩
  | 108 => ⟨S128x128, .f32⟩
  | 109 => ⟨S_, .f32⟩
  | 110 => ⟨S128x128, .f32⟩
  | 111 => ⟨S128x128, .i1⟩
  | 112 => ⟨S16x1x1, .f32⟩
  | 113 => ⟨S_, .f32⟩
  | 114 => ⟨S128x128, .f32⟩
  | 115 => ⟨S128x128, .f32⟩
  | 116 => ⟨S1x128x128, .f32⟩
  | 117 => ⟨S16x128x128, .f32⟩
  | 118 => ⟨S16x128x128, .f32⟩
  | 119 => ⟨S16x128x128, .f32⟩
  | 120 => ⟨S16x128x128, .f32⟩
  | 121 => ⟨S_, .f32⟩
  | 122 => ⟨S_, .f32⟩
  | 123 => ⟨S16x128x128, .i1⟩
  | 124 => ⟨S16x128x128, .f32⟩
  | 125 => ⟨S16x128x128, .f32⟩
  | 126 => ⟨S2x16x64x128x128, .f32⟩
  | 127 => ⟨S2x16x64x128x128, .f32⟩
  | _ => ⟨S16384x8192, .f32⟩

abbrev hbmTy0_1 (i : Nat) : BufTy := match i % 128 with
  | 0 => ⟨S2x16x64x128x128, .f32⟩
  | 1 => ⟨S2x16x64x128x128, .f32⟩
  | 2 => ⟨S16x1x128x128, .f32⟩
  | 3 => ⟨S1x16x1x128x128, .f32⟩
  | 4 => ⟨S2x16x64x128x128, .f32⟩
  | 5 => ⟨S2x16x64x128x128, .f32⟩
  | 6 => ⟨S2x16x64x128x128, .f32⟩
  | 7 => ⟨S16x1, .f32⟩
  | 8 => ⟨S_, .f32⟩
  | 9 => ⟨S128, .f32⟩
  | 10 => ⟨S128, .f32⟩
  | 11 => ⟨S1x128, .f32⟩
  | 12 => ⟨S16x128, .f32⟩
  | 13 => ⟨S16x128, .f32⟩
  | 14 => ⟨S16x128, .f32⟩
  | 15 => ⟨S16x128, .f32⟩
  | 16 => ⟨S16x1, .f32⟩
  | 17 => ⟨S_, .f32⟩
  | 18 => ⟨S128, .f32⟩
  | 19 => ⟨S128, .f32⟩
  | 20 => ⟨S1x128, .f32⟩
  | 21 => ⟨S16x128, .f32⟩
  | 22 => ⟨S16x128, .f32⟩
  | 23 => ⟨S16x128, .f32⟩
  | 24 => ⟨S16x128, .f32⟩
  | 25 => ⟨S16x1x128x1, .f32⟩
  | 26 => ⟨S1x16x1x128x1, .f32⟩
  | 27 => ⟨S2x16x64x128x128, .f32⟩
  | 28 => ⟨S2x16x64x128x128, .f32⟩
  | 29 => ⟨S2x16x64x128x128, .f32⟩
  | 30 => ⟨S_, .f32⟩
  | 31 => ⟨S16, .f32⟩
  | 32 => ⟨S16, .f32⟩
  | 33 => ⟨S16, .f32⟩
  | 34 => ⟨S16x1x1, .f32⟩
  | 35 => ⟨S_, .f32⟩
  | 36 => ⟨S2x16x128x128, .f32⟩
  | 37 => ⟨S64x2x16x128x128, .f32⟩
  | 38 => ⟨S_, .f32⟩
  | 39 => ⟨S64x2x16x128x128, .f32⟩
  | 40 => ⟨S_, .i32⟩
  | 41 => ⟨S64x2x16x128x128, .f32⟩
  | 42 => ⟨S16x1x1, .f32⟩
  | 43 => ⟨S_, .i32⟩
  | 44 => ⟨S2x16x128x128, .f32⟩
  | 45 => ⟨S64x2x16x128x128, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S1x2x16x128x128, .f32⟩
  | 53 => ⟨S2x16x128x128, .f32⟩
  | 54 => ⟨S1x16x1x1, .f32⟩
  | 55 => ⟨S2x16x128x128, .f32⟩
  | 56 => ⟨S2x16x128x128, .f32⟩
  | 57 => ⟨S2x16x128x128, .f32⟩
  | 58 => ⟨S1x2x16x128x128, .f32⟩
  | 59 => ⟨S_, .i32⟩
  | 60 => ⟨S_, .i32⟩
  | 61 => ⟨S_, .i32⟩
  | 62 => ⟨S_, .i32⟩
  | 63 => ⟨S64x2x16x128x128, .f32⟩
  | 64 => ⟨S_, .i32⟩
  | 65 => ⟨S_, .i32⟩
  | 66 => ⟨S2x16x64x128x128, .f32⟩
  | 67 => ⟨S2x16x64x128x128, .f32⟩
  | 68 => ⟨S16x1x128x1, .f32⟩
  | 69 => ⟨S1x16x1x128x1, .f32⟩
  | 70 => ⟨S2x16x64x128x128, .f32⟩
  | 71 => ⟨S2x16x64x128x128, .f32⟩
  | 72 => ⟨S2x16x64x128x128, .f32⟩
  | 73 => ⟨S2x16x8192x128, .f32⟩
  | 74 => ⟨S_, .f32⟩
  | 75 => ⟨S2x16x8192, .f32⟩
  | 76 => ⟨S2x16x8192x1, .f32⟩
  | 77 => ⟨S_, .f32⟩
  | 78 => ⟨S2x16x8192x1, .f32⟩
  | 79 => ⟨S2x16x8192x1, .f32⟩
  | 80 => ⟨S2x16x8192x128, .f32⟩
  | 81 => ⟨S2x16x8192x128, .f32⟩
  | 82 => ⟨S2x16x8192x128, .f32⟩
  | 83 => ⟨S_, .f32⟩
  | 84 => ⟨S2x16x8192, .f32⟩
  | 85 => ⟨S2x16x8192x1, .f32⟩
  | 86 => ⟨S_, .f32⟩
  | 87 => ⟨S2x16x8192x1, .f32⟩
  | 88 => ⟨S2x16x8192x1, .f32⟩
  | 89 => ⟨S2x16x8192x128, .f32⟩
  | 90 => ⟨S2x16x8192x128, .f32⟩
  | 91 => ⟨S_, .f32⟩
  | 92 => ⟨S2x16x8192x1, .f32⟩
  | 93 => ⟨S2x16x8192x1, .f32⟩
  | 94 => ⟨S2x16x8192x1, .f32⟩
  | 95 => ⟨S2x16x8192x128, .f32⟩
  | 96 => ⟨S2x16x8192x128, .f32⟩
  | 97 => ⟨S16x1x128, .f32⟩
  | 98 => ⟨S1x16x1x128, .f32⟩
  | 99 => ⟨S2x16x8192x128, .f32⟩
  | 100 => ⟨S2x16x8192x128, .f32⟩
  | 101 => ⟨S2x8192x16x128, .f32⟩
  | 102 => ⟨S2x8192x2048, .f32⟩
  | 103 => ⟨S2x8192x2048, .f32⟩
  | 104 => ⟨S2x8192x2048, .f32⟩
  | 105 => ⟨S_, .f32⟩
  | 106 => ⟨S2x8192x2048, .f32⟩
  | 107 => ⟨S2x8192x2048, .f32⟩
  | 108 => ⟨S_, .f32⟩
  | 109 => ⟨S2x8192x2048, .f32⟩
  | 110 => ⟨S2x8192x2048, .f32⟩
  | 111 => ⟨S2x8192x2048, .f32⟩
  | 112 => ⟨S2x8192x2048, .f32⟩
  | 113 => ⟨S16384x2048, .f32⟩
  | 114 => ⟨S16384x2048, .bf16⟩
  | _ => ⟨S16384x8192, .f32⟩

abbrev hbmTy (i : Nat) : BufTy := match i / 128 with
  | 0 => hbmTy0_0 i
  | 1 => hbmTy0_1 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_3 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_4 : Ref sig .tc := ⟨.hbm, 94, rfl⟩
abbrev main_v67 : Ref sig .tc := ⟨.hbm, 95, rfl⟩
abbrev main_v68 : Ref sig .tc := ⟨.hbm, 96, rfl⟩
abbrev main_cst_5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_6 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_7 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_8 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_9 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_10 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_11 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_12 : Ref sig .tc := ⟨.hbm, 163, rfl⟩
abbrev main_v125 : Ref sig .tc := ⟨.hbm, 164, rfl⟩
abbrev main_v126 : Ref sig .tc := ⟨.hbm, 165, rfl⟩
abbrev main_cst_13 : Ref sig .tc := ⟨.hbm, 166, rfl⟩
abbrev main_v127 : Ref sig .tc := ⟨.hbm, 167, rfl⟩
abbrev main_c : Ref sig .tc := ⟨.hbm, 168, rfl⟩
abbrev main_v128_0 : Ref sig .tc := ⟨.hbm, 169, rfl⟩
abbrev main_v128_1 : Ref sig .tc := ⟨.hbm, 170, rfl⟩
abbrev main_v128_2 : Ref sig .tc := ⟨.hbm, 171, rfl⟩
abbrev main_v128_3 : Ref sig .tc := ⟨.hbm, 172, rfl⟩
abbrev main_v128_4 : Ref sig .tc := ⟨.hbm, 173, rfl⟩
abbrev main_while0c_c_23 : Ref sig .tc := ⟨.hbm, 174, rfl⟩
abbrev main_while0c_v165 : Ref sig .tc := ⟨.hbm, 175, rfl⟩
abbrev main_while0b_call2_c : Ref sig .tc := ⟨.hbm, 176, rfl⟩
abbrev main_while0b_call2_c_0 : Ref sig .tc := ⟨.hbm, 177, rfl⟩
abbrev main_while0b_call2_c_1 : Ref sig .tc := ⟨.hbm, 178, rfl⟩
abbrev main_while0b_call2_c_2 : Ref sig .tc := ⟨.hbm, 179, rfl⟩
abbrev main_while0b_call2_v0 : Ref sig .tc := ⟨.hbm, 180, rfl⟩
abbrev main_while0b_v165 : Ref sig .tc := ⟨.hbm, 181, rfl⟩
abbrev main_while0b_v166 : Ref sig .tc := ⟨.hbm, 182, rfl⟩
abbrev main_while0b_v167 : Ref sig .tc := ⟨.hbm, 183, rfl⟩
abbrev main_while0b_v168 : Ref sig .tc := ⟨.hbm, 184, rfl⟩
abbrev main_while0b_v169 : Ref sig .tc := ⟨.hbm, 185, rfl⟩
abbrev main_while0b_call3_v0 : Ref sig .tc := ⟨.hbm, 186, rfl⟩
abbrev main_while0b_call3_c : Ref sig .tc := ⟨.hbm, 187, rfl⟩
abbrev main_while0b_call3_c_0 : Ref sig .tc := ⟨.hbm, 188, rfl⟩
abbrev main_while0b_call3_c_1 : Ref sig .tc := ⟨.hbm, 189, rfl⟩
abbrev main_while0b_call3_c_2 : Ref sig .tc := ⟨.hbm, 190, rfl⟩
abbrev main_while0b_v170 : Ref sig .tc := ⟨.hbm, 191, rfl⟩
abbrev main_while0b_c_23 : Ref sig .tc := ⟨.hbm, 192, rfl⟩
abbrev main_while0b_v171 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_14 : Ref sig .tc := ⟨.hbm, 202, rfl⟩
abbrev main_v137 : Ref sig .tc := ⟨.hbm, 203, rfl⟩
abbrev main_v138 : Ref sig .tc := ⟨.hbm, 204, rfl⟩
abbrev main_cst_15 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_16 : Ref sig .tc := ⟨.hbm, 211, rfl⟩
abbrev main_v144 : Ref sig .tc := ⟨.hbm, 212, rfl⟩
abbrev main_v145 : Ref sig .tc := ⟨.hbm, 213, rfl⟩
abbrev main_cst_17 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_18 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_call4_v0 : Ref sig .tc := ⟨.hbm, 231, rfl⟩
abbrev main_call4_v1 : Ref sig .tc := ⟨.hbm, 232, rfl⟩
abbrev main_call4_cst : Ref sig .tc := ⟨.hbm, 233, rfl⟩
abbrev main_call4_v2 : Ref sig .tc := ⟨.hbm, 234, rfl⟩
abbrev main_call4_v3 : Ref sig .tc := ⟨.hbm, 235, rfl⟩
abbrev main_call4_cst_0 : Ref sig .tc := ⟨.hbm, 236, rfl⟩
abbrev main_call4_v4 : Ref sig .tc := ⟨.hbm, 237, rfl⟩
abbrev main_call4_v5 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x4096 : Shape := ⟨2, ![1, 4096]⟩
abbrev S512x4096 : Shape := ⟨2, ![512, 4096]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S32x4096 : Shape := ⟨2, ![32, 4096]⟩
abbrev S32 : Shape := ⟨1, ![32]⟩
abbrev S32x1 : Shape := ⟨2, ![32, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S2x2x4096x11008, .bf16⟩
  | .hbm, ⟨7, _⟩ => ⟨S2x2x4096x11008, .bf16⟩
  | .hbm, ⟨8, _⟩ => ⟨S2x2x11008x4096, .bf16⟩
  | .hbm, ⟨9, _⟩ => ⟨S1x4096, .f32⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x4096, .bf16⟩
  | .local _ .vmem, ⟨7, _⟩ => ⟨S1x1x256x4096, .bf16⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v70 : BitVec 1 := Scalar.cmpi .eq arg1 c42_i32
  let v71 : BitVec 32 := Scalar.extui v70
  let c0_i32_76 : BitVec 32 := 0#32
  let v72 : BitVec 1 := Scalar.cmpi .ne v71 c0_i32_76
  v72

@[reducible] def k0_t1_loop : Scf.Loop 32 :=
  let c0_i32_77 : BitVec 32 := 0#32
  let c16_i32 : BitVec 32 := 16#32
  let v73 : BitVec 32 := Scalar.addi c0_i32_77 c16_i32
  let c1_i32 : BitVec 32 := 1#32
  ⟨c0_i32_77, v73, c1_i32⟩
def k0_mult1 (k0_t1 : Fin k0_t1_loop.trips) : BitVec 32 :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  v74
def k0_off1 (k0_t1 : Fin k0_t1_loop.trips) : Fin 2 → Nat :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  let v75 : BitVec 32 := v74
  let v76 : Index := Scalar.indexCast v75
  let c0_79 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x1x4096x11008 : Shape := ⟨4, ![1, 1, 4096, 11008]⟩
abbrev S4096x11008 : Shape := ⟨2, ![4096, 11008]⟩
abbrev S16384x11008 : Shape := ⟨2, ![16384, 11008]⟩
abbrev S_ : Shape := ⟨0, ![]⟩
abbrev S1x1x11008x4096 : Shape := ⟨4, ![1, 1, 11008, 4096]⟩
abbrev S11008x4096 : Shape := ⟨2, ![11008, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S1x1x4096x11008, .f32⟩
  | .hbm, ⟨7, _⟩ => ⟨S4096x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S1x1x4096x11008, .f32⟩
  | .hbm, ⟨19, _⟩ => ⟨S4096x11008, .f32⟩
  | .hbm, ⟨20, _⟩ => ⟨S16384x11008, .f32⟩
  | .hbm, ⟨21, _⟩ => ⟨S16384x11008, .f32⟩
  | .hbm, ⟨22, _⟩ => ⟨S1x1x11008x4096, .f32⟩
  | .hbm, ⟨23, _⟩ => ⟨S11008x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S1x4096, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== InProj.lean ====
abbrev S16384x4096 : Shape := ⟨2, ![16384, 4096]⟩
abbrev S4096x14336 : Shape := ⟨2, ![4096, 14336]⟩
abbrev S16384x8192 : Shape := ⟨2, ![16384, 8192]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x14336, .f32⟩
  | .hbm, ⟨2, _⟩ => ⟨S4096x14336, .bf16⟩
  | .hbm, ⟨3, _⟩ => ⟨S16384x8192, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x4096 : Shape := ⟨2, ![16384, 4096]⟩
abbrev S4096x14336 : Shape := ⟨2, ![4096, 14336]⟩
abbrev S4096x8192 : Shape := ⟨2, ![4096, 8192]⟩
abbrev S16384x8192 : Shape := ⟨2, ![16384, 8192]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x14336, .f32⟩
  | .hbm, ⟨2, _⟩ => ⟨S4096x8192, .f32⟩
  | .hbm, ⟨3, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S512x512 : Shape := ⟨2, ![512, 512]⟩
abbrev S512x4096 : Shape := ⟨2, ![512, 4096]⟩
abbrev S32x4096 : Shape := ⟨2, ![32, 4096]⟩
abbrev S32 : Shape := ⟨1, ![32]⟩
abbrev S32x1 : Shape := ⟨2, ![32, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c16_i32 : BitVec 32 := 16#32
  let v14 : BitVec 32 := Scalar.addi c0_i32_9 c16_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c32_i32 : BitVec 32 := 32#32
  let v15 : BitVec 32 := Scalar.muli arg8 c32_i32
  v15
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v15 : BitVec 32 := Scalar.muli arg8 c32_i32
  let v16 : BitVec 32 := v15
  let v17 : Index := Scalar.indexCast v16
  let c0_11 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== OutProjRefIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== AttProj.lean ====
abbrev S16384x4096 : Shape := ⟨2, ![16384, 4096]⟩
abbrev S4096x14336 : Shape := ⟨2, ![4096, 14336]⟩
abbrev S16384x6144 : Shape := ⟨2, ![16384, 6144]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x14336, .f32⟩
  | .hbm, ⟨2, _⟩ => ⟨S4096x14336, .bf16⟩
  | .hbm, ⟨3, _⟩ => ⟨S16384x6144, .bf16⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttProjRefIdeal.lean ====
abbrev S16384x4096 : Shape := ⟨2, ![16384, 4096]⟩
abbrev S4096x14336 : Shape := ⟨2, ![4096, 14336]⟩
abbrev S4096x6144 : Shape := ⟨2, ![4096, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x14336, .f32⟩
  | .hbm, ⟨2, _⟩ => ⟨S4096x6144, .f32⟩
  | .hbm, ⟨3, _⟩ => ⟨S16384x6144, .f32⟩
  | .hbm, ⟨4, _⟩ => ⟨S16384x6144, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvProj.lean ====
abbrev S16384x4096 : Shape := ⟨2, ![16384, 4096]⟩
abbrev S4096x16448 : Shape := ⟨2, ![4096, 16448]⟩
abbrev S16384x12288 : Shape := ⟨2, ![16384, 12288]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x16448, .f32⟩
  | .hbm, ⟨2, _⟩ => ⟨S4096x16448, .bf16⟩
  | .hbm, ⟨3, _⟩ => ⟨S16384x12288, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvProjRefIdeal.lean ====
abbrev S16384x4096 : Shape := ⟨2, ![16384, 4096]⟩
abbrev S4096x16448 : Shape := ⟨2, ![4096, 16448]⟩
abbrev S4096x12288 : Shape := ⟨2, ![4096, 12288]⟩
abbrev S16384x12288 : Shape := ⟨2, ![16384, 12288]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16448, .f32⟩
  | .hbm, ⟨2, _⟩ => ⟨S4096x12288, .f32⟩
  | .hbm, ⟨3, _⟩ => ⟨S16384x12288, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateProj.lean ====
abbrev S16384x4096 : Shape := ⟨2, ![16384, 4096]⟩
abbrev S4096x16448 : Shape := ⟨2, ![4096, 16448]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x16448, .f32⟩
  | .hbm, ⟨2, _⟩ => ⟨S4096x16448, .bf16⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateProjRefIdeal.lean ====
abbrev S16384x4096 : Shape := ⟨2, ![16384, 4096]⟩
abbrev S4096x16448 : Shape := ⟨2, ![4096, 16448]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16448, .f32⟩
  | .hbm, ⟨2, _⟩ => ⟨S4096x4096, .f32⟩
  | .hbm, ⟨3, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Prep.lean ====
abbrev S16384x12288 : Shape := ⟨2, ![16384, 12288]⟩
abbrev S4x12288 : Shape := ⟨2, ![4, 12288]⟩
abbrev S512x512 : Shape := ⟨2, ![512, 512]⟩
abbrev S8x512 : Shape := ⟨2, ![8, 512]⟩
abbrev S4x512 : Shape := ⟨2, ![4, 512]⟩
abbrev S520x512 : Shape := ⟨2, ![520, 512]⟩
abbrev S1x512 : Shape := ⟨2, ![1, 512]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S16384x12288, .f32⟩
  | .hbm, ⟨1, _⟩ => ⟨S4x12288, .f32⟩
  | .hbm, ⟨2, _⟩ => ⟨S16384x12288, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .f32⟩
  | .local _ .vmem, ⟨7, _⟩ => ⟨S512x512, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 24], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== PrepRefIdeal.lean ====
abbrev S16384x12288 : Shape := ⟨2, ![16384, 12288]⟩
abbrev S4x12288 : Shape := ⟨2, ![4, 12288]⟩
abbrev S2x8192x12288 : Shape := ⟨3, ![2, 8192, 12288]⟩
abbrev S_ : Shape := ⟨0, ![]⟩
abbrev S2x8195x12288 : Shape := ⟨3, ![2, 8195, 12288]⟩
abbrev S1x12288 : Shape := ⟨2, ![1, 12288]⟩
abbrev S12288 : Shape := ⟨1, ![12288]⟩
abbrev S1x1x12288 : Shape := ⟨3, ![1, 1, 12288]⟩
abbrev S2x8192x4096 : Shape := ⟨3, ![2, 8192, 4096]⟩
abbrev S2x8192x32x128 : Shape := ⟨4, ![2, 8192, 32, 128]⟩
abbrev S2x32x8192x128 : Shape := ⟨4, ![2, 32, 8192, 128]⟩
abbrev S2x32x8192 : Shape := ⟨3, ![2, 32, 8192]⟩
abbrev S2x32x8192x1 : Shape := ⟨4, ![2, 32, 8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x12288, .f32⟩
  | .hbm, ⟨2, _⟩ => ⟨S2x8192x12288, .f32⟩
  | .hbm, ⟨3, _⟩ => ⟨S_, .i32⟩
  | .hbm, ⟨4, _⟩ => ⟨S_, .f32⟩
  | .hbm, ⟨5, _⟩ => ⟨S2x8195x12288, .f32⟩
  | .hbm, ⟨6, _⟩ => ⟨S2x8192x12288, .f32⟩
  | .hbm, ⟨7, _⟩ => ⟨S1x12288, .f32⟩
  | .hbm, ⟨8, _⟩ => ⟨S12288, .f32⟩
  | .hbm, ⟨9, _⟩ => ⟨S1x1x12288, .f32⟩
  | .hbm, ⟨10, _⟩ => ⟨S2x8192x12288, .f32⟩
  | .hbm, ⟨11, _⟩ => ⟨S2x8192x12288, .f32⟩
  | .hbm, ⟨12, _⟩ => ⟨S2x8192x12288, .f32⟩
  | .hbm, ⟨13, _⟩ => ⟨S1x12288, .f32⟩
  | .hbm, ⟨14, _⟩ => ⟨S12288, .f32⟩
  | .hbm, ⟨15, _⟩ => ⟨S1x1x12288, .f32⟩
  | .hbm, ⟨16, _⟩ => ⟨S2x8192x12288, .f32⟩
  | .hbm, ⟨17, _⟩ => ⟨S2x8192x12288, .f32⟩
  | .hbm, ⟨18, _⟩ => ⟨S2x8192x12288, .f32⟩
  | .hbm, ⟨19, _⟩ => ⟨S2x8192x12288, .f32⟩
  | .hbm, ⟨20, _⟩ => ⟨S1x12288, .f32⟩
  | .hbm, ⟨21, _⟩ => ⟨S12288, .f32⟩
  | .hbm, ⟨22, _⟩ => ⟨S1x1x12288, .f32⟩
  | .hbm, ⟨23, _⟩ => ⟨S2x8192x12288, .f32⟩
  | .hbm, ⟨24, _⟩ => ⟨S2x8192x12288, .f32⟩
  | .hbm, ⟨25, _⟩ => ⟨S2x8192x12288, .f32⟩
  | .hbm, ⟨26, _⟩ => ⟨S2x8192x12288, .f32⟩
  | .hbm, ⟨27, _⟩ => ⟨S1x12288, .f32⟩
  | .hbm, ⟨28, _⟩ => ⟨S12288, .f32⟩
  | .hbm, ⟨29, _⟩ => ⟨S1x1x12288, .f32⟩
  | .hbm, ⟨30, _⟩ => ⟨S2x8192x12288, .f32⟩
  | .hbm, ⟨31, _⟩ => ⟨S2x8192x12288, .f32⟩
  | .hbm, ⟨32, _⟩ => ⟨S2x8192x12288, .f32⟩
  | .hbm, ⟨33, _⟩ => ⟨S2x8192x12288, .f32⟩
  | .hbm, ⟨34, _⟩ => ⟨S2x8192x12288, .f32⟩
  | .hbm, ⟨35, _⟩ => ⟨S_, .f32⟩
  | .hbm, ⟨36, _⟩ => ⟨S2x8192x12288, .f32⟩
  | .hbm, ⟨37, _⟩ => ⟨S2x8192x12288, .f32⟩
  | .hbm, ⟨38, _⟩ => ⟨S_, .f32⟩
  | .hbm, ⟨39, _⟩ => ⟨S2x8192x12288, .f32⟩
  | .hbm, ⟨40, _⟩ => ⟨S2x8192x12288, .f32⟩
  | .hbm, ⟨41, _⟩ => ⟨S2x8192x12288, .f32⟩
  | .hbm, ⟨42, _⟩ => ⟨S2x8192x4096, .f32⟩
  | .hbm, ⟨43, _⟩ => ⟨S2x8192x4096, .f32⟩
  | .hbm, ⟨44, _⟩ => ⟨S2x8192x4096, .f32⟩
  | .hbm, ⟨45, _⟩ => ⟨S2x8192x32x128, .f32⟩
  | .hbm, ⟨46, _⟩ => ⟨S2x32x8192x128, .f32⟩
  | .hbm, ⟨47, _⟩ => ⟨S2x8192x32x128, .f32⟩
  | .hbm, ⟨48, _⟩ => ⟨S2x32x8192x128, .f32⟩
  | .hbm, ⟨49, _⟩ => ⟨S2x8192x32x128, .f32⟩
  | .hbm, ⟨50, _⟩ => ⟨S2x32x8192x128, .f32⟩
  | .hbm, ⟨51, _⟩ => ⟨S2x32x8192x128, .f32⟩
  | .hbm, ⟨52, _⟩ => ⟨S_, .f32⟩
  | .hbm, ⟨53, _⟩ => ⟨S2x32x8192, .f32⟩
  | .hbm, ⟨54, _⟩ => ⟨S2x32x8192x1, .f32⟩
  | .hbm, ⟨55, _⟩ => ⟨S_, .f32⟩
  | .hbm, ⟨56, _⟩ => ⟨S2x32x8192x1, .f32⟩
  | .hbm, ⟨57, _⟩ => ⟨S2x32x8192x1, .f32⟩
  | .hbm, ⟨58, _⟩ => ⟨S2x32x8192x1, .f32⟩
  | .hbm, ⟨59, _⟩ => ⟨S2x32x8192x128, .f32⟩
  | .hbm, ⟨60, _⟩ => ⟨S2x32x8192x128, .f32⟩
  | .hbm, ⟨61, _⟩ => ⟨S_, .f32⟩
  | .hbm, ⟨62, _⟩ => ⟨S2x32x8192x128, .f32⟩
  | .hbm, ⟨63, _⟩ => ⟨S2x32x8192x128, .f32⟩
  | .hbm, ⟨64, _⟩ => ⟨S2x32x8192x128, .f32⟩
  | .hbm, ⟨65, _⟩ => ⟨S_, .f32⟩
  | .hbm, ⟨66, _⟩ => ⟨S2x32x8192, .f32⟩
  | .hbm, ⟨67, _⟩ => ⟨S2x32x8192x1, .f32⟩
  | .hbm, ⟨68, _⟩ => ⟨S_, .f32⟩
  | .hbm, ⟨69, _⟩ => ⟨S2x32x8192x1, .f32⟩
  | .hbm, ⟨70, _⟩ => ⟨S2x32x8192x1, .f32⟩
  | .hbm, ⟨71, _⟩ => ⟨S2x32x8192x1, .f32⟩
  | .hbm, ⟨72, _⟩ => ⟨S2x32x8192x128, .f32⟩
  | .hbm, ⟨73, _⟩ => ⟨S2x32x8192x128, .f32⟩
  | .hbm, ⟨74, _⟩ => ⟨S2x8192x32x128, .f32⟩
  | .hbm, ⟨75, _⟩ => ⟨S2x8192x4096, .f32⟩
  | .hbm, ⟨76, _⟩ => ⟨S2x8192x32x128, .f32⟩
  | .hbm, ⟨77, _⟩ => ⟨S2x8192x4096, .f32⟩
  | .hbm, ⟨78, _⟩ => ⟨S2x8192x32x128, .f32⟩
  | .hbm, ⟨79, _⟩ => ⟨S2x8192x4096, .f32⟩
  | .hbm, ⟨80, _⟩ => ⟨S2x8192x12288, .f32⟩
  | .hbm, ⟨81, _⟩ => ⟨S16384x12288, .f32⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_1 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_2 : Ref sig .tc := ⟨.hbm, 65, rfl⟩
abbrev main_v50 : Ref sig .tc := ⟨.hbm, 66, rfl⟩
abbrev main_v51 : Ref sig .tc := ⟨.hbm, 67, rfl⟩
abbrev main_cst_3 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== FfnB.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x4096 : Shape := ⟨2, ![1, 4096]⟩
abbrev S512x4096 : Shape := ⟨2, ![512, 4096]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S32x4096 : Shape := ⟨2, ![32, 4096]⟩
abbrev S32 : Shape := ⟨1, ![32]⟩
abbrev S32x1 : Shape := ⟨2, ![32, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S2x2x4096x11008, .bf16⟩
  | .hbm, ⟨7, _⟩ => ⟨S2x2x4096x11008, .bf16⟩
  | .hbm, ⟨8, _⟩ => ⟨S2x2x11008x4096, .bf16⟩
  | .hbm, ⟨9, _⟩ => ⟨S1x4096, .f32⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x4096, .bf16⟩
  | .local _ .vmem, ⟨7, _⟩ => ⟨S1x1x256x4096, .bf16⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v70 : BitVec 1 := Scalar.cmpi .eq arg1 c42_i32
  let v71 : BitVec 32 := Scalar.extui v70
  let c0_i32_76 : BitVec 32 := 0#32
  let v72 : BitVec 1 := Scalar.cmpi .ne v71 c0_i32_76
  v72

@[reducible] def k0_t1_loop : Scf.Loop 32 :=
  let c0_i32_77 : BitVec 32 := 0#32
  let c16_i32 : BitVec 32 := 16#32
  let v73 : BitVec 32 := Scalar.addi c0_i32_77 c16_i32
  let c1_i32 : BitVec 32 := 1#32
  ⟨c0_i32_77, v73, c1_i32⟩
def k0_mult1 (k0_t1 : Fin k0_t1_loop.trips) : BitVec 32 :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  v74
def k0_off1 (k0_t1 : Fin k0_t1_loop.trips) : Fin 2 → Nat :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  let v75 : BitVec 32 := v74
  let v76 : Index := Scalar.indexCast v75
  let c0_79 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnBRefIdeal.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x1x4096x11008 : Shape := ⟨4, ![1, 1, 4096, 11008]⟩
abbrev S4096x11008 : Shape := ⟨2, ![4096, 11008]⟩
abbrev S16384x11008 : Shape := ⟨2, ![16384, 11008]⟩
abbrev S_ : Shape := ⟨0, ![]⟩
abbrev S1x1x11008x4096 : Shape := ⟨4, ![1, 1, 11008, 4096]⟩
abbrev S11008x4096 : Shape := ⟨2, ![11008, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S1x1x4096x11008, .f32⟩
  | .hbm, ⟨7, _⟩ => ⟨S4096x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S1x1x4096x11008, .f32⟩
  | .hbm, ⟨19, _⟩ => ⟨S4096x11008, .f32⟩
  | .hbm, ⟨20, _⟩ => ⟨S16384x11008, .f32⟩
  | .hbm, ⟨21, _⟩ => ⟨S16384x11008, .f32⟩
  | .hbm, ⟨22, _⟩ => ⟨S1x1x11008x4096, .f32⟩
  | .hbm, ⟨23, _⟩ => ⟨S11008x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S1x4096, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== FfnC.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x4096 : Shape := ⟨2, ![1, 4096]⟩
abbrev S512x4096 : Shape := ⟨2, ![512, 4096]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S32x4096 : Shape := ⟨2, ![32, 4096]⟩
abbrev S32 : Shape := ⟨1, ![32]⟩
abbrev S32x1 : Shape := ⟨2, ![32, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S2x2x4096x11008, .bf16⟩
  | .hbm, ⟨7, _⟩ => ⟨S2x2x4096x11008, .bf16⟩
  | .hbm, ⟨8, _⟩ => ⟨S2x2x11008x4096, .bf16⟩
  | .hbm, ⟨9, _⟩ => ⟨S1x4096, .f32⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x4096, .bf16⟩
  | .local _ .vmem, ⟨7, _⟩ => ⟨S1x1x256x4096, .bf16⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v70 : BitVec 1 := Scalar.cmpi .eq arg1 c42_i32
  let v71 : BitVec 32 := Scalar.extui v70
  let c0_i32_76 : BitVec 32 := 0#32
  let v72 : BitVec 1 := Scalar.cmpi .ne v71 c0_i32_76
  v72

@[reducible] def k0_t1_loop : Scf.Loop 32 :=
  let c0_i32_77 : BitVec 32 := 0#32
  let c16_i32 : BitVec 32 := 16#32
  let v73 : BitVec 32 := Scalar.addi c0_i32_77 c16_i32
  let c1_i32 : BitVec 32 := 1#32
  ⟨c0_i32_77, v73, c1_i32⟩
def k0_mult1 (k0_t1 : Fin k0_t1_loop.trips) : BitVec 32 :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  v74
def k0_off1 (k0_t1 : Fin k0_t1_loop.trips) : Fin 2 → Nat :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  let v75 : BitVec 32 := v74
  let v76 : Index := Scalar.indexCast v75
  let c0_79 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnCRefIdeal.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x1x4096x11008 : Shape := ⟨4, ![1, 1, 4096, 11008]⟩
abbrev S4096x11008 : Shape := ⟨2, ![4096, 11008]⟩
abbrev S16384x11008 : Shape := ⟨2, ![16384, 11008]⟩
abbrev S_ : Shape := ⟨0, ![]⟩
abbrev S1x1x11008x4096 : Shape := ⟨4, ![1, 1, 11008, 4096]⟩
abbrev S11008x4096 : Shape := ⟨2, ![11008, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S1x1x4096x11008, .f32⟩
  | .hbm, ⟨7, _⟩ => ⟨S4096x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S1x1x4096x11008, .f32⟩
  | .hbm, ⟨19, _⟩ => ⟨S4096x11008, .f32⟩
  | .hbm, ⟨20, _⟩ => ⟨S16384x11008, .f32⟩
  | .hbm, ⟨21, _⟩ => ⟨S16384x11008, .f32⟩
  | .hbm, ⟨22, _⟩ => ⟨S1x1x11008x4096, .f32⟩
  | .hbm, ⟨23, _⟩ => ⟨S11008x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S1x4096, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== FfnD.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x4096 : Shape := ⟨2, ![1, 4096]⟩
abbrev S512x4096 : Shape := ⟨2, ![512, 4096]⟩
abbrev S1x1x4096x256 : Shape := ⟨4, ![1, 1, 4096, 256]⟩
abbrev S1x1x256x4096 : Shape := ⟨4, ![1, 1, 256, 4096]⟩
abbrev S4096x256 : Shape := ⟨2, ![4096, 256]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S32x4096 : Shape := ⟨2, ![32, 4096]⟩
abbrev S32 : Shape := ⟨1, ![32]⟩
abbrev S32x1 : Shape := ⟨2, ![32, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S2x2x4096x11008, .bf16⟩
  | .hbm, ⟨7, _⟩ => ⟨S2x2x4096x11008, .bf16⟩
  | .hbm, ⟨8, _⟩ => ⟨S2x2x11008x4096, .bf16⟩
  | .hbm, ⟨9, _⟩ => ⟨S1x4096, .f32⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x256, .bf16⟩
  | .local _ .vmem, ⟨5, _⟩ => ⟨S1x1x4096x256, .bf16⟩
  | .local _ .vmem, ⟨6, _⟩ => ⟨S1x1x256x4096, .bf16⟩
  | .local _ .vmem, ⟨7, _⟩ => ⟨S1x1x256x4096, .bf16⟩
  | .local _ .vmem, ⟨8, _⟩ => ⟨S1x4096, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v70 : BitVec 1 := Scalar.cmpi .eq arg1 c42_i32
  let v71 : BitVec 32 := Scalar.extui v70
  let c0_i32_76 : BitVec 32 := 0#32
  let v72 : BitVec 1 := Scalar.cmpi .ne v71 c0_i32_76
  v72

@[reducible] def k0_t1_loop : Scf.Loop 32 :=
  let c0_i32_77 : BitVec 32 := 0#32
  let c16_i32 : BitVec 32 := 16#32
  let v73 : BitVec 32 := Scalar.addi c0_i32_77 c16_i32
  let c1_i32 : BitVec 32 := 1#32
  ⟨c0_i32_77, v73, c1_i32⟩
def k0_mult1 (k0_t1 : Fin k0_t1_loop.trips) : BitVec 32 :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  v74
def k0_off1 (k0_t1 : Fin k0_t1_loop.trips) : Fin 2 → Nat :=
  let c0_i32_77 : BitVec 32 := 0#32
  let c1_i32 : BitVec 32 := 1#32
  let arg10 : BitVec 32 := Scf.iv c0_i32_77 c1_i32 k0_t1
  let c32_i32 : BitVec 32 := 32#32
  let v74 : BitVec 32 := Scalar.muli arg10 c32_i32
  let v75 : BitVec 32 := v74
  let v76 : Index := Scalar.indexCast v75
  let c0_79 : Index := 0#32
  ![v76.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnDRefIdeal.lean ====
abbrev S16384x4096 : Shape := ⟨2, ![16384, 4096]⟩
abbrev S2x2x4096x11008 : Shape := ⟨4, ![2, 2, 4096, 11008]⟩
abbrev S2x2x11008x4096 : Shape := ⟨4, ![2, 2, 11008, 4096]⟩
abbrev S4096 : Shape := ⟨1, ![4096]⟩
abbrev S1x1x4096x11008 : Shape := ⟨4, ![1, 1, 4096, 11008]⟩
abbrev S4096x11008 : Shape := ⟨2, ![4096, 11008]⟩
abbrev S16384x11008 : Shape := ⟨2, ![16384, 11008]⟩
abbrev S_ : Shape := ⟨0, ![]⟩
abbrev S1x1x11008x4096 : Shape := ⟨4, ![1, 1, 11008, 4096]⟩
abbrev S11008x4096 : Shape := ⟨2, ![11008, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2x2x4096x11008, .f32⟩
  | .hbm, ⟨2, _⟩ => ⟨S2x2x4096x11008, .f32⟩
  | .hbm, ⟨3, _⟩ => ⟨S2x2x11008x4096, .f32⟩
  | .hbm, ⟨4, _⟩ => ⟨S4096, .f32⟩
  | .hbm, ⟨5, _⟩ => ⟨S4096, .f32⟩
  | .hbm, ⟨6, _⟩ => ⟨S1x1x4096x11008, .f32⟩
  | .hbm, ⟨7, _⟩ => ⟨S4096x11008, .f32⟩
  | .hbm, ⟨8, _⟩ => ⟨S16384x11008, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S_, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S1x1x4096x11008, .f32⟩
  | .hbm, ⟨19, _⟩ => ⟨S4096x11008, .f32⟩
  | .hbm, ⟨20, _⟩ => ⟨S16384x11008, .f32⟩
  | .hbm, ⟨21, _⟩ => ⟨S16384x11008, .f32⟩
  | .hbm, ⟨22, _⟩ => ⟨S1x1x11008x4096, .f32⟩
  | .hbm, ⟨23, _⟩ => ⟨S11008x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x4096, .f32⟩
  | .hbm, ⟨54, _⟩ => ⟨S16384x4096, .f32⟩
  | .hbm, ⟨55, _⟩ => ⟨S1x4096, .f32⟩
  | .hbm, ⟨56, _⟩ => ⟨S16384x4096, .f32⟩
  | .hbm, ⟨57, _⟩ => ⟨S16384x4096, .f32⟩
  | .hbm, ⟨58, _⟩ => ⟨S1x4096, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.InProjValue.lean ====
/- The value of the projection call: the result array's entry `(r, j)` is the product of row `r` of the activations with
   column `j` of the weights' first 8192 columns, at the ideal instance. -/
module

public import proofs.«01_k».proof.Defs
public import proofs.«01_k».proof.Proof.Gen.InProjIdeal.Value
public import proofs.«01_k».proof.Proof.Gen.InProjRefIdeal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.InProjIdeal.Product

open Idealize.ShloMosaic Idealize.ShloMosaic.TcCoe Idealize.SL.Sem
open Cert.InProjIdeal Cert.InProjIdeal.Gen

variable (m : (ℓ : Loc nD τ sig) → Buf (Elt Ideal) ℓ) (ρ : Dev nD → PrngReg)

/-- Point `t` of the grid is row block `t / 8` and column block `t % 8`. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

/-- Entry `(r, j)` of the product of the activations with the weights' first 8192 columns. -/
def prod (x : Vec Ideal S16384x4096 .f32) (w : Vec Ideal S4096x14336 .f32) : Vec Ideal S16384x8192 .f32 := fun i =>
  ∑ k : Fin 4096, x (ix2 (i 0) k) * w (ix2 k ⟨(i 1).val, lt_of_lt_of_le (i 1).isLt (by decide)⟩)

/-- What the run keeps in the scratch after point `n`: the row block of the activations. -/
theorem kept (c : Dev nD) : ∀ (n : ℕ) (h : n < cfg0.N) (y : S512x4096.Idx),
    (outsAt0 m c n h).2 y = (iblk m c 0 ⟨n, h⟩ : Vec Ideal S512x4096 .f32) y := by
  intro n
  induction n with
  | zero =>
    intro h y
    rw [outsAt0_A m c ⟨0, h⟩ rfl]
    frame_out
    pointwise [k0_pay1]
  | succ n ih =>
    intro h y
    by_cases h0 : (n + 1) % 8 = 0
    · rw [outsAt0_A m c ⟨n + 1, h⟩ h0]
      frame_out
      pointwise [k0_pay1]
    · rw [outsAt0_B m c ⟨n + 1, h⟩ h0]
      refine (ih (Nat.lt_of_succ_lt h) y).trans ?_
      have e := (idx ⟨n + 1, h⟩).1
      have e' := (idx ⟨n, Nat.lt_of_succ_lt h⟩).1
      blk_ext [iblk, e, e']

/-- The array that the launch fills is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  have hk := kept m c t.val t.isLt
  obtain ⟨e0, e1, e2⟩ := idx t
  by_cases h0 : t.val % 8 = 0
  · rw [outsAt0_A m c t h0]
    frame_out
    pointwise [k0_pay2, k0_pay1, prod]
    blk_point [iblk, V, e0, e1, e2]
  · have hk' : ∀ y, (outsAt0 m c (t.val - 1) (lt_of_le_of_lt (Nat.sub_le _ _) t.isLt)).2 y = (iblk m c 0 t : Vec Ideal S512x4096 .f32) y := by
      rw [outsAt0_B m c t h0] at hk
      exact hk
    rw [outsAt0_B m c t h0]
    frame_out
    simp only [read_unread_whole]
    pointwise [k0_pay2, prod, hk']
    blk_point [iblk, V, e0, e1, e2]

end Cert.InProjIdeal.Product

/-- The projection and its reference end with equal results. -/
theorem Cert.InProjIdeal.Product.claim : Cert.algebraic_InProjIdeal_InProjRefIdeal := by
  pair_intro
  · run_from Cert.InProjIdeal.Gen.run_main m g
  · run_from Cert.InProjRefIdeal.Value.run m' g'
    refine Eq.trans ?_ (Cert.InProjIdeal.Product.final m c).symm
    funext i
    pointwise [Cert.InProjIdeal.Product.prod]

end
-- ==== Proof.OutProjValue.lean ====
/- The value of the output projection call with its residual and layer norm: row `r` of the result is the normalized
   row `r` of `√2 · x + a · w`, at the ideal instance. -/
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.WritesUnit
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.OutProjIdeal.Normed

open Idealize.ShloMosaic Idealize.ShloMosaic.TcCoe Idealize.SL.Sem
open Cert.OutProjIdeal Cert.OutProjIdeal.Gen

/-- The mean of a row. -/
def mean (y : Fin 4096 → EReal) : EReal := Ideal.div (∑ k, y k) (Ideal.ofBits .f32 0x45800000#32)

/-- Entry `j` of the layer norm of the row `y` with weights `w` and biases `b`. -/
def norm (y w b : Fin 4096 → EReal) (j : Fin 4096) : EReal :=
  (y j - mean y) * Ideal.rsqrt (mean (fun k => (y k - mean y) * (y k - mean y)) + Ideal.ofBits .f32 0x3727C5AC#32) * w j + b j

/-- An entry of the residual sum: `√2 · x + o`. -/
def res (x o : EReal) : EReal := Ideal.ofBits .f32 0x3FB504F3#32 * x + o

/-- What one trip of the loop stores: the layer norm of its 32 rows. -/
theorem pay3 (x o : Vec Ideal S32x4096 .f32) (w b : Vec Ideal S1x4096 .f32) (i : S32x4096.Idx) :
    k0_pay3 x o w b i = norm (fun k => res (x (ix2 (i 0) k)) (o (ix2 (i 0) k))) (fun k => w (ix2 0 k)) (fun k => b (ix2 0 k)) (i 1) := by
  pointwise [k0_pay3, norm, mean, res]

/-- A store of 32 whole rows at row `32 · k`: inside them the stored value, elsewhere what was there. -/
theorem rows (v : View sig .tc .vmem S512x4096 .f32) (f : v.ty.Contents (Elt Ideal)) (k : Fin k0_t1_loop.trips)
    (hb : ∀ a, k0_off1 k a + S32x4096.size a ≤ S512x4096.size a) (w : S32x4096.Idx → EReal) (y : S512x4096.Idx) :
    v.read (Elt Ideal) (v.writes (Elt Ideal) f [⟨Rect.unit (s := S512x4096) (k0_off1 k) S32x4096.size hb, w⟩]) y
      = if h : 32 * k.val ≤ (y 0).val ∧ (y 0).val < 32 * k.val + 32 then
          w (ix2 ⟨(y 0).val - 32 * k.val, by omega⟩ (y 1))
        else v.read (Elt Ideal) f y := by
  by_cases h : 32 * k.val ≤ (y 0).val ∧ (y 0).val < 32 * k.val + 32
  · rw [dif_pos h]
    refine View.read_writes_cons_unit_of_mem (s := S512x4096) v f hb w [] y (ix2 ⟨(y 0).val - 32 * k.val, by omega⟩ (y 1)) (k0_off1_eq k) ?_
    refine Fin.forall_fin_two.mpr ⟨?_, ?_⟩
    · show (y 0).val = 32 * k.val + ((y 0).val - 32 * k.val)
      omega
    · show (y 1).val = 0 + (y 1).val
      omega
  · rw [dif_neg h]
    refine View.read_writes_cons_unit_of_not_mem (s := S512x4096) v f hb w [] y (k0_off1_eq k) 0 ?_
    show (y 0).val < 32 * k.val ∨ 32 * k.val + 32 ≤ (y 0).val
    omega

/-- A store of the whole buffer is what is read back. -/
theorem whole (v : View sig .tc .vmem S512x4096 .f32) (f : v.ty.Contents (Elt Ideal))
    (hb : ∀ a, (![0, 0] : Fin 2 → ℕ) a + S512x4096.size a ≤ S512x4096.size a) (w : S512x4096.Idx → EReal) (y : S512x4096.Idx) :
    v.read (Elt Ideal) (v.writes (Elt Ideal) f [⟨Rect.unit (s := S512x4096) ![0, 0] S512x4096.size hb, w⟩]) y = w y :=
  View.read_writes_cons_unit_of_mem (s := S512x4096) v f hb w [] y y rfl
    (Fin.forall_fin_two.mpr ⟨(Nat.zero_add _).symm, (Nat.zero_add _).symm⟩)

/-- Reading 32 whole rows from row `32 · k` on. -/
theorem ldRows (X : Vec Ideal S512x4096 .f32) (k : Fin k0_t1_loop.trips)
    (hb : ∀ a, k0_off1 k a + S32x4096.size a ≤ S512x4096.size a) (r : Fin 32) (j : Fin 4096) (h : 32 * k.val + r.val < 512) :
    View.ld X (Rect.unit (s := S512x4096) (k0_off1 k) S32x4096.size hb) (ix2 r j) = X (ix2 ⟨32 * k.val + r.val, h⟩ j) := by
  refine congrArg X (funext (Fin.forall_fin_two.mpr ⟨Fin.ext ?_, Fin.ext ?_⟩))
  · show k0_off1 k 0 + 1 * r.val = 32 * k.val + r.val
    rw [k0_off1_eq k, Nat.one_mul]; rfl
  · show k0_off1 k 1 + 1 * j.val = j.val
    rw [k0_off1_eq k, Nat.one_mul]; exact Nat.zero_add _

section Loop

variable (𝒱 : Variants) (c : Dev nD) (bd : Option 𝒱.V) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (h2 : k0_cond2 i = 1#1)
  (X4 : BufTy.Contents (Elt Ideal) arg4.view.ty) (X5 : BufTy.Contents (Elt Ideal) arg5.view.ty) (X6 : BufTy.Contents (Elt Ideal) arg6.view.ty)

/-- One trip's only store: the normalized rows. -/
theorem trip (k : Fin k0_t1_loop.trips) (f : BufTy.Contents (Elt Ideal) arg7.view.ty) :
    tripL_k0_t1 (F := Ideal) 𝒱 c bd i arg2 harg2 arg3 harg3 arg4 harg4 arg5 harg5 arg6 harg6 arg7 harg7 h2 X4 X5 X6 k f
      = [⟨Rect.unit (s := S512x4096) (k0_off1 k) S32x4096.size (k0_off1_inb i k h2),
          k0_pay3 (View.ld (arg4.view.read (Elt Ideal) X4) (Rect.unit (s := S512x4096) (k0_off1 k) S32x4096.size (k0_off1_inb i k h2)))
            (View.ld (arg7.view.read (Elt Ideal) f) (Rect.unit (s := S512x4096) (k0_off1 k) S32x4096.size (k0_off1_inb i k h2)))
            (arg5.view.read (Elt Ideal) X5) (arg6.view.read (Elt Ideal) X6)⟩] := by
  have hz : (![0, 0] : Fin 2 → ℕ) = fun _ => 0 := by funext a; fin_cases a <;> rfl
  have e5 := View.ld_unit_zero (S := S1x4096) hz inb_S1x4096_S1x4096_0_0 (arg5.view.read (Elt Ideal) X5)
  have e6 := View.ld_unit_zero (S := S1x4096) hz inb_S1x4096_S1x4096_0_0 (arg6.view.read (Elt Ideal) X6)
  unfold tripL_k0_t1 trip_k0_t1
  refine Eq.trans ?_ (congrArg₂ (fun u v => [(⟨Rect.unit (s := S512x4096) (k0_off1 k) S32x4096.size (k0_off1_inb i k h2),
          k0_pay3 (View.ld (arg4.view.read (Elt Ideal) X4) (Rect.unit (s := S512x4096) (k0_off1 k) S32x4096.size (k0_off1_inb i k h2)))
            (View.ld (arg7.view.read (Elt Ideal) f) (Rect.unit (s := S512x4096) (k0_off1 k) S32x4096.size (k0_off1_inb i k h2)))
            u v⟩ : View.Piece (Elt Ideal) S512x4096 .f32)]) e5 e6)
  rfl

/-- After `n` trips the first `32 · n` rows are normalized and the rest are as the loop found them. -/
theorem loop (G : BufTy.Contents (Elt Ideal) arg7.view.ty) : ∀ n ≤ 16, ∀ y : S512x4096.Idx,
    arg7.view.read (Elt Ideal) (arg7.view.writes (Elt Ideal) G
        (pb_k0_t1 (F := Ideal) 𝒱 c bd i arg2 harg2 arg3 harg3 arg4 harg4 arg5 harg5 arg6 harg6 arg7 harg7 h2 X4 X5 X6 G n)) y
      = if (y 0).val < 32 * n then
          norm (fun k => res (arg4.view.read (Elt Ideal) X4 (ix2 (y 0) k)) (arg7.view.read (Elt Ideal) G (ix2 (y 0) k)))
            (fun k => arg5.view.read (Elt Ideal) X5 (ix2 0 k)) (fun k => arg6.view.read (Elt Ideal) X6 (ix2 0 k)) (y 1)
        else arg7.view.read (Elt Ideal) G y := by
  have ht : k0_t1_loop.trips = 16 := by decide +kernel
  intro n
  induction n with
  | zero => intro _ y; rw [if_neg (by omega)]; rfl
  | succ n ih =>
    intro hn y
    have hk : n < k0_t1_loop.trips := by omega
    rw [pb_k0_t1_succ (F := Ideal) 𝒱 c bd i arg2 harg2 arg3 harg3 arg4 harg4 arg5 harg5 arg6 harg6 arg7 harg7 h2 X4 X5 X6 G ⟨n, hk⟩,
      View.writes_append, trip]
    rw [rows]
    by_cases h : 32 * n ≤ (y 0).val ∧ (y 0).val < 32 * n + 32
    · have h512 : 32 * n + ((y 0).val - 32 * n) < 512 := by have := (y 0).isLt; omega
      have hy : (⟨32 * n + ((y 0).val - 32 * n), h512⟩ : Fin 512) = y 0 := Fin.ext (by show 32 * n + ((y 0).val - 32 * n) = (y 0).val; omega)
      have eo : ∀ k : Fin 4096, arg7.view.read (Elt Ideal) (arg7.view.writes (Elt Ideal) G
          (pb_k0_t1 (F := Ideal) 𝒱 c bd i arg2 harg2 arg3 harg3 arg4 harg4 arg5 harg5 arg6 harg6 arg7 harg7 h2 X4 X5 X6 G n)) (ix2 (y 0) k)
          = arg7.view.read (Elt Ideal) G (ix2 (y 0) k) := fun k =>
        (ih (by omega) _).trans (if_neg (by show ¬ (y 0).val < 32 * n; omega))
      rw [dif_pos h, if_pos (by omega), pay3]
      have e4 : ∀ k : Fin 4096, View.ld (arg4.view.read (Elt Ideal) X4) (Rect.unit (s := S512x4096) (k0_off1 ⟨n, hk⟩) S32x4096.size (k0_off1_inb i ⟨n, hk⟩ h2))
          (ix2 ⟨(y 0).val - 32 * n, by omega⟩ k) = arg4.view.read (Elt Ideal) X4 (ix2 (y 0) k) := fun k =>
        (ldRows _ ⟨n, hk⟩ _ _ _ h512).trans (by rw [hy])
      have e7 : ∀ k : Fin 4096, View.ld (arg7.view.read (Elt Ideal) (arg7.view.writes (Elt Ideal) G
          (pb_k0_t1 (F := Ideal) 𝒱 c bd i arg2 harg2 arg3 harg3 arg4 harg4 arg5 harg5 arg6 harg6 arg7 harg7 h2 X4 X5 X6 G n))) (Rect.unit (s := S512x4096) (k0_off1 ⟨n, hk⟩) S32x4096.size (k0_off1_inb i ⟨n, hk⟩ h2))
          (ix2 ⟨(y 0).val - 32 * n, by omega⟩ k) = arg7.view.read (Elt Ideal) G (ix2 (y 0) k) := fun k =>
        (ldRows _ ⟨n, hk⟩ _ _ _ h512).trans (by rw [hy]; exact eo k)
      exact congrArg (fun f => norm f _ _ _) (funext fun k => congrArg₂ res (e4 k) (e7 k))
    · rw [dif_neg h, ih (by omega) y]
      by_cases h' : (y 0).val < 32 * n
      · rw [if_pos h', if_pos (by omega)]
      · rw [if_neg h', if_neg (by have h'' : ¬ (32 * n ≤ (y 0).val ∧ (y 0).val < 32 * n + 32) := h; omega)]

end Loop

variable (m : (ℓ : Loc nD τ sig) → Buf (Elt Ideal) ℓ) (ρ : Dev nD → PrngReg)

/-- What the last point of a row block leaves: the layer norm of the residual and the accumulated product. -/
theorem lastPoint (c : Dev nD) (i : grid0.Coords) (arg2 : Memref sig .tc .vmem S512x512 .bf16) (harg2 : arg2.IsWhole) (arg3 : Memref sig .tc .vmem S512x4096 .bf16) (harg3 : arg3.IsWhole) (arg4 : Memref sig .tc .vmem S512x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x4096 .f32) (harg7 : arg7.IsWhole) (hc0 : ¬cond0_0 i) (hc1 : cond0_1 i)
    (x0 : Vec Ideal S512x512 .bf16) (x1 : Vec Ideal S512x4096 .bf16) (x2 : Vec Ideal S512x4096 .f32) (x3 x4 : Vec Ideal S1x4096 .f32) (xo5 : Vec Ideal S512x4096 .f32) (y : S512x4096.Idx) :
    out0_C_5 c i arg2 harg2 arg3 harg3 arg4 harg4 arg5 harg5 arg6 harg6 arg7 harg7 hc0 hc1 x0 x1 x2 x3 x4 xo5 y
      = norm (fun k => res (x2 (ix2 (y 0) k)) (k0_pay2 xo5 x0 x1 (ix2 (y 0) k))) (fun k => x3 (ix2 0 k)) (fun k => x4 (ix2 0 k)) (y 1) := by
  unfold out0_C_5
  rw [View.read_writes_eq_canon _ _ _ (cover0_C_5 c i arg2 harg2 arg3 harg3 arg4 harg4 arg5 harg5 arg6 harg6 arg7 harg7 hc0 hc1 x0 x1 x2 x3 x4 xo5),
    ← View.read_writes_eq_canon arg7.view arg7.view.junk _ (cover0_C_5 c i arg2 harg2 arg3 harg3 arg4 harg4 arg5 harg5 arg6 harg6 arg7 harg7 hc0 hc1 x0 x1 x2 x3 x4 xo5)]
  have hz : (![0, 0] : Fin 2 → ℕ) = fun _ => 0 := by funext a; fin_cases a <;> rfl
  have ht : (y 0).val < 32 * 16 := (y 0).isLt
  have e : Scf.trips (0#32) (Scalar.addi 0#32 16#32) 1#32 = 16 := by decide +kernel
  unfold kernelRun0_C
  dsimp only
  rw [View.writes_append, e, loop _ _ _ _ _ _ _ _ _ _ _ _ _ _ _ _ _ _ _ _ _ 16 le_rfl, if_pos ht]
  sl_unfold_words
  simp only [View.readAt_eq_ld, harg2.read_unread, harg3.read_unread, harg4.read_unread, harg5.read_unread,
    harg6.read_unread, harg7.read_unread]
  rw [View.ld_unit_zero (S := S512x4096) hz, View.ld_unit_zero (S := S512x512) hz, View.ld_unit_zero (S := S512x4096) hz]
  exact congrArg (fun f => norm f _ _ _) (funext fun k => congrArg (res _) (whole _ _ _ _ _))

/-- Point `t` of the grid is row block `t / 8` and inner block `t % 8`. -/
theorem idx : ∀ t : Fin cfg0.N, win0_0.index t = ![t.val / 8, t.val % 8] ∧ win0_1.index t = ![t.val % 8, 0]
    ∧ win0_2.index t = ![t.val / 8, 0] ∧ win0_3.index t = ![0, 0] ∧ win0_4.index t = ![0, 0] ∧ win0_5.index t = ![t.val / 8, 0] :=
  (by decide +kernel : ∀ t : Fin grid0.N, _)

/-- The product of two blocks. -/
def mulBlk (x : Vec Ideal S512x512 .bf16) (w : Vec Ideal S512x4096 .bf16) (y : S512x4096.Idx) : EReal :=
  ∑ k : Fin 512, x (ix2 (y 0) k) * w (ix2 k (y 1))

/-- The product of point `t`'s blocks. -/
def term (c : Dev nD) (t : Fin cfg0.N) (y : S512x4096.Idx) : EReal := mulBlk (iblk m c 0 t) (iblk m c 1 t) y

/-- The accumulated product after point `n`: what the output's buffer holds before the layer norm. -/
def acc (c : Dev nD) (n : ℕ) (h : n < cfg0.N) (y : S512x4096.Idx) : EReal :=
  if n % 8 = 7 then outsAt0 m c (n - 1) (Nat.lt_of_le_of_lt (Nat.sub_le _ _) h) y + term m c ⟨n, h⟩ y else outsAt0 m c n h y

/-- One step of the accumulation adds the product of the point's blocks. -/
theorem pay2 (v : Vec Ideal S512x4096 .f32) (x : Vec Ideal S512x512 .bf16) (w : Vec Ideal S512x4096 .bf16) (y : S512x4096.Idx) :
    k0_pay2 v x w y = v y + mulBlk x w y := by
  pointwise [k0_pay2, mulBlk]

/-- The first point of a row block starts from zero. -/
theorem acc_first (c : Dev nD) (t : Fin cfg0.N) (h : t.val % 8 = 0) (y : S512x4096.Idx) :
    acc m c t.val t.isLt y = 0 + term m c t y := by
  rw [acc, if_neg (by omega), outsAt0_A m c t h (by omega)]
  frame_out
  rw [pay2]
  pointwise [k0_pay1, term]

/-- Every other point adds the product of its blocks. -/
theorem acc_step (c : Dev nD) (t : Fin cfg0.N) (h : ¬t.val % 8 = 0) (y : S512x4096.Idx) :
    acc m c t.val t.isLt y = acc m c (t.val - 1) (Nat.lt_of_le_of_lt (Nat.sub_le _ _) t.isLt) y + term m c t y := by
  rw [acc, acc, if_neg (show ¬ (t.val - 1) % 8 = 7 by omega)]
  by_cases h1 : t.val % 8 = 7
  · rw [if_pos h1]
  · rw [if_neg h1, outsAt0_B m c t h h1]
    frame_out
    rw [pay2]
    rfl

/-- Entry `(r, j)` of the product of the activations and the weights. -/
def prod (a : Vec Ideal S16384x4096 .bf16) (w : Vec Ideal S4096x4096 .f32) (r : Fin 16384) (j : Fin 4096) : EReal :=
  ∑ k : Fin 4096, a (ix2 r k) * w (ix2 k j)

/-- The result: the layer norm of the residual sum's rows. -/
def out (a : Vec Ideal S16384x4096 .bf16) (w : Vec Ideal S4096x4096 .f32) (x : Vec Ideal S16384x4096 .f32) (lw lb : Vec Ideal S4096 .f32) :
    Vec Ideal S16384x4096 .f32 := fun i =>
  norm (fun j => res (x (ix2 (i 0) j)) (prod a w (i 0) j)) (fun j => lw (ix1 j)) (fun j => lb (ix1 j)) (i 1)

/-- The array that the launch fills is the result. -/
theorem final (c : Dev nD) : (dats m 0 c).arrAt 5 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  have h7 : t.val % 8 = 7 := (flush0_5 t).mp hf
  rw [outsAt0_C m c t (by omega) h7, lastPoint]
  have hs : ∀ j : Fin 4096, k0_pay2 (outsAt0 m c (t.val - 1) (Nat.lt_of_le_of_lt (Nat.sub_le _ _) t.isLt)) (iblk m c 0 t) (iblk m c 1 t) (ix2 (y 0) j)
      = 0 + ∑ s : Fin 8, term m c ⟨8 * (t.val / 8) + s.val, Pipeline.run_point_lt_of_flush t h7 s⟩ (ix2 (y 0) j) := fun j => by
    rw [pay2]
    refine Eq.trans ?_ (Pipeline.eq_sum_fin_of_reset_step_apply_of_flush (acc m c) 8 (fun _ => 0) (term m c) (acc_first m c) (acc_step m c) t h7 _)
    rw [acc, if_pos h7]
    rfl
  simp only [hs, zero_add]
  obtain ⟨e0, e1, e2, e3, e4, e5⟩ := idx t
  have hx : ∀ j : Fin 4096, (iblk m c 2 t : Vec Ideal S512x4096 .f32) (ix2 (y 0) j)
      = (m ((c : Thread nD τ).loc main_arg2) : Vec Ideal S16384x4096 .f32) (ix2 (((win0_5.blk t).view.emb y) 0) j) := fun j => by
    blk_point [iblk, V, e2, e5]
  have hw : ∀ j : Fin 4096, (iblk m c 3 t : Vec Ideal S1x4096 .f32) (ix2 0 j)
      = (m ((c : Thread nD τ).loc main_arg3) : Vec Ideal S4096 .f32) (ix1 j) := fun j => by
    blk_point [iblk, V, e3]
  have hb : ∀ j : Fin 4096, (iblk m c 4 t : Vec Ideal S1x4096 .f32) (ix2 0 j)
      = (m ((c : Thread nD τ).loc main_arg4) : Vec Ideal S4096 .f32) (ix1 j) := fun j => by
    blk_point [iblk, V, e4]
  have hy : (y 1).val = ((win0_5.blk t).view.emb y 1).val := by
    show (y 1).val = win0_5.index t 1 * 4096 + 1 * (y 1).val
    rw [e5]
    show (y 1).val = 0 * 4096 + 1 * (y 1).val
    omega
  have hp : ∀ j : Fin 4096, ∑ s : Fin 8, term m c ⟨8 * (t.val / 8) + s.val, Pipeline.run_point_lt_of_flush t h7 s⟩ (ix2 (y 0) j)
      = prod (m ((c : Thread nD τ).loc main_arg0)) (m ((c : Thread nD τ).loc main_arg1)) (((win0_5.blk t).view.emb y) 0) j := fun j => by
    refine Fin.sum_mul_add_congr fun s k hl => ?_
    obtain ⟨d0, d1, -⟩ := idx ⟨8 * (t.val / 8) + s.val, Pipeline.run_point_lt_of_flush t h7 s⟩
    have q0 : (8 * (t.val / 8) + s.val) / 8 = t.val / 8 := by omega
    have q1 : (8 * (t.val / 8) + s.val) % 8 = s.val := by omega
    simp only [q0, q1] at d0 d1
    refine congrArg₂ (· * ·) ?_ ?_
    · blk_point [iblk, V, d0, e5]
    · blk_point [iblk, V, d1]
  have key := congr (congr (congr (congrArg norm (funext fun j => congrArg₂ res (hx j) (hp j))) (funext hw)) (funext hb)) (Fin.ext hy)
  exact key

end Cert.OutProjIdeal.Normed

/-- The output projection with its residual and layer norm, and its reference, end with equal results. -/
theorem Cert.OutProjIdeal.Normed.claim : Cert.algebraic_OutProjIdeal_OutProjRefIdeal := by
  pair_intro
  · run_from Cert.OutProjIdeal.Gen.run_main m g
  · run_from Cert.OutProjRefIdeal.Value.run m' g'
    refine Eq.trans ?_ (Cert.OutProjIdeal.Normed.final m c).symm
    funext i
    pointwise [Cert.OutProjIdeal.Normed.out, Cert.OutProjIdeal.Normed.norm, Cert.OutProjIdeal.Normed.mean, Cert.OutProjIdeal.Normed.res, Cert.OutProjIdeal.Normed.prod]

end
-- ==== Proof.AttProjValue.lean ====
/- The value of the projection call of the attention columns: the result array's entry `(r, j)` is the product of row `r` of the activations with
   column `8192 + j` of the weights, at the ideal instance. -/
module

public import proofs.«01_k».proof.Defs
public import proofs.«01_k».proof.Proof.Gen.AttProjIdeal.Value
public import proofs.«01_k».proof.Proof.Gen.AttProjRefIdeal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.AttProjIdeal.Product

open Idealize.ShloMosaic Idealize.ShloMosaic.TcCoe Idealize.SL.Sem
open Cert.AttProjIdeal Cert.AttProjIdeal.Gen

variable (m : (ℓ : Loc nD τ sig) → Buf (Elt Ideal) ℓ) (ρ : Dev nD → PrngReg)

/-- Point `t` of the grid is row block `t / 6` and column block `t % 6`. -/
theorem idx : ∀ t : Fin cfg0.N, win0_0.index t = ![t.val / 6, 0] ∧ win0_1.index t = ![0, 8 + t.val % 6]
    ∧ win0_2.index t = ![t.val / 6, t.val % 6] :=
  (by decide +kernel : ∀ t : Fin grid0.N, _)

/-- Entry `(r, j)` of the product of the activations with columns 8192 to 14335 of the weights. -/
def prod (x : Vec Ideal S16384x4096 .f32) (w : Vec Ideal S4096x14336 .f32) : Vec Ideal S16384x6144 .bf16 := fun i =>
  ∑ k : Fin 4096, x (ix2 (i 0) k) * w (ix2 k ⟨8192 + (i 1).val, lt_of_lt_of_le (Nat.add_lt_add_left (i 1).isLt 8192) (by decide)⟩)

/-- What the run keeps in the scratch after point `n`: the row block of the activations. -/
theorem kept (c : Dev nD) : ∀ (n : ℕ) (h : n < cfg0.N) (y : S512x4096.Idx),
    (outsAt0 m c n h).2 y = (iblk m c 0 ⟨n, h⟩ : Vec Ideal S512x4096 .f32) y := by
  intro n
  induction n with
  | zero =>
    intro h y
    rw [outsAt0_A m c ⟨0, h⟩ rfl]
    frame_out
    pointwise [k0_pay1]
  | succ n ih =>
    intro h y
    by_cases h0 : (n + 1) % 6 = 0
    · rw [outsAt0_A m c ⟨n + 1, h⟩ h0]
      frame_out
      pointwise [k0_pay1]
    · rw [outsAt0_B m c ⟨n + 1, h⟩ h0]
      refine (ih (Nat.lt_of_succ_lt h) y).trans ?_
      have e := (idx ⟨n + 1, h⟩).1
      have e' := (idx ⟨n, Nat.lt_of_succ_lt h⟩).1
      blk_ext [iblk, e, e']

/-- The array that the launch fills is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  have hk := kept m c t.val t.isLt
  obtain ⟨e0, e1, e2⟩ := idx t
  by_cases h0 : t.val % 6 = 0
  · rw [outsAt0_A m c t h0]
    frame_out
    pointwise [k0_pay2, k0_pay1, prod]
    blk_point [iblk, V, e0, e1, e2]
  · have hk' : ∀ y, (outsAt0 m c (t.val - 1) (lt_of_le_of_lt (Nat.sub_le _ _) t.isLt)).2 y = (iblk m c 0 t : Vec Ideal S512x4096 .f32) y := by
      rw [outsAt0_B m c t h0] at hk
      exact hk
    rw [outsAt0_B m c t h0]
    frame_out
    simp only [read_unread_whole]
    pointwise [k0_pay2, prod, hk']
    blk_point [iblk, V, e0, e1, e2]

end Cert.AttProjIdeal.Product

/-- The projection and its reference end with equal results. -/
theorem Cert.AttProjIdeal.Product.claim : Cert.algebraic_AttProjIdeal_AttProjRefIdeal := by
  pair_intro
  · run_from Cert.AttProjIdeal.Gen.run_main m g
  · run_from Cert.AttProjRefIdeal.Value.run m' g'
    refine Eq.trans ?_ (Cert.AttProjIdeal.Product.final m c).symm
    funext i
    pointwise [Cert.AttProjIdeal.Product.prod]

end
-- ==== Proof.QkvProjValue.lean ====
/- The value of the projection call of the delta rule columns: the result array's entry `(r, j)` is the product of row `r` of the activations with
   column `j` of the weights, at the ideal instance. -/
module

public import proofs.«01_k».proof.Defs
public import proofs.«01_k».proof.Proof.Gen.QkvProjIdeal.Value
public import proofs.«01_k».proof.Proof.Gen.QkvProjRefIdeal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.QkvProjIdeal.Product

open Idealize.ShloMosaic Idealize.ShloMosaic.TcCoe Idealize.SL.Sem
open Cert.QkvProjIdeal Cert.QkvProjIdeal.Gen

variable (m : (ℓ : Loc nD τ sig) → Buf (Elt Ideal) ℓ) (ρ : Dev nD → PrngReg)

/-- Point `t` of the grid is row block `t / 12` and column block `t % 12`. -/
theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- Entry `(r, j)` of the product of the activations with columns 0 to 12287 of the weights. -/
def prod (x : Vec Ideal S16384x4096 .f32) (w : Vec Ideal S4096x16448 .f32) : Vec Ideal S16384x12288 .f32 := fun i =>
  ∑ k : Fin 4096, x (ix2 (i 0) k) * w (ix2 k ⟨(i 1).val, lt_of_lt_of_le (i 1).isLt (by decide)⟩)

/-- What the run keeps in the scratch after point `n`: the row block of the activations. -/
theorem kept (c : Dev nD) : ∀ (n : ℕ) (h : n < cfg0.N) (y : S512x4096.Idx),
    (outsAt0 m c n h).2 y = (iblk m c 0 ⟨n, h⟩ : Vec Ideal S512x4096 .f32) y := by
  intro n
  induction n with
  | zero =>
    intro h y
    rw [outsAt0_A m c ⟨0, h⟩ rfl]
    frame_out
    pointwise [k0_pay1]
  | succ n ih =>
    intro h y
    by_cases h0 : (n + 1) % 12 = 0
    · rw [outsAt0_A m c ⟨n + 1, h⟩ h0]
      frame_out
      pointwise [k0_pay1]
    · rw [outsAt0_B m c ⟨n + 1, h⟩ h0]
      refine (ih (Nat.lt_of_succ_lt h) y).trans ?_
      have e := (idx ⟨n + 1, h⟩).1
      have e' := (idx ⟨n, Nat.lt_of_succ_lt h⟩).1
      blk_ext [iblk, e, e']

/-- The block of the weights that the body reads at point `t`, entry by entry. -/
theorem weights (c : Dev nD) (t : Fin cfg0.N) (k : Fin 4096) (j : Fin 1024) (h : t.val % 12 * 1024 + j.val < 16448) :
    (X0_1 m c t : Vec Ideal S4096x1024 .f32) (ix2 k j)
      = (m (c.tc.loc main_arg1) : Vec Ideal S4096x16448 .f32) (ix2 k ⟨t.val % 12 * 1024 + j.val, h⟩) := by
  obtain ⟨e0, e1, e2⟩ := idx t
  unfold X0_1 Pipeline.Window.fill
  rw [dif_pos (moved0_1 t _)]
  unfold iblk
  rw [View.read_apply]
  refine (congrFun (V_main_arg1 m c) _).trans (congrArg _ (funext fun a => Fin.ext ?_))
  have e10 := congrFun e1 0
  have e11 := congrFun e1 1
  fin_cases a
  · show win0_1.index t 0 * 4096 + 1 * k.val = k.val
    simp at e10
    simp [e10]
  · show win0_1.index t 1 * 1024 + 1 * j.val = t.val % 12 * 1024 + j.val
    simp at e11
    simp [e11]

/-- Two dot products agree when their factors do, term by term. -/
theorem dot_congr (f g f' g' : Fin 4096 → Ideal .f32) (hf : ∀ k, f k = f' k) (hg : ∀ k, g k = g' k) :
    ∑ k, f k * g k = ∑ k, f' k * g' k :=
  Finset.sum_congr rfl fun k _ => congrArg₂ (· * ·) (hf k) (hg k)

/-- The array that the launch fills is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  have hk := kept m c t.val t.isLt
  obtain ⟨e0, e1, e2⟩ := idx t
  by_cases h0 : t.val % 12 = 0
  · rw [outsAt0_A m c t h0]
    frame_out
    pointwise [k0_pay2, k0_pay1, prod]
    have hj : (y 1).val < 1024 := (y 1).isLt
    refine dot_congr _ _ _ _ (fun k => ?_) (fun k => ?_)
    · blk_ext [iblk, V, e0, e2]
    · refine (weights m c t k (y 1) (by omega)).trans (congrArg _ ?_)
      refine congrArg (ix2 k) (Fin.ext ?_)
      have e21 := congrFun e2 1
      simp at e21
      show t.val % 12 * 1024 + (y 1).val = (win0_2.index t 1 * 1024 + 1 * (y 1).val)
      rw [e21]
      omega
  · have hk' : ∀ y, (outsAt0 m c (t.val - 1) (lt_of_le_of_lt (Nat.sub_le _ _) t.isLt)).2 y = (iblk m c 0 t : Vec Ideal S512x4096 .f32) y := by
      rw [outsAt0_B m c t h0] at hk
      exact hk
    rw [outsAt0_B m c t h0]
    frame_out
    simp only [read_unread_whole]
    pointwise [k0_pay2, prod, hk']
    have hj : (y 1).val < 1024 := (y 1).isLt
    refine dot_congr _ _ _ _ (fun k => ?_) (fun k => ?_)
    · blk_ext [iblk, V, e0, e2]
    · refine (weights m c t k (y 1) (by omega)).trans (congrArg _ ?_)
      refine congrArg (ix2 k) (Fin.ext ?_)
      have e21 := congrFun e2 1
      simp at e21
      show t.val % 12 * 1024 + (y 1).val = (win0_2.index t 1 * 1024 + 1 * (y 1).val)
      rw [e21]
      omega

end Cert.QkvProjIdeal.Product

/-- The projection and its reference end with equal results. -/
theorem Cert.QkvProjIdeal.Product.claim : Cert.algebraic_QkvProjIdeal_QkvProjRefIdeal := by
  pair_intro
  · run_from Cert.QkvProjIdeal.Gen.run_main m g
  · run_from Cert.QkvProjRefIdeal.Value.run m' g'
    refine Eq.trans ?_ (Cert.QkvProjIdeal.Product.final m c).symm
    funext i
    pointwise [Cert.QkvProjIdeal.Product.prod]

end
-- ==== Proof.GateProjValue.lean ====
/- The value of the projection call of the gate columns: the result array's entry `(r, j)` is the product of row `r` of the activations with
   column `12288 + j` of the weights, at the ideal instance. -/
module

public import proofs.«01_k».proof.Defs
public import proofs.«01_k».proof.Proof.Gen.GateProjIdeal.Value
public import proofs.«01_k».proof.Proof.Gen.GateProjRefIdeal.Run
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.GateProjIdeal.Product

open Idealize.ShloMosaic Idealize.ShloMosaic.TcCoe Idealize.SL.Sem
open Cert.GateProjIdeal Cert.GateProjIdeal.Gen

variable (m : (ℓ : Loc nD τ sig) → Buf (Elt Ideal) ℓ) (ρ : Dev nD → PrngReg)

/-- Point `t` of the grid is row block `t / 4` and column block `t % 4`. -/
theorem idx : ∀ t : Fin cfg0.N, win0_0.index t = ![t.val / 4, 0] ∧ win0_1.index t = ![0, 12 + t.val % 4]
    ∧ win0_2.index t = ![t.val / 4, t.val % 4] :=
  (by decide +kernel : ∀ t : Fin grid0.N, _)

/-- Entry `(r, j)` of the product of the activations with columns 12288 to 16383 of the weights. -/
def prod (x : Vec Ideal S16384x4096 .f32) (w : Vec Ideal S4096x16448 .f32) : Vec Ideal S16384x4096 .f32 := fun i =>
  ∑ k : Fin 4096, x (ix2 (i 0) k) * w (ix2 k ⟨12288 + (i 1).val, lt_of_lt_of_le (Nat.add_lt_add_left (i 1).isLt 12288) (by decide)⟩)

/-- What the run keeps in the scratch after point `n`: the row block of the activations. -/
theorem kept (c : Dev nD) : ∀ (n : ℕ) (h : n < cfg0.N) (y : S512x4096.Idx),
    (outsAt0 m c n h).2 y = (iblk m c 0 ⟨n, h⟩ : Vec Ideal S512x4096 .f32) y := by
  intro n
  induction n with
  | zero =>
    intro h y
    rw [outsAt0_A m c ⟨0, h⟩ rfl]
    frame_out
    pointwise [k0_pay1]
  | succ n ih =>
    intro h y
    by_cases h0 : (n + 1) % 4 = 0
    · rw [outsAt0_A m c ⟨n + 1, h⟩ h0]
      frame_out
      pointwise [k0_pay1]
    · rw [outsAt0_B m c ⟨n + 1, h⟩ h0]
      refine (ih (Nat.lt_of_succ_lt h) y).trans ?_
      have e := (idx ⟨n + 1, h⟩).1
      have e' := (idx ⟨n, Nat.lt_of_succ_lt h⟩).1
      blk_ext [iblk, e, e']

/-- The block of the weights that the body reads at point `t`, entry by entry. -/
theorem weights (c : Dev nD) (t : Fin cfg0.N) (k : Fin 4096) (j : Fin 1024) (h : (12 + t.val % 4) * 1024 + j.val < 16448) :
    (X0_1 m c t : Vec Ideal S4096x1024 .f32) (ix2 k j)
      = (m (c.tc.loc main_arg1) : Vec Ideal S4096x16448 .f32) (ix2 k ⟨(12 + t.val % 4) * 1024 + j.val, h⟩) := by
  obtain ⟨e0, e1, e2⟩ := idx t
  unfold X0_1 Pipeline.Window.fill
  rw [dif_pos (moved0_1 t _)]
  unfold iblk
  rw [View.read_apply]
  refine (congrFun (V_main_arg1 m c) _).trans (congrArg _ (funext fun a => Fin.ext ?_))
  have e10 := congrFun e1 0
  have e11 := congrFun e1 1
  fin_cases a
  · show win0_1.index t 0 * 4096 + 1 * k.val = k.val
    simp at e10
    simp [e10]
  · show win0_1.index t 1 * 1024 + 1 * j.val = (12 + t.val % 4) * 1024 + j.val
    simp at e11
    simp [e11]

/-- Two dot products agree when their factors do, term by term. -/
theorem dot_congr (f g f' g' : Fin 4096 → Ideal .f32) (hf : ∀ k, f k = f' k) (hg : ∀ k, g k = g' k) :
    ∑ k, f k * g k = ∑ k, f' k * g' k :=
  Finset.sum_congr rfl fun k _ => congrArg₂ (· * ·) (hf k) (hg k)

/-- The array that the launch fills is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  have hk := kept m c t.val t.isLt
  obtain ⟨e0, e1, e2⟩ := idx t
  by_cases h0 : t.val % 4 = 0
  · rw [outsAt0_A m c t h0]
    frame_out
    pointwise [k0_pay2, k0_pay1, prod]
    have hj : (y 1).val < 1024 := (y 1).isLt
    refine dot_congr _ _ _ _ (fun k => ?_) (fun k => ?_)
    · blk_ext [iblk, V, e0, e2]
    · refine (weights m c t k (y 1) (by omega)).trans (congrArg _ ?_)
      refine congrArg (ix2 k) (Fin.ext ?_)
      have e21 := congrFun e2 1
      simp at e21
      show (12 + t.val % 4) * 1024 + (y 1).val = 12288 + (win0_2.index t 1 * 1024 + 1 * (y 1).val)
      rw [e21]
      omega
  · have hk' : ∀ y, (outsAt0 m c (t.val - 1) (lt_of_le_of_lt (Nat.sub_le _ _) t.isLt)).2 y = (iblk m c 0 t : Vec Ideal S512x4096 .f32) y := by
      rw [outsAt0_B m c t h0] at hk
      exact hk
    rw [outsAt0_B m c t h0]
    frame_out
    simp only [read_unread_whole]
    pointwise [k0_pay2, prod, hk']
    have hj : (y 1).val < 1024 := (y 1).isLt
    refine dot_congr _ _ _ _ (fun k => ?_) (fun k => ?_)
    · blk_ext [iblk, V, e0, e2]
    · refine (weights m c t k (y 1) (by omega)).trans (congrArg _ ?_)
      refine congrArg (ix2 k) (Fin.ext ?_)
      have e21 := congrFun e2 1
      simp at e21
      show (12 + t.val % 4) * 1024 + (y 1).val = 12288 + (win0_2.index t 1 * 1024 + 1 * (y 1).val)
      rw [e21]
      omega

end Cert.GateProjIdeal.Product

/-- The projection and its reference end with equal results. -/
theorem Cert.GateProjIdeal.Product.claim : Cert.algebraic_GateProjIdeal_GateProjRefIdeal := by
  pair_intro
  · run_from Cert.GateProjIdeal.Gen.run_main m g
  · run_from Cert.GateProjRefIdeal.Value.run m' g'
    refine Eq.trans ?_ (Cert.GateProjIdeal.Product.final m c).symm
    funext i
    pointwise [Cert.GateProjIdeal.Product.prod]

end
-- ==== Proof.PrepMath.lean ====
/- The delta rule's convolution and normalization as plain functions of a row and a column, over the extended reals. -/
module

public import proofs.«01_k».proof.Defs
public import Idealize.ShloMosaic.Lib.Pointwise

@[expose] public section

noncomputable section

namespace Cert.PrepIdeal.Conv

open Idealize.ShloMosaic Idealize.ShloMosaic.TcCoe Idealize.SL.Sem
open Cert.PrepIdeal

variable (X : FVec Ideal S16384x12288 .f32) (K : FVec Ideal S4x12288 .f32)

/-- The input at row `r` and column `c`. -/
def at2 (r c : ℕ) : Ideal .f32 := X (ix2 ⟨r % 16384, Nat.mod_lt _ (by decide)⟩ ⟨c % 12288, Nat.mod_lt _ (by decide)⟩)

/-- The input read at two places with equal coordinates. -/
theorem at2_of (r c : ℕ) (a : Fin 16384) (b : Fin 12288) (ha : a.val = r) (hb : b.val = c) : X (ix2 a b) = at2 X r c := by
  subst ha hb
  exact congrArg₂ (fun p q => X (ix2 p q)) (Fin.ext (Nat.mod_eq_of_lt a.isLt).symm) (Fin.ext (Nat.mod_eq_of_lt b.isLt).symm)

/-- The input `k` rows before row `r` of its sequence of 8192 rows, zero before the sequence's start. -/
def past (r c k : ℕ) : Ideal .f32 := if r % 8192 < k then 0 else at2 X (r - k) c

/-- Tap `j` of column `c`. -/
def tap (j : Fin 4) (c : ℕ) : Ideal .f32 := K (ix2 j ⟨c % 12288, Nat.mod_lt _ (by decide)⟩)

/-- A tap read at a place with column `c`. -/
theorem tap_of (j : Fin 4) (c : ℕ) (b : Fin 12288) (hb : b.val = c) : K (ix2 j b) = tap K j c := by
  subst hb
  exact congrArg (fun q => K (ix2 j q)) (Fin.ext (Nat.mod_eq_of_lt b.isLt).symm)

/-- The convolution over the row and the three before it. -/
def conv (r c : ℕ) : Ideal .f32 :=
  past X r c 3 * tap K 0 c + past X r c 2 * tap K 1 c + past X r c 1 * tap K 2 c + past X r c 0 * tap K 3 c

/-- A number times its logistic. -/
def act (x : Ideal .f32) : Ideal .f32 := x * Ideal.logistic x

/-- The activated convolution. -/
def lane (r c : ℕ) : Ideal .f32 := act (conv X K r c)

/-- The reciprocal length of a row of a head. -/
def rlen (y : Fin 128 → Ideal .f32) : Ideal .f32 := Ideal.rsqrt (∑ k, y k * y k + Ideal.ofBits .f32 0x358637BD#32)

/-- An entry of a head's row: of a query, over the length and scaled; of a key, over the length; of a value, as it is. -/
def scaled (q k : Prop) [Decidable q] [Decidable k] (e : Ideal .f32) (y : Fin 128 → Ideal .f32) : Ideal .f32 :=
  e * if k then if q then rlen y * Ideal.ofBits .f32 0x3DB504F3#32 else rlen y else 1

/-- The columns convolved, activated and normalized. -/
def normed : FVec Ideal S16384x12288 .f32 := fun i =>
  scaled ((i 1).val < 4096) ((i 1).val < 8192) (lane X K (i 0).val (i 1).val)
    fun k => lane X K (i 0).val (128 * ((i 1).val / 128) + k.val)

end Cert.PrepIdeal.Conv

end
-- ==== Proof.PrepRef.lean ====
/- The reference of the delta rule's convolution and normalization, in stages: the rows moved down by three, the four taps, the
   convolution's activation, the three parts of the columns head by head, and each stage entry by entry at the ideal instance. -/
module

public import proofs.«01_k».proof.Defs
public import proofs.«01_k».proof.Proof.Gen.PrepRefIdeal.Run
public import proofs.«01_k».proof.Proof.PrepMath
public import Idealize.ShloMosaic.Lib.Pointwise
public import Idealize.ShloMosaic.Lib.Tactic

@[expose] public section

set_option maxRecDepth 16384

noncomputable section

namespace Cert.PrepRefIdeal.Stages

open Idealize.ShloMosaic Idealize.ShloMosaic.TcCoe Idealize.SL.Sem
open Cert.PrepRefIdeal Cert.PrepRefIdeal.Gen

local notation "𝕍" s => FVec Ideal s FTy.f32

/-- The sequences with three rows of zeros before each. -/
def padded (X : 𝕍 S16384x12288) : 𝕍 S2x8195x12288 :=
  pad S2x8195x12288 ![0, 3, 0] ![0, 0, 0] ![0, 0, 0] (shapeCast S2x8192x12288 X shapeCasts_S16384x12288_S2x8192x12288)
    (sitofp .f32 (constantI S_ 32 0#32)) pads_S2x8192x12288_S2x8195x12288_000_300_000 h_S_

/-- A row of taps on every row of the sequences. -/
def taps (k : 𝕍 S1x12288) : 𝕍 S2x8192x12288 :=
  broadcastInDim S2x8192x12288 ![0, 1, 2] bcast_S1x1x12288_S2x8192x12288_0_1_2
    (broadcastInDim S1x1x12288 ![2] bcast_S12288_S1x1x12288_2 (shapeCast S12288 k shapeCasts_S1x12288_S12288))

/-- The sum of the four shifted inputs times their taps. -/
def summed (X : 𝕍 S16384x12288) (K : 𝕍 S4x12288) : 𝕍 S2x8192x12288 :=
  addf (addf (addf
    (mulf (extractStridedSlice S2x8192x12288 ![0, 0, 0] (padded X) slices_S2x8195x12288_S2x8192x12288_0_0_0)
      (taps (extractStridedSlice S1x12288 ![0, 0] K slices_S4x12288_S1x12288_0_0)))
    (mulf (extractStridedSlice S2x8192x12288 ![0, 1, 0] (padded X) slices_S2x8195x12288_S2x8192x12288_0_1_0)
      (taps (extractStridedSlice S1x12288 ![1, 0] K slices_S4x12288_S1x12288_1_0))))
    (mulf (extractStridedSlice S2x8192x12288 ![0, 2, 0] (padded X) slices_S2x8195x12288_S2x8192x12288_0_2_0)
      (taps (extractStridedSlice S1x12288 ![2, 0] K slices_S4x12288_S1x12288_2_0))))
    (mulf (extractStridedSlice S2x8192x12288 ![0, 3, 0] (padded X) slices_S2x8195x12288_S2x8192x12288_0_3_0)
      (taps (extractStridedSlice S1x12288 ![3, 0] K slices_S4x12288_S1x12288_3_0)))

/-- Each entry times its logistic. -/
def active (v : 𝕍 S2x8192x12288) : 𝕍 S2x8192x12288 :=
  mulf v (Host.divf (broadcastInDim S2x8192x12288 ![] bcast_S_S2x8192x12288 (constant S_ .f32 0x3F800000#32))
    (addf (broadcastInDim S2x8192x12288 ![] bcast_S_S2x8192x12288 (constant S_ .f32 0x3F800000#32)) (Host.exp (Host.negf v))))

/-- A third of the columns, split into heads. -/
def heads (v : 𝕍 S2x8192x4096) : 𝕍 S2x32x8192x128 :=
  transpose S2x32x8192x128 [0, 2, 1, 3] (shapeCast S2x8192x32x128 v shapeCasts_S2x8192x4096_S2x8192x32x128) transposes_S2x8192x32x128_S2x32x8192x128_0_2_1_3

/-- The heads side by side again. -/
def merged (v : 𝕍 S2x32x8192x128) : 𝕍 S2x8192x4096 :=
  shapeCast S2x8192x4096 (transpose S2x8192x32x128 [0, 2, 1, 3] v transposes_S2x32x8192x128_S2x8192x32x128_0_2_1_3) shapeCasts_S2x8192x32x128_S2x8192x4096

/-- Each row of a head over its length. -/
def unit (v : 𝕍 S2x32x8192x128) : 𝕍 S2x32x8192x128 :=
  mulf v (broadcastInDim S2x32x8192x128 ![0, 1, 2, 3] bcast_S2x32x8192x1_S2x32x8192x128_0_1_2_3
    (Host.rsqrt (addf (broadcastInDim S2x32x8192x1 ![0, 1, 2] bcast_S2x32x8192_S2x32x8192x1_0_1_2
        (Host.reduceAdd (mulf v v) (constant S_ .f32 0x00000000#32) reducesTo_S2x32x8192x128_S2x32x8192_d3 h_S_))
      (broadcastInDim S2x32x8192x1 ![] bcast_S_S2x32x8192x1 (constant S_ .f32 0x358637BD#32)))))

/-- The scale on every entry. -/
def timesScale (v : 𝕍 S2x32x8192x128) : 𝕍 S2x32x8192x128 :=
  mulf v (broadcastInDim S2x32x8192x128 ![] bcast_S_S2x32x8192x128 (constant S_ .f32 0x3DB504F3#32))

/-- The three thirds side by side, the sequences one after the other. -/
def joined (q k v : 𝕍 S2x8192x4096) : 𝕍 S16384x12288 :=
  shapeCast S16384x12288 (concatenate S2x8192x12288 2 [⟨S2x8192x4096, q⟩, ⟨S2x8192x4096, k⟩, ⟨S2x8192x4096, v⟩]
    concatenates_S2x8192x4096_S2x8192x4096_S2x8192x4096_S2x8192x12288_d2) shapeCasts_S2x8192x12288_S16384x12288

/-- The reference from the activated columns on. -/
def split (v : 𝕍 S2x8192x12288) : 𝕍 S16384x12288 :=
  joined (merged (timesScale (unit (heads (extractStridedSlice S2x8192x4096 ![0, 0, 0] v slices_S2x8192x12288_S2x8192x4096_0_0_0)))))
    (merged (unit (heads (extractStridedSlice S2x8192x4096 ![0, 0, 4096] v slices_S2x8192x12288_S2x8192x4096_0_0_4096))))
    (merged (heads (extractStridedSlice S2x8192x4096 ![0, 0, 8192] v slices_S2x8192x12288_S2x8192x4096_0_0_8192)))

/-- The reference's result is its stages one after the other. -/
theorem res_eq (m : (ℓ : Loc nD τ sig) → Buf (Elt Ideal) ℓ) (c : Dev nD) :
    Cert.PrepRefIdeal.Value.res_main_v64 m c
      = split (active (summed (m ((c.tc : Thread nD τ).loc main_arg0)) (m ((c.tc : Thread nD τ).loc main_arg1)))) := rfl

open Cert.PrepIdeal.Conv

/-- An activated entry. -/
theorem active_at (v : 𝕍 S2x8192x12288) (i : S2x8192x12288.Idx) : active v i = act (v i) := by
  pointwise [active]
  rfl

/-- The whole number zero as a float is zero. -/
theorem zero_of : (FloatOps.sitofp .f32 0#32 : Ideal .f32) = 0 := by
  show (((0#32 : BitVec 32).toInt : ℝ) : EReal) = 0
  simp

/-- A shifted row of the padded sequences is an earlier row, or zero. -/
theorem past_of (X : 𝕍 S16384x12288) (b : Fin 2) (s : Fin 8192) (c : Fin 12288) (k : ℕ) (p : Prop) [Decidable p] (hp : p ↔ ¬ s.val < k)
    (f : p → Ideal .f32) (hf : ∀ h : p, f h = at2 X (b.val * 8192 + s.val - k) c.val) :
    (if h : p then f h else FloatOps.sitofp .f32 0#32) = past X (b.val * 8192 + s.val) c.val k := by
  have e : (b.val * 8192 + s.val) % 8192 = s.val := by omega
  unfold past
  rw [e]
  by_cases h : s.val < k
  · rw [if_pos h, dif_neg (fun q => hp.mp q h), zero_of]
  · rw [if_neg h, dif_pos (hp.mpr h), hf]

/-- The reference's sum of four taps is the convolution. -/
theorem summed_at (X : 𝕍 S16384x12288) (K : 𝕍 S4x12288) (b : Fin 2) (s : Fin 8192) (c : Fin 12288) :
    summed X K (ix3 b s c) = conv X K (b.val * 8192 + s.val) c.val := by
  have hs := s.isLt
  have hb := b.isLt
  pointwise [summed, padded, taps]
  unfold conv
  refine congrArg₂ (· + ·) (congrArg₂ (· + ·) (congrArg₂ (· + ·) (congrArg₂ (· * ·) ?_ (tap_of K _ _ _ rfl))
    (congrArg₂ (· * ·) ?_ (tap_of K _ _ _ rfl))) (congrArg₂ (· * ·) ?_ (tap_of K _ _ _ rfl))) (congrArg₂ (· * ·) ?_ (tap_of K _ _ _ rfl))
  · exact past_of X b s c 3 _ (by omega) _ fun h => at2_of X _ _ _ _ (by show b.val * 8192 + (s.val - 3) = _; omega) rfl
  · exact past_of X b s c 2 _ (by omega) _ fun h => at2_of X _ _ _ _ (by show b.val * 8192 + (1 + s.val - 3) = _; omega) rfl
  · exact past_of X b s c 1 _ (by omega) _ fun h => at2_of X _ _ _ _ (by show b.val * 8192 + (2 + s.val - 3) = _; omega) rfl
  · unfold past
    rw [if_neg (Nat.not_lt_zero _)]
    exact at2_of X _ _ _ _ rfl rfl

/-- A row of a head over its length, entry by entry. -/
theorem unit_at (v : 𝕍 S2x8192x4096) (b : Fin 2) (s : Fin 8192) (c : Fin 4096) :
    merged (unit (heads v)) (ix3 b s c) = v (ix3 b s c) * rlen (fun k => v (ix3 b s ⟨128 * (c.val / 128) + k.val, by omega⟩)) := by
  pointwise [merged, unit, heads]
  refine congrArg (fun f => v (ix3 b s c) * rlen f) (funext fun k => congrArg (fun q => v (ix3 b s q)) (Fin.ext ?_))
  show c.val / 128 * 128 + k.val = 128 * (c.val / 128) + k.val
  omega

/-- Scaling after the heads are joined. -/
theorem scaled_at (v : 𝕍 S2x8192x4096) (b : Fin 2) (s : Fin 8192) (c : Fin 4096) :
    merged (timesScale (unit (heads v))) (ix3 b s c) = merged (unit (heads v)) (ix3 b s c) * Ideal.ofBits .f32 0x3DB504F3#32 := by
  pointwise [merged, timesScale]

/-- Splitting into heads and joining them changes nothing. -/
theorem same_at (v : 𝕍 S2x8192x4096) (b : Fin 2) (s : Fin 8192) (c : Fin 4096) : merged (heads v) (ix3 b s c) = v (ix3 b s c) := by
  pointwise [merged, heads]

/-- The first third of the columns. -/
theorem first_at (v : 𝕍 S2x8192x12288) (b : Fin 2) (s : Fin 8192) (c : Fin 4096) :
    extractStridedSlice S2x8192x4096 ![0, 0, 0] v slices_S2x8192x12288_S2x8192x4096_0_0_0 (ix3 b s c) = v (ix3 b s ⟨c.val, by omega⟩) := by
  pointwise

/-- The second third of the columns. -/
theorem second_at (v : 𝕍 S2x8192x12288) (b : Fin 2) (s : Fin 8192) (c : Fin 4096) :
    extractStridedSlice S2x8192x4096 ![0, 0, 4096] v slices_S2x8192x12288_S2x8192x4096_0_0_4096 (ix3 b s c) = v (ix3 b s ⟨4096 + c.val, by omega⟩) := by
  pointwise

/-- The last third of the columns. -/
theorem last_at (v : 𝕍 S2x8192x12288) (b : Fin 2) (s : Fin 8192) (c : Fin 4096) :
    extractStridedSlice S2x8192x4096 ![0, 0, 8192] v slices_S2x8192x12288_S2x8192x4096_0_0_8192 (ix3 b s c) = v (ix3 b s ⟨8192 + c.val, by omega⟩) := by
  pointwise

/-- The reference's result is the plain function. -/
theorem split_eq (X : 𝕍 S16384x12288) (K : 𝕍 S4x12288) : split (active (summed X K)) = normed X K := by
  have hv : ∀ (b : Fin 2) (s : Fin 8192) (c : Fin 12288) (r j : ℕ), b.val * 8192 + s.val = r → c.val = j → active (summed X K) (ix3 b s c) = lane X K r j := by
    rintro b s c _ _ rfl rfl
    exact (active_at _ _).trans (congrArg act (summed_at X K b s c))
  generalize active (summed X K) = v at hv
  funext i
  obtain ⟨r, c, rfl⟩ : ∃ r c, i = ix2 r c := ⟨i 0, i 1, by pointwise⟩
  have hr : r.val / 8192 * 8192 + r.val % 8192 = r.val := by omega
  unfold split normed scaled
  generalize ha : merged (timesScale _) = a1
  generalize hb : merged (unit _) = a2
  generalize hc : merged (heads _) = a3
  pointwise [joined]
  by_cases h1 : c.val < 4096
  · rw [dif_pos h1, if_pos (by omega : c.val < 8192), if_pos h1, ← ha, scaled_at, unit_at, mul_assoc]
    refine congrArg₂ (· * ·) ((first_at _ _ _ _).trans (hv _ _ _ _ _ hr rfl)) (congrArg (fun f => rlen f * _) (funext fun k => ?_))
    exact (first_at _ _ _ _).trans (hv _ _ _ _ _ hr rfl)
  · by_cases h2 : c.val < 8192
    · rw [dif_neg h1, dif_pos (by omega : c.val - 4096 < 4096), if_pos h2, if_neg h1, ← hb, unit_at]
      refine congrArg₂ (· * ·) ((second_at _ _ _ _).trans (hv _ _ _ _ _ hr ?_)) (congrArg rlen (funext fun k => ?_))
      · show 4096 + (c.val - 4096) = c.val
        omega
      · refine (second_at _ _ _ _).trans (hv _ _ _ _ _ hr ?_)
        show 4096 + (128 * ((c.val - 4096) / 128) + k.val) = 128 * (c.val / 128) + k.val
        omega
    · rw [dif_neg h1, dif_neg (by omega : ¬ c.val - 4096 < 4096), if_neg h2, ← hc, same_at, mul_one]
      refine (last_at _ _ _ _).trans (hv _ _ _ _ _ hr ?_)
      show 8192 + (c.val - 4096 - 4096) = c.val
      omega

end Cert.PrepRefIdeal.Stages

end
-- ==== Proof.PrepValue.lean ====
/-
  The delta rule's convolution and normalization: the array that the kernel's launch leaves, at the ideal instance.
-/
module

public import proofs.«01_k».proof.Defs
public import proofs.«01_k».proof.Proof.Gen.PrepIdeal.Value
public import proofs.«01_k».proof.Proof.PrepMath
public import proofs.«01_k».proof.Proof.PrepRef
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.Tactic

@[expose] public section

set_option maxRecDepth 16384

noncomputable section

namespace Cert.PrepIdeal.Conv

open Idealize.ShloMosaic Idealize.ShloMosaic.TcCoe Idealize.SL.Sem
open Cert.PrepIdeal Cert.PrepIdeal.Gen

variable (m : (ℓ : Loc nD τ sig) → Buf (Elt Ideal) ℓ)

/-- Point `t` of the grid is row block `t / 24` and column block `t % 24`; the halo is the eight rows before the row block. -/
theorem idx : ∀ t : Fin cfg0.N, win0_0.index t = ![t.val / 24, t.val % 24] ∧ win0_1.index t = ![t.val / 24 * 64 - 1, t.val % 24]
    ∧ win0_2.index t = ![0, t.val % 24] ∧ win0_3.index t = ![t.val / 24, t.val % 24]
    ∧ ((grid0.coords t) 1).val = t.val / 24 % 16 ∧ ((grid0.coords t) 2).val = t.val % 24 :=
  (by decide +kernel : ∀ t : Fin grid0.N, _)

/-- A choice by a comparison of the column block's number with a bound. -/
theorem pick (n : ℕ) (hn : n < 24) (A B : Ideal .f32) :
    Scalar.select (Scalar.cmpi .slt (BitVec.ofNat 32 n) 8#32) A B = (if n < 8 then A else B)
      ∧ Scalar.select (Scalar.cmpi .slt (BitVec.ofNat 32 n) 16#32) A B = (if n < 16 then A else B)
      ∧ Scalar.select (Scalar.cmpi .eq (BitVec.ofNat 32 n) 0#32) A B = (if n = 0 then A else B) := by
  have h : ∀ n : Fin 24, Scalar.cmpi .slt (BitVec.ofNat 32 n.val) 8#32 = (if n.val < 8 then 1#1 else 0#1)
      ∧ Scalar.cmpi .slt (BitVec.ofNat 32 n.val) 16#32 = (if n.val < 16 then 1#1 else 0#1)
      ∧ Scalar.cmpi .eq (BitVec.ofNat 32 n.val) 0#32 = (if n.val = 0 then 1#1 else 0#1) := by decide +kernel
  obtain ⟨h1, h2, h3⟩ := h ⟨n, hn⟩
  rw [h1, h2, h3]
  refine ⟨?_, ?_, ?_⟩ <;> split <;> rfl

section Payload
variable (x : Vec Ideal S512x512 .f32) (h : Vec Ideal S8x512 .f32) (w : Vec Ideal S4x512 .f32) (i : grid0.Coords) (r c : Fin 512) (d : Fin 128)

/-- The block's row before, in the halo or in the block, is the sequence's. -/
theorem past_of (X : FVec Ideal S16384x12288 .f32) (R C k n : ℕ) (hk : k ≤ 3) (A : n < 8 → Ideal .f32) (B : ¬ n < 8 → Ideal .f32) (s : ℕ)
    (e : n + k = 8 + r.val) (hs : R % 8192 = 512 * s + r.val) (z : BitVec 1)
    (hz : ∀ A B : Ideal .f32, Scalar.select z A B = if s = 0 then A else B)
    (hA : ∀ q, s ≠ 0 → A q = at2 X (R - k) C) (hB : ∀ q, B q = at2 X (R - k) C) :
    (if q : n < 8 then Scalar.select z 0 (A q) else B q) = past X R C k := by
  unfold past
  by_cases q : n < 8
  · rw [dif_pos q, hz]
    by_cases s0 : s = 0
    · rw [if_pos s0, if_pos (by subst s0; omega)]
    · rw [if_neg s0, if_neg (by omega), hA q s0]
  · rw [dif_neg q, if_neg (by omega), hB]

/-- The body's activated convolution, entry by entry. -/
theorem pay2_at (X : FVec Ideal S16384x12288 .f32) (K : FVec Ideal S4x12288 .f32) (R C : ℕ) (hi : (i 1).val < 16)
    (hs : R % 8192 = 512 * (i 1).val + r.val)
    (hx : ∀ (p : Fin 512), x (ix2 p c) = at2 X (R - r.val + p.val) C)
    (hh : (i 1).val ≠ 0 → ∀ (p : Fin 8), h (ix2 p c) = at2 X (R - r.val - 8 + p.val) C)
    (hw : ∀ j : Fin 4, w (ix2 j c) = tap K j C) : k0_pay2 i x h w (ix2 r c) = lane X K R C := by
  have hr := r.isLt
  have key : past X R C 0 * tap K 3 C + past X R C 3 * tap K 0 C + past X R C 2 * tap K 1 C + past X R C 1 * tap K 2 C = conv X K R C := by
    unfold conv
    rw [add_comm (past X R C 3 * tap K 0 C + past X R C 2 * tap K 1 C + past X R C 1 * tap K 2 C), ← add_assoc, ← add_assoc]
  have e0 : x (ix2 r c) = past X R C 0 := by
    unfold past
    rw [if_neg (Nat.not_lt_zero _), hx]
    exact congrArg (fun q => at2 X q C) (by omega)
  have hz : ∀ A B : Ideal .f32, Scalar.select (Scalar.cmpi .eq (BitVec.ofNat 32 (i 1).val) 0#32) A B = if (i 1).val = 0 then A else B :=
    fun A B => (pick (i 1).val (by omega) A B).2.2
  have e3 := past_of r X R C 3 (5 + r.val) (by omega) (fun q => h (ix2 ⟨5 + r.val, q⟩ c)) (fun q => x (ix2 ⟨5 + r.val - 8, by omega⟩ c)) (i 1).val (by omega) hs _ hz
    (fun q s0 => (hh s0 _).trans (congrArg (fun q => at2 X q C) (by show R - r.val - 8 + (5 + r.val) = R - 3; omega)))
    (fun q => (hx _).trans (congrArg (fun q => at2 X q C) (by show R - r.val + (5 + r.val - 8) = R - 3; omega)))
  have e2 := past_of r X R C 2 (6 + r.val) (by omega) (fun q => h (ix2 ⟨6 + r.val, q⟩ c)) (fun q => x (ix2 ⟨6 + r.val - 8, by omega⟩ c)) (i 1).val (by omega) hs _ hz
    (fun q s0 => (hh s0 _).trans (congrArg (fun q => at2 X q C) (by show R - r.val - 8 + (6 + r.val) = R - 2; omega)))
    (fun q => (hx _).trans (congrArg (fun q => at2 X q C) (by show R - r.val + (6 + r.val - 8) = R - 2; omega)))
  have e1 := past_of r X R C 1 (7 + r.val) (by omega) (fun q => h (ix2 ⟨7 + r.val, q⟩ c)) (fun q => x (ix2 ⟨7 + r.val - 8, by omega⟩ c)) (i 1).val (by omega) hs _ hz
    (fun q s0 => (hh s0 _).trans (congrArg (fun q => at2 X q C) (by show R - r.val - 8 + (7 + r.val) = R - 1; omega)))
    (fun q => (hx _).trans (congrArg (fun q => at2 X q C) (by show R - r.val + (7 + r.val - 8) = R - 1; omega)))
  rw [← e0, ← e1, ← e2, ← e3, ← hw, ← hw, ← hw, ← hw] at key
  unfold lane act
  rw [← key]
  pointwise [k0_pay2]

variable (v : FVec Ideal S512x512 .f32) (e : ℕ) (hl : e < 24)
variable (a b : BitVec 1) (ha : a = Scalar.cmpi .slt (BitVec.ofNat 32 e) 8#32) (hb : b = Scalar.cmpi .slt (BitVec.ofNat 32 e) 16#32)

include hl ha hb in
/-- The factor the body picks by the column block's number. -/
theorem factor_at (y : Ideal .f32) (f : Fin 128 → Ideal .f32) :
    y * Scalar.select b (Scalar.select a (rlen f * Ideal.ofBits .f32 0x3DB504F3#32) (rlen f)) 1 = scaled (e < 8) (e < 16) y f := by
  subst ha hb
  rw [(pick e hl _ _).2.1, (pick e hl _ _).1]
  rfl

include hl ha hb in
/-- The second tile of 128 lanes. -/
theorem pay4_at : k0_pay4 v a b (ix2 r d) = scaled (e < 8) (e < 16) (v (ix2 r ⟨128 + d.val, by omega⟩)) fun k => v (ix2 r ⟨128 + k.val, by omega⟩) := by
  rw [← factor_at e hl a b ha hb]
  pointwise [k0_pay4]
  rfl

include hl ha hb in
/-- The third tile of 128 lanes. -/
theorem pay5_at : k0_pay5 v a b (ix2 r d) = scaled (e < 8) (e < 16) (v (ix2 r ⟨256 + d.val, by omega⟩)) fun k => v (ix2 r ⟨256 + k.val, by omega⟩) := by
  rw [← factor_at e hl a b ha hb]
  pointwise [k0_pay5]
  rfl

include hl ha hb in
/-- The last tile of 128 lanes. -/
theorem pay1_at : k0_pay1 a b (k0_pay6 v) (k0_pay7 v) (k0_pay8 v) (ix2 r d)
    = scaled (e < 8) (e < 16) (v (ix2 r ⟨384 + d.val, by omega⟩)) fun k => v (ix2 r ⟨384 + k.val, by omega⟩) := by
  rw [← factor_at e hl a b ha hb]
  pointwise [k0_pay1, k0_pay6, k0_pay7, k0_pay8]
  rfl

variable (he : (i 2).val = e)

include he hl in
/-- The first tile of 128 lanes. -/
theorem pay3_at (hv : k0_pay2 i x h w = v) : k0_pay3 i x h w (ix2 r d)
    = scaled (e < 8) (e < 16) (v (ix2 r ⟨d.val, by omega⟩)) fun k => v (ix2 r ⟨k.val, by omega⟩) := by
  rw [← factor_at e hl _ _ rfl rfl]
  subst he hv
  pointwise [k0_pay3, k0_pay2]
  rfl

include he hl in
/-- The block that the body leaves: every tile's entry, by the column's head. -/
theorem out_at (hv : k0_pay2 i x h w = v) (y : S512x512.Idx) : out0_3 i x h w y
    = scaled (e < 8) (e < 16) (v y) fun k => v (ix2 (y 0) ⟨128 * ((y 1).val / 128) + k.val, by have := (y 1).isLt; have : (y 1).val < 512 := this; omega⟩) := by
  have ex : View.ld x r0_0 = x := View.ld_unit_zero (funext fun a => by fin_cases a <;> rfl) _ _
  have eh : View.ld h r0_1 = h := View.ld_unit_zero (funext fun a => by fin_cases a <;> rfl) _ _
  have ew : View.ld w r0_2 = w := View.ld_unit_zero (funext fun a => by fin_cases a <;> rfl) _ _
  have h9 : k0_pay9 i x h w = v := by
    unfold k0_pay9
    rw [ex, eh, ew, hv]
  rw [← h9] at hv
  have hy : y = ix2 (y 0) (y 1) := by pointwise
  have same : ∀ (o : ℕ) (z : S512x128.Idx) (ho : o + 128 ≤ 512) (h0 : (y 0).val = (z 0).val) (h1 : (y 1).val = o + (z 1).val) (h2 : o % 128 = 0)
      (p : (z 1).val < 128), scaled (e < 8) (e < 16) (v (ix2 (z 0) ⟨o + (z 1).val, by omega⟩)) (fun k => v (ix2 (z 0) ⟨o + k.val, by omega⟩))
        = scaled (e < 8) (e < 16) (v y) fun k => v (ix2 (y 0) ⟨128 * ((y 1).val / 128) + k.val, by have := (y 1).isLt; have : (y 1).val < 512 := this; omega⟩) := by
    intro o z ho h0 h1 h2 p
    refine congrArg₂ (scaled (e < 8) (e < 16)) (congrArg v ?_) (funext fun k => congrArg v ?_)
    · exact (congrArg₂ ix2 (Fin.ext h0.symm : (z 0 : Fin 512) = y 0) (Fin.ext h1.symm : (⟨o + (z 1).val, by omega⟩ : Fin 512) = y 1)).trans hy.symm
    · refine congrArg₂ ix2 (Fin.ext h0.symm) (Fin.ext ?_)
      show o + k.val = 128 * ((y 1).val / 128) + k.val
      omega
  canon_tiles z hz using cover0_3 ..
  all_goals
    obtain ⟨z0, z1, rfl⟩ : ∃ z0 z1, z = ix2 z0 z1 := ⟨z 0, z 1, by pointwise⟩
  · exact (congrArg (fun v => k0_pay1 _ _ (k0_pay6 v) (k0_pay7 v) (k0_pay8 v) (ix2 z0 z1)) h9).trans ((pay1_at z0 z1 v e hl _ _ (by rw [he]) (by rw [he])).trans (same 384 _ (by omega) hz0 hz1 (by omega) z1_lt))
  · exact (congrArg (fun v => k0_pay5 v _ _ (ix2 z0 z1)) h9).trans ((pay5_at z0 z1 v e hl _ _ (by rw [he]) (by rw [he])).trans (same 256 _ (by omega) hz0 hz1 (by omega) z1_lt))
  · exact (congrArg (fun v => k0_pay4 v _ _ (ix2 z0 z1)) h9).trans ((pay4_at z0 z1 v e hl _ _ (by rw [he]) (by rw [he])).trans (same 128 _ (by omega) hz0 hz1 (by omega) z1_lt))
  · rw [ex, eh, ew]
    refine (pay3_at x h w i z0 z1 v e hl he (hv.trans h9)).trans (Eq.trans ?_ (same 0 _ (by omega) hz0 (hz1.trans (Nat.zero_add _).symm) (by omega) z1_lt))
    exact congrArg₂ (scaled (e < 8) (e < 16)) (congrArg v (congrArg (ix2 _) (Fin.ext (Nat.zero_add _).symm))) (funext fun k => congrArg v (congrArg (ix2 _) (Fin.ext (Nat.zero_add _).symm)))

end Payload

/-- The block of the input that the body reads at point `t`. -/
theorem x_at (c : Dev nD) (t : Fin cfg0.N) (p q : Fin 512) : (iblk m c 0 t : Vec Ideal S512x512 .f32) (ix2 p q)
    = at2 (m ((c : Thread nD τ).loc main_arg0)) (t.val / 24 * 512 + p.val) (t.val % 24 * 512 + q.val) := by
  obtain ⟨e0, e1, e2, e3, e4, e5⟩ := idx t
  have ht : t.val < 768 := lt_of_lt_of_eq t.isLt (by decide)
  have hp := p.isLt
  have hq := q.isLt
  refine Eq.trans ?_ (at2_of _ _ _ (⟨t.val / 24 * 512 + p.val, by omega⟩ : Fin 16384) (⟨t.val % 24 * 512 + q.val, by omega⟩ : Fin 12288) rfl rfl)
  unfold iblk
  rw [View.read_apply]
  refine (congrFun (V_main_arg0 m c) _).trans (congrArg _ (funext fun a => Fin.ext ?_))
  have e00 := congrFun e0 0
  have e01 := congrFun e0 1
  simp at e00 e01
  fin_cases a
  · show win0_0.index t 0 * 512 + 1 * p.val = t.val / 24 * 512 + p.val
    rw [e00]
    omega
  · show win0_0.index t 1 * 512 + 1 * q.val = t.val % 24 * 512 + q.val
    rw [e01]
    omega

/-- The eight rows that the body reads beside the block at point `t`. -/
theorem halo_at (c : Dev nD) (t : Fin cfg0.N) (p : Fin 8) (q : Fin 512) : (iblk m c 1 t : Vec Ideal S8x512 .f32) (ix2 p q)
    = at2 (m ((c : Thread nD τ).loc main_arg0)) ((t.val / 24 * 64 - 1) * 8 + p.val) (t.val % 24 * 512 + q.val) := by
  obtain ⟨e0, e1, e2, e3, e4, e5⟩ := idx t
  have ht : t.val < 768 := lt_of_lt_of_eq t.isLt (by decide)
  have hp := p.isLt
  have hq := q.isLt
  refine Eq.trans ?_ (at2_of _ _ _ (⟨(t.val / 24 * 64 - 1) * 8 + p.val, by omega⟩ : Fin 16384) (⟨t.val % 24 * 512 + q.val, by omega⟩ : Fin 12288) rfl rfl)
  unfold iblk
  rw [View.read_apply]
  refine (congrFun (V_main_arg0 m c) _).trans (congrArg _ (funext fun a => Fin.ext ?_))
  have e10 := congrFun e1 0
  have e11 := congrFun e1 1
  simp at e10 e11
  fin_cases a
  · show win0_1.index t 0 * 8 + 1 * p.val = (t.val / 24 * 64 - 1) * 8 + p.val
    rw [e10]
    omega
  · show win0_1.index t 1 * 512 + 1 * q.val = t.val % 24 * 512 + q.val
    rw [e11]
    omega

/-- The taps that the body reads at point `t`. -/
theorem w_at (c : Dev nD) (t : Fin cfg0.N) (p : Fin 4) (q : Fin 512) : (iblk m c 2 t : Vec Ideal S4x512 .f32) (ix2 p q)
    = tap (m ((c : Thread nD τ).loc main_arg1)) p (t.val % 24 * 512 + q.val) := by
  obtain ⟨e0, e1, e2, e3, e4, e5⟩ := idx t
  have ht : t.val < 768 := lt_of_lt_of_eq t.isLt (by decide)
  have hp := p.isLt
  have hq := q.isLt
  refine Eq.trans ?_ (tap_of _ p _ (⟨t.val % 24 * 512 + q.val, by omega⟩ : Fin 12288) rfl)
  unfold iblk
  rw [View.read_apply]
  refine (congrFun (V_main_arg1 m c) _).trans (congrArg _ (funext fun a => Fin.ext ?_))
  have e20 := congrFun e2 0
  have e21 := congrFun e2 1
  simp at e20 e21
  fin_cases a
  · show win0_2.index t 0 * 4 + 1 * p.val = p.val
    rw [e20]
    omega
  · show win0_2.index t 1 * 512 + 1 * q.val = t.val % 24 * 512 + q.val
    rw [e21]
    omega

/-- Conditions that agree pick alike. -/
theorem scaled_congr (a b a' b' : Prop) [Decidable a] [Decidable b] [Decidable a'] [Decidable b'] (ha : a ↔ a') (hb : b ↔ b')
    (e : Ideal .f32) (y : Fin 128 → Ideal .f32) : scaled a b e y = scaled a' b' e y := by
  unfold scaled
  simp only [ha, hb]

/-- The array that the launch fills is the plain function of the arguments. -/
theorem final (c : Dev nD) : (dats m 0 c).arrAt 3 cfg0.N
    = normed (m ((c : Thread nD τ).loc main_arg0)) (m ((c : Thread nD τ).loc main_arg1)) := by
  refine (dats m 0 c).arrAt_eq_of_covers 3 _ (by decide +kernel) fun t hf y => ?_
  blk_simp
  rw [after0_3]
  obtain ⟨e0, e1, e2, e3, e4, e5⟩ := idx t
  have ht : t.val < 768 := lt_of_lt_of_eq t.isLt (by decide)
  obtain ⟨r, j, rfl⟩ : ∃ (r j : Fin 512), y = ix2 r j := ⟨y 0, y 1, by pointwise⟩
  have hr := r.isLt
  have hj := j.isLt
  have e30 := congrFun e3 0
  have e31 := congrFun e3 1
  simp at e30 e31
  have hemb : (win0_3.blk t).view.emb (ix2 r j) = ix2 (⟨t.val / 24 * 512 + r.val, by omega⟩ : Fin 16384) (⟨t.val % 24 * 512 + j.val, by omega⟩ : Fin 12288) := by
    refine funext fun a => Fin.ext ?_
    fin_cases a
    · show win0_3.index t 0 * 512 + 1 * r.val = t.val / 24 * 512 + r.val
      rw [e30]
      omega
    · show win0_3.index t 1 * 512 + 1 * j.val = t.val % 24 * 512 + j.val
      rw [e31]
      omega
  rw [hemb]
  have hlane : ∀ q : Fin 512, k0_pay2 (grid0.coords t) (iblk m c 0 t : Vec Ideal S512x512 .f32) (iblk m c 1 t : Vec Ideal S8x512 .f32) (iblk m c 2 t : Vec Ideal S4x512 .f32) (ix2 r q)
      = lane (m ((c : Thread nD τ).loc main_arg0)) (m ((c : Thread nD τ).loc main_arg1)) (t.val / 24 * 512 + r.val) (t.val % 24 * 512 + q.val) := by
    intro q
    have hq := q.isLt
    refine pay2_at _ _ _ _ r q _ _ _ _ (by omega) (by omega) (fun p => ?_) (fun s0 p => ?_) (fun k => ?_)
    · exact (x_at m c t p q).trans (congrArg (fun z => at2 _ z _) (by omega))
    · exact (halo_at m c t p q).trans (congrArg (fun z => at2 _ z _) (by omega))
    · exact w_at m c t k q
  refine (out_at _ _ _ (grid0.coords t) _ (t.val % 24) (by omega) e5 rfl (ix2 r j)).trans ?_
  unfold normed
  show scaled (t.val % 24 < 8) (t.val % 24 < 16) _ _
    = scaled (t.val % 24 * 512 + j.val < 4096) (t.val % 24 * 512 + j.val < 8192) (lane _ _ (t.val / 24 * 512 + r.val) (t.val % 24 * 512 + j.val))
      fun k => lane _ _ (t.val / 24 * 512 + r.val) (128 * ((t.val % 24 * 512 + j.val) / 128) + k.val)
  have q1 : t.val % 24 < 8 ↔ t.val % 24 * 512 + j.val < 4096 := by omega
  have q2 : t.val % 24 < 16 ↔ t.val % 24 * 512 + j.val < 8192 := by omega
  rw [hlane j]
  refine (scaled_congr _ _ _ _ q1 q2 _ _).trans ?_
  refine congrArg (scaled _ _ _) (funext fun k => (hlane _).trans (congrArg (lane _ _ _) ?_))
  show t.val % 24 * 512 + (128 * (j.val / 128) + k.val) = 128 * ((t.val % 24 * 512 + j.val) / 128) + k.val
  omega

end Cert.PrepIdeal.Conv

/-- The convolution and normalization and their reference end with equal results. -/
theorem Cert.PrepIdeal.Conv.claim : Cert.algebraic_PrepIdeal_PrepRefIdeal := by
  pair_intro
  · run_from Cert.PrepIdeal.Gen.run_main m g
  · run_from Cert.PrepRefIdeal.Value.run m' g'
    refine Eq.trans ?_ (Cert.PrepIdeal.Conv.final m c).symm
    obtain ⟨h0, h1⟩ := hagree c
    rw [← h0, ← h1]
    exact (Cert.PrepRefIdeal.Stages.res_eq m' c).trans (Cert.PrepRefIdeal.Stages.split_eq _ _)

end
-- ==== Proof.FfnRef.lean ====
/- The reference of the feed-forward call, stage by stage: the gated hidden units, the output projection, the residual sum and the
   layer norm, each entry as a plain expression, at the ideal instance. -/
module

public import proofs.«01_k».proof.Defs
public import proofs.«01_k».proof.Proof.OutProjValue
public import proofs.«01_k».proof.Proof.Gen.FfnRefIdeal.Run
public import Idealize.ShloMosaic.Lib.Pointwise
public import Idealize.ShloMosaic.Lib.Tactic

@[expose] public section

set_option maxRecDepth 16384

noncomputable section
namespace Cert.FfnRefIdeal.Value
namespace Rows
open Idealize.ShloMosaic Idealize.ShloMosaic.TcCoe Idealize.SL.Sem Cert.FfnRefIdeal Cert.FfnRefIdeal.Gen
open Cert.OutProjIdeal.Normed (mean norm)

/-- The reference's gated value of two arrays. -/
def gateA (g u : FVec Ideal S16384x11008 .f32) : FVec Ideal S16384x11008 .f32 := mulf (mulf g (Host.divf (broadcastInDim S16384x11008 ![] bcast_S_S16384x11008 (constant S_ .f32 0x3F800000#32)) (addf (broadcastInDim S16384x11008 ![] bcast_S_S16384x11008 (constant S_ .f32 0x3F800000#32)) (Host.exp (Host.negf g))))) u

/-- The reference's gate projection. -/
def projA (x : FVec Ideal S16384x4096 .f32) (w : FVec Ideal S2x2x4096x11008 .f32) : FVec Ideal S16384x11008 .f32 := Host.dotGeneral dot_S16384x4096_S4096x11008_S16384x11008_1_0_0_1_n_n none x (shapeCast _ (extractStridedSlice S1x1x4096x11008 ![0, 0, 0, 0] w slices_S2x2x4096x11008_S1x1x4096x11008_0_0_0_0) shapeCasts_S1x1x4096x11008_S4096x11008)

/-- The reference's output projection. -/
def downA (h : FVec Ideal S16384x11008 .f32) (wd : FVec Ideal S2x2x11008x4096 .f32) : FVec Ideal S16384x4096 .f32 := Host.dotGeneral dot_S16384x11008_S11008x4096_S16384x4096_1_0_0_1_n_n none h (shapeCast _ (extractStridedSlice S1x1x11008x4096 ![0, 0, 0, 0] wd slices_S2x2x11008x4096_S1x1x11008x4096_0_0_0_0) shapeCasts_S1x1x11008x4096_S11008x4096)

/-- The reference's residual sum. -/
def resA (x O : FVec Ideal S16384x4096 .f32) : FVec Ideal S16384x4096 .f32 := addf (mulf (broadcastInDim S16384x4096 ![] bcast_S_S16384x4096 (constant S_ .f32 0x3FB504F3#32)) x) (mulf (broadcastInDim S16384x4096 ![] bcast_S_S16384x4096 (constant S_ .f32 0x3F000000#32)) O)

/-- The reference's layer norm. -/
def normA (A : FVec Ideal S16384x4096 .f32) (lw lb : FVec Ideal S4096 .f32) : FVec Ideal S16384x4096 .f32 := addf (mulf (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 lw))) (broadcastInDim S16384x4096 ![0, 1] bcast_S1x4096_S16384x4096_0_1 (broadcastInDim S1x4096 ![1] bcast_S4096_S1x4096_1 lb))

/-- The named result is the layer norm of the residual sum, stage by stage. -/
theorem res_eq (m : (ℓ : Loc nD τ sig) → Buf (Elt Ideal) ℓ) (c : Dev nD) :
    Value.res_main_v39 m c = normA (resA (m ((c : Thread nD τ).loc main_arg0)) (downA (gateA (projA (m ((c : Thread nD τ).loc main_arg0)) (m ((c : Thread nD τ).loc main_arg1)))
      (projA (m ((c : Thread nD τ).loc main_arg0)) (m ((c : Thread nD τ).loc main_arg2)))) (m ((c : Thread nD τ).loc main_arg3))))
      (m ((c : Thread nD τ).loc main_arg4)) (m ((c : Thread nD τ).loc main_arg5)) := rfl

/-- An entry of the gated values. -/
theorem gateA_at (g u : Vec Ideal S16384x11008 .f32) (i : S16384x11008.Idx) : gateA g u i = g i * Ideal.div 1 (1 + Ideal.exp (-g i)) * u i := by
  pointwise [gateA]

/-- An entry of a projection to the hidden units. -/
theorem projA_at (x : Vec Ideal S16384x4096 .f32) (w : Vec Ideal S2x2x4096x11008 .f32) (i : S16384x11008.Idx) :
    projA x w i = ∑ j : Fin 4096, x (ix2 (i 0) j) * w (ix4 0 0 j (i 1)) := by
  pointwise [projA]

/-- An entry of the output projection. -/
theorem downA_at (h : Vec Ideal S16384x11008 .f32) (w : Vec Ideal S2x2x11008x4096 .f32) (i : S16384x4096.Idx) :
    downA h w i = ∑ k : Fin 11008, h (ix2 (i 0) k) * w (ix4 0 0 k (i 1)) := by
  pointwise [downA]

/-- An entry of the residual sum. -/
theorem resA_at (x O : Vec Ideal S16384x4096 .f32) (i : S16384x4096.Idx) :
    resA x O i = Ideal.ofBits .f32 0x3FB504F3#32 * x i + Ideal.ofBits .f32 0x3F000000#32 * O i := by
  pointwise [resA]

/-- An entry of the layer norm is the normalized row's entry. -/
theorem normA_at (A : Vec Ideal S16384x4096 .f32) (lw lb : Vec Ideal S4096 .f32) (i : S16384x4096.Idx) :
    normA A lw lb i = norm (fun j => A (ix2 (i 0) j)) (fun j => lw (ix1 j)) (fun j => lb (ix1 j)) (i 1) := by
  pointwise [normA, Cert.OutProjIdeal.Normed.norm, Cert.OutProjIdeal.Normed.mean]

end Rows
end Cert.FfnRefIdeal.Value
end
-- ==== Proof.FfnClaim.lean ====
/- The feed-forward call's value claim: the array that the launch fills is the reference's result. -/
module

public import proofs.«01_k».proof.Proof.FfnValue
public import proofs.«01_k».proof.Proof.FfnRef

@[expose] public section

set_option maxRecDepth 16384

noncomputable section

open Idealize.ShloMosaic Idealize.ShloMosaic.TcCoe Idealize.SL.Sem

/-- The reference's result is the normalized residual sum. -/
theorem Cert.FfnRefIdeal.Value.Rows.res_out (m : (ℓ : Loc Cert.FfnRefIdeal.nD Cert.FfnRefIdeal.τ Cert.FfnRefIdeal.sig) → Buf (Elt Ideal) ℓ)
    (c : Dev Cert.FfnRefIdeal.nD) : Cert.FfnRefIdeal.Value.res_main_v39 m c
      = Cert.FfnIdeal.Normed.out (m (c.tc.loc Cert.FfnRefIdeal.main_arg0)) (m (c.tc.loc Cert.FfnRefIdeal.main_arg1))
        (m (c.tc.loc Cert.FfnRefIdeal.main_arg2)) (m (c.tc.loc Cert.FfnRefIdeal.main_arg3))
        (m (c.tc.loc Cert.FfnRefIdeal.main_arg4)) (m (c.tc.loc Cert.FfnRefIdeal.main_arg5)) := by
  funext i
  refine (congrFun (Cert.FfnRefIdeal.Value.Rows.res_eq m c) i).trans ((Cert.FfnRefIdeal.Value.Rows.normA_at _ _ _ i).trans ?_)
  refine congrArg (fun f => Cert.OutProjIdeal.Normed.norm f _ _ _) (funext fun j => ?_)
  refine (Cert.FfnRefIdeal.Value.Rows.resA_at _ _ _).trans (congrArg (Cert.FfnIdeal.Normed.res _) ?_)
  refine (Cert.FfnRefIdeal.Value.Rows.downA_at _ _ _).trans (Finset.sum_congr rfl fun k _ => congrArg (· * _) ?_)
  refine (Cert.FfnRefIdeal.Value.Rows.gateA_at _ _ _).trans (congrArg₂ Cert.FfnIdeal.Normed.gate ?_ ?_)
  · exact Cert.FfnRefIdeal.Value.Rows.projA_at _ _ _
  · exact Cert.FfnRefIdeal.Value.Rows.projA_at _ _ _

/-- The feed-forward call with its residual and layer norm, and its reference, end with equal results. -/
theorem Cert.FfnIdeal.Normed.claim : Cert.algebraic_FfnIdeal_FfnRefIdeal := by
  pair_intro
  · run_from Cert.FfnIdeal.Gen.run_main m g
  · run_from Cert.FfnRefIdeal.Value.run m' g'
    refine Eq.trans ?_ (Cert.FfnIdeal.Normed.final m c).symm
    refine (Cert.FfnRefIdeal.Value.Rows.res_out m' c).trans ?_
    obtain ⟨a0, a1, a2, a3, a4, a5⟩ := hagree c
    rw [a0, a1, a2, a3, a4, a5]

end
-- ==== Proof.RetentionRun.lean ====
/-
  The retention reference's run: the loop over the chunks leaves every buffer that it does not write as it found it, so the
  arguments end unchanged.
-/
module

public import proofs.«01_k».proof.Defs
public import proofs.«01_k».proof.Proof.Gen.ReferenceIdeal.Run
public import Idealize.ShloMosaic.Lib.Claim
public import Idealize.ShloMosaic.Lib.Quiescent
public import Idealize.ShloMosaic.Lib.Tactic

@[expose] public section

set_option maxRecDepth 16384

noncomputable section

namespace Cert.ReferenceIdeal.Fold

open Cert.ReferenceIdeal Cert.ReferenceIdeal.Gen Cert.ReferenceIdeal.Value Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The buffers that a trip of the loop writes. -/
abbrev loopW : List (Ref sig .tc) := condOps_W ++ while0Ops0_W ++ while0Ops0_1_W ++ while0Ops0_2_W ++ while0Ops0_3_W

/-- A buffer that no trip writes is as at the loop's entry, before every trip. -/
theorem loop_keeps (c : Dev nD) (r : Ref sig .tc) (hr : r ∉ loopW) :
    ∀ k, atK m k c (Proc.devRef .tc r) = entryContents preI m c (Proc.devRef .tc r)
  | 0 => rfl
  | k + 1 => by
    have hr' := hr
    simp only [loopW, List.mem_append, not_or] at hr'
    show afterL bodyI (after condOps (atK m k c)) _ = _
    simp only [bodyI, afterL_cons, afterL_nil]
    rw [after_of_writes_sub _ _ while0Ops0_3_writes hr'.2, after_of_writes_sub _ _ while0Ops0_2_writes hr'.1.2,
      after_of_writes_sub _ _ while0Ops0_1_writes hr'.1.1.2, after_of_writes_sub _ _ while0Ops0_writes hr'.1.1.1.2,
      after_of_writes_sub _ _ condOps_writes hr'.1.1.1.1]
    exact loop_keeps c r hr k

/-- The buffers that `hostOps0_5` writes, in order. -/
abbrev hostOps0_5_W : List (Ref sig .tc) := [main_v129, main_v130, main_v131, main_v132, main_v133, main_v134, main_v135, main_v136, main_cst_14, main_v137, main_v138, main_cst_15, main_v139, main_v140, main_v141, main_v142, main_v143, main_cst_16, main_v144, main_v145, main_cst_17, main_v146, main_v147, main_v148, main_v149, main_cst_18, main_v150, main_v151, main_v152, main_v153, main_v154, main_v155, main_v156, main_v157, main_v158, main_v159, main_v160]
theorem hostOps0_5_writes : (hostOps0_5 : List (HloOp τ sig (Elt F))).Forall fun op => op.writes ⊆ (hostOps0_5_W.map (Proc.devRef (τ := τ) .tc)).toFinset :=
  forall_writes_sub_of_map rfl

/-- The buffers that `hostOps0_6` writes, in order. -/
abbrev hostOps0_6_W : List (Ref sig .tc) := [main_call4_v0, main_call4_v1, main_call4_cst, main_call4_v2, main_call4_v3, main_call4_cst_0, main_call4_v4, main_call4_v5, main_v161]
theorem hostOps0_6_writes : (hostOps0_6 : List (HloOp τ sig (Elt F))).Forall fun op => op.writes ⊆ (hostOps0_6_W.map (Proc.devRef (τ := τ) .tc)).toFinset :=
  forall_writes_sub_of_map rfl

/-- The buffers that `hostOps0_7` writes, in order. -/
abbrev hostOps0_7_W : List (Ref sig .tc) := [main_v162, main_v163, main_v164]
theorem hostOps0_7_writes : (hostOps0_7 : List (HloOp τ sig (Elt F))).Forall fun op => op.writes ⊆ (hostOps0_7_W.map (Proc.devRef (τ := τ) .tc)).toFinset :=
  forall_writes_sub_of_map rfl

/-- A buffer that neither a trip nor a stretch after the loop writes ends as at the loop's entry. -/
theorem final_keeps (c : Dev nD) (r : Ref sig .tc) (hr : r ∉ loopW)
    (hp : r ∉ hostOps0_5_W ++ hostOps0_6_W ++ hostOps0_7_W) :
    finalContents condOps preI bodyI postI 64 m c (Proc.devRef .tc r) = entryContents preI m c (Proc.devRef .tc r) := by
  have hk := loop_keeps m c r hr 64
  simp only [loopW, List.mem_append, not_or] at hr hp
  show afterL postI _ _ = _
  simp only [postI, afterL_cons, afterL_nil]
  rw [after_of_writes_sub _ _ hostOps0_7_writes hp.2, after_of_writes_sub _ _ hostOps0_6_writes hp.1.2,
    after_of_writes_sub _ _ hostOps0_5_writes hp.1.1, after_of_writes_sub _ _ condOps_writes hr.1.1.1.1]
  exact hk

/-- A buffer that no stretch before the loop writes enters the loop as launched. -/
theorem entry_keeps (c : Dev nD) (r : Ref sig .tc)
    (hr : r ∉ hostOps0_W ++ hostOps0_1_W ++ hostOps0_2_W ++ hostOps0_3_W ++ hostOps0_4_W) :
    entryContents preI m c (Proc.devRef .tc r) = m ((c.tc : Thread nD τ).loc r) := by
  simp only [List.mem_append, not_or] at hr
  show afterL preI _ _ = _
  simp only [preI, afterL_cons, afterL_nil]
  rw [after_of_writes_sub _ _ hostOps0_4_writes hr.2, after_of_writes_sub _ _ hostOps0_3_writes hr.1.2,
    after_of_writes_sub _ _ hostOps0_2_writes hr.1.1.2, after_of_writes_sub _ _ hostOps0_1_writes hr.1.1.1.2,
    after_of_writes_sub _ _ hostOps0_writes hr.1.1.1.1]

/-- The retention reference runs, leaves its arguments unchanged, and ends with every counter at zero. -/
theorem frame : Cert.quiescent_ReferenceIdeal := fun m ρ _ => by
  refine (θ_run Cert.ReferenceIdeal.defs _ _).mono (fun r h => ⟨fun c => ⟨?_, ?_⟩, sem_eq_zero_of_no_sems (by decide) r.2⟩)
    (run_fold m ρ)
  · rw [h c main_arg0 (by decide)]
    exact (final_keeps m c main_arg0 (by decide +kernel) (by decide +kernel)).trans (entry_keeps m c main_arg0 (by decide +kernel))
  · rw [h c main_arg1 (by decide)]
    exact (final_keeps m c main_arg1 (by decide +kernel) (by decide +kernel)).trans (entry_keeps m c main_arg1 (by decide +kernel))

end Cert.ReferenceIdeal.Fold
-- ==== Proof.RetentionMath.lean ====
/-
  The retention's mathematics, entry by entry: the decays, the rotation, the state that the chunks carry, a chunk's result and its
  normalization.
-/
module

public import proofs.«01_k».proof.Defs
public import proofs.«01_k».proof.Proof.Gen.KernelIdeal.Value
public import Idealize.ShloMosaic.Lib.Pointwise
public import Idealize.ShloMosaic.Lib.Pipeline.ReadBack
public import Idealize.ShloMosaic.Lib.StableHlo.RunRead
public import Idealize.ShloMosaic.Lib.Claim
public import Idealize.ShloMosaic.Lib.Tactic

@[expose] public section

set_option maxRecDepth 16384

noncomputable section

namespace Cert.Retention

open Idealize.ShloMosaic Idealize.ShloMosaic.TcCoe Idealize.SL.Sem

/-- An index of a row or a column as a number. -/
def num (j : ℕ) : Ideal .f32 := ((j : ℝ) : EReal)

/-- An index as the device reads it. -/
theorem num_of (j : ℕ) (hj : j < 128) : (FloatOps.sitofp .f32 (BitVec.ofNat 32 j) : Ideal .f32) = num j := by
  show (((BitVec.ofNat 32 j).toInt : ℝ) : EReal) = ((j : ℝ) : EReal)
  have h : (BitVec.ofNat 32 j).toInt = (j : ℤ) := by
    rw [BitVec.toInt_ofNat', Int.bmod_eq_of_le] <;> omega
  rw [h]
  push_cast
  rfl

/-- The weight of row `j` of a chunk in the state after the chunk. -/
def zeta (l : Ideal .f32) (j : ℕ) : Ideal .f32 := Ideal.exp (l * (Ideal.ofBits .f32 0x42FE0000#32 - num j))

/-- The weight of the state before a chunk in the chunk's row `i`. -/
def xi (l : Ideal .f32) (i : ℕ) : Ideal .f32 := Ideal.exp (l * (num i + 1))

/-- The decay over a whole chunk. -/
def decay (l : Ideal .f32) : Ideal .f32 := Ideal.exp (l * Ideal.ofBits .f32 0x43000000#32)

/-- The decay from row `j` to row `i` of a chunk: none backwards. -/
def damp (l : Ideal .f32) (i j : ℕ) : Ideal .f32 := if 0 ≤ num i - num j then Ideal.exp (l * max (num i - num j) 0) else 0

/-- The lane half of lane `d`. -/
def half (d : Fin 128) : Fin 64 := ⟨d.val / 2, by omega⟩

/-- Row `r`, lane `d` of the rotated rows: the even and the odd lane of a pair turned by the pair's angle. -/
def rot (C S : ℕ → Fin 64 → Ideal .f32) (x : ℕ → Fin 128 → Ideal .f32) (r : ℕ) (d : Fin 128) : Ideal .f32 :=
  if d.val % 2 = 0 then x r d * C r (half d) + x r ⟨(d.val + 1) % 128, Nat.mod_lt _ (by decide)⟩ * -S r (half d)
  else x r d * C r (half d) + x r ⟨(d.val + 127) % 128, Nat.mod_lt _ (by decide)⟩ * S r (half d)

/-- The rotated and scaled keys. -/
def keys (C S : ℕ → Fin 64 → Ideal .f32) (x : ℕ → Fin 128 → Ideal .f32) (r : ℕ) (d : Fin 128) : Ideal .f32 :=
  rot C S x r d * Ideal.ofBits .f32 0x3DB504F3#32

/-- What chunk `n` adds to the state. -/
def gain (l : Ideal .f32) (k v : ℕ → Fin 128 → Ideal .f32) (n : ℕ) (d e : Fin 128) : Ideal .f32 :=
  ∑ j : Fin 128, k (128 * n + j.val) d * zeta l j.val * v (128 * n + j.val) e

/-- The state before chunk `n`. -/
def carried (l : Ideal .f32) (k v : ℕ → Fin 128 → Ideal .f32) : ℕ → Fin 128 → Fin 128 → Ideal .f32
  | 0 => fun _ _ => 0
  | n + 1 => fun d e => carried l k v n d e * decay l + gain l k v n d e

/-- Row `i` of chunk `n` before the normalization: the part from the chunk itself and the part from the state. -/
def mixed (l : Ideal .f32) (q k v : ℕ → Fin 128 → Ideal .f32) (s : Fin 128 → Fin 128 → Ideal .f32) (n i : ℕ) (e : Fin 128) : Ideal .f32 :=
  (∑ j : Fin 128, (∑ d : Fin 128, q (128 * n + i) d * k (128 * n + j.val) d) * damp l i j.val * v (128 * n + j.val) e)
    + (∑ d : Fin 128, q (128 * n + i) d * s d e) * xi l i

/-- The mean over the lanes. -/
def mean (y : Fin 128 → Ideal .f32) : Ideal .f32 := Ideal.div (∑ e : Fin 128, y e) (Ideal.ofBits .f32 0x43000000#32)

/-- The normalized lane `e`, weighted and gated. -/
def normed (y : Fin 128 → Ideal .f32) (w g : Ideal .f32) (e : Fin 128) : Ideal .f32 :=
  (y e - mean y) * Ideal.rsqrt (mean (fun e => (y e - mean y) * (y e - mean y)) + Ideal.ofBits .f32 0x3727C5AC#32) * w * (g * Ideal.logistic g)

/-- Lane `e` of row `i` of chunk `n` of a head's result. -/
def head (l : Ideal .f32) (C S : ℕ → Fin 64 → Ideal .f32) (q k v g : ℕ → Fin 128 → Ideal .f32) (w : Fin 128 → Ideal .f32) (n i : ℕ) (e : Fin 128) : Ideal .f32 :=
  normed (mixed l (rot C S q) (keys C S k) v (carried l (keys C S k) v n) n i) (w e) (g (128 * n + i) e) e

section Tables
open Cert.KernelIdeal Cert.KernelIdeal.Gen

/-- The fractions `j / 63` of the first 63 frequencies. -/
def frac : FVec Ideal S63 .f32 := Host.divf (sitofp .f32 (iotaInDim S63 32 0)) (broadcastInDim S63 ![] bcast_S_S63 (constant S_ .f32 0x427C0000#32))

/-- The evenly spaced numbers from zero to one. -/
def spaced : FVec Ideal S64 .f32 := concatenate S64 0 [⟨S63, addf (mulf (broadcastInDim S63 ![0] bcast_S1_S63_0 (shapeCast S1 (constant (F := Ideal) S_ .f32 0x00000000#32) shapeCasts_S_S1))
    (subf (broadcastInDim S63 ![] bcast_S_S63 (constant S_ .f32 0x3F800000#32)) frac))
  (mulf (broadcastInDim S63 ![0] bcast_S1_S63_0 (shapeCast S1 (constant (F := Ideal) S_ .f32 0x3F800000#32) shapeCasts_S_S1)) frac)⟩,
  ⟨S1, broadcastInDim S1 ![] bcast_S_S1 (constant (F := Ideal) S_ .f32 0x3F800000#32)⟩] concatenates_S63_S1_S64_d0

/-- The angles: position times frequency. -/
def angle : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.divf (broadcastInDim S64 ![] bcast_S_S64 (constant S_ .f32 0x3F800000#32)) (Host.powf (broadcastInDim S64 ![] bcast_S_S64 (constant S_ .f32 0x461C4000#32)) spaced))))

/-- The logarithms of the heads' decays. -/
def logs : FVec Ideal S16 .f32 :=
  Host.log1p (Host.negf (Host.exp (mulf (broadcastInDim S16 ![] bcast_S_S16 (constant S_ .f32 0x3F317218#32))
    (subf (broadcastInDim S16 ![] bcast_S_S16 (constant S_ .f32 0xC0A00000#32)) (sitofp .f32 (iotaInDim S16 32 0))))))

/-- The cosines, by row and pair. -/
def cosT (r : ℕ) (p : Fin 64) : Ideal .f32 := (Host.cos angle : FVec Ideal S8192x64 .f32) (ix2 ⟨r % 8192, Nat.mod_lt _ (by decide)⟩ p)

/-- The sines, by row and pair. -/
def sinT (r : ℕ) (p : Fin 64) : Ideal .f32 := (Host.sin angle : FVec Ideal S8192x64 .f32) (ix2 ⟨r % 8192, Nat.mod_lt _ (by decide)⟩ p)

/-- Row `r`, lane `d` of part `o` of a head of a batch entry's projections. -/
def part (P : FVec Ideal S16384x8192 .f32) (b h o : ℕ) (r : ℕ) (d : Fin 128) : Ideal .f32 :=
  P (ix2 ⟨(8192 * b + r) % 16384, Nat.mod_lt _ (by decide)⟩ ⟨(2048 * o + 128 * h + d.val) % 8192, Nat.mod_lt _ (by decide)⟩)

/-- The whole result. -/
def retained (P : FVec Ideal S16384x8192 .f32) (W : FVec Ideal S2048 .f32) (i : S16384x2048.Idx) : Ideal .f32 :=
  head (logs (ix1 ⟨(i 1).val / 128 % 16, Nat.mod_lt _ (by decide)⟩)) cosT sinT
    (part P ((i 0).val / 8192) ((i 1).val / 128) 0) (part P ((i 0).val / 8192) ((i 1).val / 128) 1)
    (part P ((i 0).val / 8192) ((i 1).val / 128) 2) (part P ((i 0).val / 8192) ((i 1).val / 128) 3)
    (fun e => W (ix1 ⟨(128 * ((i 1).val / 128) + e.val) % 2048, Nat.mod_lt _ (by decide)⟩))
    ((i 0).val % 8192 / 128) ((i 0).val % 128) ⟨(i 1).val % 128, Nat.mod_lt _ (by decide)⟩

/-- The whole result at an index given by batch entry, head, chunk, row of the chunk and lane. -/
theorem retained_eq (P : FVec Ideal S16384x8192 .f32) (W : FVec Ideal S2048 .f32) (i : S16384x2048.Idx) (b h n j : ℕ) (e : Fin 128)
    (hj : j < 128) (hn : n < 64) (h0 : (i 0).val = 8192 * b + (128 * n + j)) (h1 : (i 1).val = 128 * h + e.val) :
    retained P W i = head (logs (ix1 ⟨h % 16, Nat.mod_lt _ (by decide)⟩)) cosT sinT (part P b h 0) (part P b h 1) (part P b h 2) (part P b h 3)
      (fun e => W (ix1 ⟨(128 * h + e.val) % 2048, Nat.mod_lt _ (by decide)⟩)) n j e := by
  have he := e.isLt
  have a0 : (i 0).val / 8192 = b := by omega
  have a1 : (i 1).val / 128 = h := by omega
  have a2 : (i 0).val % 8192 / 128 = n := by omega
  have a3 : (i 0).val % 128 = j := by omega
  have a4 : (⟨(i 1).val % 128, Nat.mod_lt _ (by decide)⟩ : Fin 128) = e := Fin.ext (by show (i 1).val % 128 = e.val; omega)
  unfold retained
  simp only [a0, a1, a2, a3, a4]

variable (m : (ℓ : Loc nD τ sig) → Buf (Elt Ideal) ℓ) (c : Dev nD)

/-- The kernel's table of cosines. -/
theorem cos_table : (V m c main_v14 : FVec Ideal S8192x128 .f32) =
    shapeCast S8192x128 (broadcastInDim S8192x64x2 ![0, 1] bcast_S8192x64_S8192x64x2_0_1 (Host.cos angle)) shapeCasts_S8192x64x2_S8192x128 := by
  unfold_abbrev_sides
  after_reads_simp
  rfl

/-- The kernel's table of signed sines. -/
theorem sin_table : (V m c main_v19 : FVec Ideal S8192x128 .f32) =
    shapeCast S8192x128 (concatenate S8192x64x2 2 [⟨S8192x64x1, broadcastInDim S8192x64x1 ![0, 1] bcast_S8192x64_S8192x64x1_0_1 (Host.negf (Host.sin angle))⟩,
      ⟨S8192x64x1, broadcastInDim S8192x64x1 ![0, 1] bcast_S8192x64_S8192x64x1_0_1 (Host.sin angle)⟩] concatenates_S8192x64x1_S8192x64x1_S8192x64x2_d2) shapeCasts_S8192x64x2_S8192x128 := by
  unfold_abbrev_sides
  after_reads_simp
  rfl

/-- The kernel's logarithms, spread over the lanes. -/
theorem log_table : (V m c main_v29 : FVec Ideal S16x1x128 .f32) =
    broadcastInDim S16x1x128 ![0, 1, 2] bcast_S16x1x1_S16x1x128_0_1_2 (broadcastInDim S16x1x1 ![0] bcast_S16_S16x1x1_0 logs) := by
  unfold_abbrev_sides
  after_reads_simp
  rfl

/-- The kernel's normalization weights as one row. -/
theorem weight_row : (V m c main_v30 : FVec Ideal S1x2048 .f32) = shapeCast S1x2048 (m ((c : Thread nD τ).loc main_arg1)) shapeCasts_S2048_S1x2048 := by
  unfold_abbrev_sides
  after_reads_simp
  rfl

/-- The cosines at a row of the table. -/
theorem cosT_row (r : Fin 8192) (p : Fin 64) : cosT r.val p = (Host.cos angle : FVec Ideal S8192x64 .f32) (ix2 r p) :=
  congrArg (fun a => (Host.cos angle : FVec Ideal S8192x64 .f32) (ix2 a p)) (Fin.ext (Nat.mod_eq_of_lt r.isLt))

/-- The sines at a row of the table. -/
theorem sinT_row (r : Fin 8192) (p : Fin 64) : sinT r.val p = (Host.sin angle : FVec Ideal S8192x64 .f32) (ix2 r p) :=
  congrArg (fun a => (Host.sin angle : FVec Ideal S8192x64 .f32) (ix2 a p)) (Fin.ext (Nat.mod_eq_of_lt r.isLt))

/-- An entry of the cosines' table. -/
theorem cos_at (r : Fin 8192) (d : Fin 128) : (V m c main_v14 : FVec Ideal S8192x128 .f32) (ix2 r d) = cosT r.val (half d) := by
  rw [cos_table, cosT_row]
  pointwise [half]

/-- An entry of the signed sines' table. -/
theorem sin_at (r : Fin 8192) (d : Fin 128) : (V m c main_v19 : FVec Ideal S8192x128 .f32) (ix2 r d) = if d.val % 2 = 0 then -sinT r.val (half d) else sinT r.val (half d) := by
  rw [sin_table, sinT_row]
  pointwise [half]
  simp only [Nat.lt_one_iff]
  rfl

/-- An entry of the logarithms' table. -/
theorem log_at (h : Fin 16) (d : Fin 128) : (V m c main_v29 : FVec Ideal S16x1x128 .f32) (ix3 h 0 d) = logs (ix1 h) := by
  rw [log_table]
  pointwise

/-- An entry of the weights' row. -/
theorem weight_at (j : Fin 2048) : (V m c main_v30 : FVec Ideal S1x2048 .f32) (ix2 0 j) = (m ((c : Thread nD τ).loc main_arg1) : FVec Ideal S2048 .f32) (ix1 j) := by
  rw [weight_row]
  pointwise

end Tables
end Cert.Retention
-- ==== Proof.RetentionRef.lean ====
/-
  The retention's reference, stage by stage: the rotated queries and keys, the chunks' own part, what each chunk adds to the state, the
  part from the states, and the normalization, each entry as a plain expression, at the ideal instance.
-/
module

public import proofs.«01_k».proof.Defs
public import proofs.«01_k».proof.Proof.RetentionRun
public import proofs.«01_k».proof.Proof.RetentionMath

@[expose] public section

set_option maxRecDepth 16384

noncomputable section

namespace Cert.ReferenceIdeal.Stages

open Cert.ReferenceIdeal Cert.ReferenceIdeal.Gen Idealize.ShloMosaic Idealize.ShloMosaic.TcCoe Idealize.SL.Sem
open Cert.Retention (num num_of zeta xi decay damp half rot keys gain carried mixed mean normed head cosT sinT part retained logs angle)

/-- The projections, by batch entry. -/
def batched (P : FVec Ideal S16384x8192 .f32) : FVec Ideal S2x8192x8192 .f32 := shapeCast S2x8192x8192 P shapeCasts_S16384x8192_S2x8192x8192
/-- The queries' columns. -/
def slab0 (P : FVec Ideal S16384x8192 .f32) : FVec Ideal S2x8192x2048 .f32 := extractStridedSlice S2x8192x2048 ![0, 0, 0] (batched P) slices_S2x8192x8192_S2x8192x2048_0_0_0
/-- The keys' columns. -/
def slab1 (P : FVec Ideal S16384x8192 .f32) : FVec Ideal S2x8192x2048 .f32 := extractStridedSlice S2x8192x2048 ![0, 0, 2048] (batched P) slices_S2x8192x8192_S2x8192x2048_0_0_2048
/-- The values' columns. -/
def slab2 (P : FVec Ideal S16384x8192 .f32) : FVec Ideal S2x8192x2048 .f32 := extractStridedSlice S2x8192x2048 ![0, 0, 4096] (batched P) slices_S2x8192x8192_S2x8192x2048_0_0_4096
/-- The gates' columns. -/
def slab3 (P : FVec Ideal S16384x8192 .f32) : FVec Ideal S2x8192x2048 .f32 := extractStridedSlice S2x8192x2048 ![0, 0, 6144] (batched P) slices_S2x8192x8192_S2x8192x2048_0_0_6144
/-- A slab by heads. -/
def heads (x : FVec Ideal S2x8192x2048 .f32) : FVec Ideal S2x16x8192x128 .f32 :=
  transpose S2x16x8192x128 [0, 2, 1, 3] (shapeCast S2x8192x16x128 x shapeCasts_S2x8192x2048_S2x8192x16x128) transposes_S2x8192x16x128_S2x16x8192x128_0_2_1_3
/-- A table over batch entries and heads. -/
def spread (t : FVec Ideal S8192x64 .f32) : FVec Ideal S2x16x8192x64 .f32 :=
  broadcastInDim S2x16x8192x64 ![0, 1, 2, 3] bcast_S1x1x8192x64_S2x16x8192x64_0_1_2_3 (broadcastInDim S1x1x8192x64 ![2, 3] bcast_S8192x64_S1x1x8192x64_2_3 t)
/-- The even lanes. -/
def evens (x : FVec Ideal S2x16x8192x128 .f32) : FVec Ideal S2x16x8192x64 .f32 := Host.slice S2x16x8192x64 ![0, 0, 0, 0] ![1, 1, 1, 2] x slicesBy_S2x16x8192x128_S2x16x8192x64_0s1_0s1_0s1_0s2
/-- The odd lanes. -/
def odds (x : FVec Ideal S2x16x8192x128 .f32) : FVec Ideal S2x16x8192x64 .f32 := Host.slice S2x16x8192x64 ![0, 0, 0, 1] ![1, 1, 1, 2] x slicesBy_S2x16x8192x128_S2x16x8192x64_0s1_0s1_0s1_1s2
/-- The rotated rows. -/
def turned (x : FVec Ideal S2x16x8192x128 .f32) : FVec Ideal S2x16x8192x128 .f32 :=
  shapeCast S2x16x8192x128 (concatenate S2x16x8192x64x2 4
    [⟨S2x16x8192x64x1, broadcastInDim S2x16x8192x64x1 ![0, 1, 2, 3] bcast_S2x16x8192x64_S2x16x8192x64x1_0_1_2_3 (subf (mulf (evens x) (spread (Host.cos angle))) (mulf (odds x) (spread (Host.sin angle))))⟩,
     ⟨S2x16x8192x64x1, broadcastInDim S2x16x8192x64x1 ![0, 1, 2, 3] bcast_S2x16x8192x64_S2x16x8192x64x1_0_1_2_3 (addf (mulf (evens x) (spread (Host.sin angle))) (mulf (odds x) (spread (Host.cos angle))))⟩]
    concatenates_S2x16x8192x64x1_S2x16x8192x64x1_S2x16x8192x64x2_d4) shapeCasts_S2x16x8192x64x2_S2x16x8192x128
/-- Rows by chunks. -/
def chunked (x : FVec Ideal S2x16x8192x128 .f32) : FVec Ideal S2x16x64x128x128 .f32 := shapeCast S2x16x64x128x128 x shapeCasts_S2x16x8192x128_S2x16x64x128x128
/-- The scaled keys. -/
def scaled (x : FVec Ideal S2x16x8192x128 .f32) : FVec Ideal S2x16x8192x128 .f32 := mulf x (broadcastInDim S2x16x8192x128 ![] bcast_S_S2x16x8192x128 (constant S_ .f32 0x3DB504F3#32))
/-- The queries by chunks. -/
def qs (P : FVec Ideal S16384x8192 .f32) : FVec Ideal S2x16x64x128x128 .f32 := chunked (turned (heads (slab0 P)))
/-- The keys by chunks. -/
def ks (P : FVec Ideal S16384x8192 .f32) : FVec Ideal S2x16x64x128x128 .f32 := chunked (scaled (turned (heads (slab1 P))))
/-- The values by chunks. -/
def vs (P : FVec Ideal S16384x8192 .f32) : FVec Ideal S2x16x64x128x128 .f32 := chunked (heads (slab2 P))
/-- The rows' numbers. -/
def nums : FVec Ideal S128 .f32 := sitofp .f32 (iotaInDim S128 32 0)
/-- The differences of the rows' numbers. -/
def rels : FVec Ideal S128x128 .f32 := subf (broadcastInDim S128x128 ![0, 1] bcast_S128x1_S128x128_0_1 (broadcastInDim S128x1 ![0] bcast_S128_S128x1_0 nums))
  (broadcastInDim S128x128 ![0, 1] bcast_S1x128_S128x128_0_1 (broadcastInDim S1x128 ![1] bcast_S128_S1x128_1 nums))
/-- The decays from row to row. -/
def damps : FVec Ideal S16x128x128 .f32 :=
  select (broadcastInDim S16x128x128 ![1, 2] bcast_S128x128_S16x128x128_1_2 (cmpf .oge rels (broadcastInDim S128x128 ![] bcast_S_S128x128 (constant S_ .f32 0x00000000#32))))
    (Host.exp (mulf (broadcastInDim S16x128x128 ![0, 1, 2] bcast_S16x1x1_S16x128x128_0_1_2 (broadcastInDim S16x1x1 ![0] bcast_S16_S16x1x1_0 logs))
      (broadcastInDim S16x128x128 ![0, 1, 2] bcast_S1x128x128_S16x128x128_0_1_2 (broadcastInDim S1x128x128 ![1, 2] bcast_S128x128_S1x128x128_1_2
        (maximumf rels (broadcastInDim S128x128 ![] bcast_S_S128x128 (constant S_ .f32 0x00000000#32)))))))
    (broadcastInDim S16x128x128 ![] bcast_S_S16x128x128 (constant (F := Ideal) S_ .f32 0x00000000#32))
/-- The weights of the rows in the state. -/
def zetas : FVec Ideal S16x128 .f32 := Host.exp (mulf (broadcastInDim S16x128 ![0, 1] bcast_S16x1_S16x128_0_1 (broadcastInDim S16x1 ![0] bcast_S16_S16x1_0 logs))
  (broadcastInDim S16x128 ![0, 1] bcast_S1x128_S16x128_0_1 (broadcastInDim S1x128 ![1] bcast_S128_S1x128_1 (subf (broadcastInDim S128 ![] bcast_S_S128 (constant S_ .f32 0x42FE0000#32)) nums))))
/-- The weights of the state in the rows. -/
def xis : FVec Ideal S16x128 .f32 := Host.exp (mulf (broadcastInDim S16x128 ![0, 1] bcast_S16x1_S16x128_0_1 (broadcastInDim S16x1 ![0] bcast_S16_S16x1_0 logs))
  (broadcastInDim S16x128 ![0, 1] bcast_S1x128_S16x128_0_1 (broadcastInDim S1x128 ![1] bcast_S128_S1x128_1 (addf nums (broadcastInDim S128 ![] bcast_S_S128 (constant S_ .f32 0x3F800000#32))))))
/-- The decays over a chunk. -/
def decays : FVec Ideal S16x1x1 .f32 := broadcastInDim S16x1x1 ![0] bcast_S16_S16x1x1_0 (Host.exp (mulf logs (broadcastInDim S16 ![] bcast_S_S16 (constant S_ .f32 0x43000000#32))))
/-- A weight per row over all entries. -/
def rowwise (t : FVec Ideal S16x128 .f32) : FVec Ideal S2x16x64x128x128 .f32 :=
  broadcastInDim S2x16x64x128x128 ![0, 1, 2, 3, 4] bcast_S1x16x1x128x1_S2x16x64x128x128_0_1_2_3_4 (broadcastInDim S1x16x1x128x1 ![1, 2, 3, 4] bcast_S16x1x128x1_S1x16x1x128x1_1_2_3_4
    (broadcastInDim S16x1x128x1 ![0, 2] bcast_S16x128_S16x1x128x1_0_2 t))
/-- The chunks' own part. -/
def intra (q k v : FVec Ideal S2x16x64x128x128 .f32) (a : FVec Ideal S16x128x128 .f32) : FVec Ideal S2x16x64x128x128 .f32 :=
  Host.dotGeneral dot_S2x16x64x128x128_S2x16x64x128x128_S2x16x64x128x128_4_3_3_4_012_012 none
    (mulf (Host.dotGeneral dot_S2x16x64x128x128_S2x16x64x128x128_S2x16x64x128x128_4_4_3_3_012_012 none q k)
      (broadcastInDim S2x16x64x128x128 ![0, 1, 2, 3, 4] bcast_S1x16x1x128x128_S2x16x64x128x128_0_1_2_3_4 (broadcastInDim S1x16x1x128x128 ![1, 2, 3, 4] bcast_S16x1x128x128_S1x16x1x128x128_1_2_3_4
        (broadcastInDim S16x1x128x128 ![0, 2, 3] bcast_S16x128x128_S16x1x128x128_0_2_3 a)))) v
/-- What each chunk adds to the state. -/
def gains (k v : FVec Ideal S2x16x64x128x128 .f32) (z : FVec Ideal S16x128 .f32) : FVec Ideal S64x2x16x128x128 .f32 :=
  transpose S64x2x16x128x128 [2, 0, 1, 3, 4] (Host.dotGeneral dot_S2x16x64x128x128_S2x16x64x128x128_S2x16x64x128x128_3_3_4_4_012_012 none (mulf k (rowwise z)) v) transposes_S2x16x64x128x128_S64x2x16x128x128_2_0_1_3_4
/-- The part from the states. -/
def cross (q : FVec Ideal S2x16x64x128x128 .f32) (s : FVec Ideal S64x2x16x128x128 .f32) (x : FVec Ideal S16x128 .f32) : FVec Ideal S2x16x64x128x128 .f32 :=
  mulf (Host.dotGeneral dot_S2x16x64x128x128_S2x16x64x128x128_S2x16x64x128x128_4_3_3_4_012_012 none q (transpose S2x16x64x128x128 [1, 2, 0, 3, 4] s transposes_S64x2x16x128x128_S2x16x64x128x128_1_2_0_3_4)) (rowwise x)
/-- The two parts' sum, by rows. -/
def joined (a b : FVec Ideal S2x16x64x128x128 .f32) : FVec Ideal S2x16x8192x128 .f32 := shapeCast S2x16x8192x128 (addf a b) shapeCasts_S2x16x64x128x128_S2x16x8192x128
/-- The means over the lanes. -/
def means (y : FVec Ideal S2x16x8192x128 .f32) : FVec Ideal S2x16x8192x1 .f32 :=
  Host.divf (broadcastInDim S2x16x8192x1 ![0, 1, 2] bcast_S2x16x8192_S2x16x8192x1_0_1_2 (Host.reduceAdd y (constant S_ .f32 0x00000000#32) reducesTo_S2x16x8192x128_S2x16x8192_d3 h_S_))
    (broadcastInDim S2x16x8192x1 ![] bcast_S_S2x16x8192x1 (constant S_ .f32 0x43000000#32))
/-- The rows less their means. -/
def centred (y : FVec Ideal S2x16x8192x128 .f32) : FVec Ideal S2x16x8192x128 .f32 :=
  subf y (broadcastInDim S2x16x8192x128 ![0, 1, 2, 3] bcast_S2x16x8192x1_S2x16x8192x128_0_1_2_3 (means y))
/-- The normalized and weighted rows. -/
def weighted (y : FVec Ideal S2x16x8192x128 .f32) (w : FVec Ideal S2048 .f32) : FVec Ideal S2x16x8192x128 .f32 :=
  mulf (mulf (centred y) (broadcastInDim S2x16x8192x128 ![0, 1, 2, 3] bcast_S2x16x8192x1_S2x16x8192x128_0_1_2_3
      (Host.rsqrt (addf (means (mulf (centred y) (centred y))) (broadcastInDim S2x16x8192x1 ![] bcast_S_S2x16x8192x1 (constant S_ .f32 0x3727C5AC#32))))))
    (broadcastInDim S2x16x8192x128 ![0, 1, 2, 3] bcast_S1x16x1x128_S2x16x8192x128_0_1_2_3 (broadcastInDim S1x16x1x128 ![1, 2, 3] bcast_S16x1x128_S1x16x1x128_1_2_3 (shapeCast S16x1x128 w shapeCasts_S2048_S16x1x128)))
/-- The gated rows. -/
def gated (y : FVec Ideal S2x16x8192x128 .f32) (g : FVec Ideal S2x8192x2048 .f32) : FVec Ideal S16384x2048 .bf16 :=
  truncf .bf16 (shapeCast S16384x2048 (mulf (shapeCast S2x8192x2048 (transpose S2x8192x16x128 [0, 2, 1, 3] y transposes_S2x16x8192x128_S2x8192x16x128_0_2_1_3) shapeCasts_S2x8192x16x128_S2x8192x2048)
    (mulf g (Host.divf (broadcastInDim S2x8192x2048 ![] bcast_S_S2x8192x2048 (constant S_ .f32 0x3F800000#32))
      (addf (broadcastInDim S2x8192x2048 ![] bcast_S_S2x8192x2048 (constant S_ .f32 0x3F800000#32)) (Host.exp (Host.negf g)))))) shapeCasts_S2x8192x2048_S16384x2048) bitsLt_bf16_f32

section At
variable (P : FVec Ideal S16384x8192 .f32) (b : Fin 2) (h : Fin 16) (r : Fin 8192) (n : Fin 64) (i j d e : Fin 128)

/-- A query. -/
theorem slab0_at : heads (slab0 P) (ix4 b h r d) = part P b.val h.val 0 r.val d := by
  pointwise [heads, slab0, batched, part]
  refine congrArg P (funext fun a => Fin.ext ?_)
  fin_cases a
  · show b.val * 8192 + r.val = (8192 * b.val + r.val) % 16384
    omega
  · show h.val * 128 + d.val = (128 * h.val + d.val) % 8192
    omega

/-- A key. -/
theorem slab1_at : heads (slab1 P) (ix4 b h r d) = part P b.val h.val 1 r.val d := by
  pointwise [heads, slab1, batched, part]
  refine congrArg P (funext fun a => Fin.ext ?_)
  fin_cases a
  · show b.val * 8192 + r.val = (8192 * b.val + r.val) % 16384
    omega
  · show 2048 + (h.val * 128 + d.val) = (2048 + 128 * h.val + d.val) % 8192
    omega

/-- A value. -/
theorem slab2_at : heads (slab2 P) (ix4 b h r d) = part P b.val h.val 2 r.val d := by
  pointwise [heads, slab2, batched, part]
  refine congrArg P (funext fun a => Fin.ext ?_)
  fin_cases a
  · show b.val * 8192 + r.val = (8192 * b.val + r.val) % 16384
    omega
  · show 4096 + (h.val * 128 + d.val) = (4096 + 128 * h.val + d.val) % 8192
    omega

/-- A gate. -/
theorem slab3_at (k : Fin 2048) (hk : k.val = 128 * h.val + d.val) : slab3 P (ix3 b r k) = part P b.val h.val 3 r.val d := by
  pointwise [slab3, batched, part]
  refine congrArg P (funext fun a => Fin.ext ?_)
  fin_cases a
  · show b.val * 8192 + r.val = (8192 * b.val + r.val) % 16384
    omega
  · show 6144 + k.val = (6144 + 128 * h.val + d.val) % 8192
    omega

/-- A rotated entry: the reference's two lanes of a pair are the rotation's. -/
theorem turned_at (x : FVec Ideal S2x16x8192x128 .f32) (X : ℕ → Fin 128 → Ideal .f32) (hx : ∀ d : Fin 128, x (ix4 b h r d) = X r.val d) :
    turned x (ix4 b h r d) = rot cosT sinT X r.val d := by
  have hd := d.isLt
  pointwise [turned, evens, odds, spread]
  have e0 : x (ix4 b h r ⟨2 * (d.val / 2), by omega⟩) = X r.val ⟨2 * (d.val / 2), by omega⟩ := hx _
  have e1 : x (ix4 b h r ⟨1 + 2 * (d.val / 2), by omega⟩) = X r.val ⟨1 + 2 * (d.val / 2), by omega⟩ := hx _
  have ec : Ideal.cos (angle (ix2 r ⟨d.val / 2, by omega⟩)) = cosT r.val (half d) := (Cert.Retention.cosT_row r (half d)).symm
  have es : Ideal.sin (angle (ix2 r ⟨d.val / 2, by omega⟩)) = sinT r.val (half d) := (Cert.Retention.sinT_row r (half d)).symm
  unfold rot
  by_cases hp : d.val % 2 = 0
  · have i0 : (⟨2 * (d.val / 2), by omega⟩ : Fin 128) = d := Fin.ext (by show 2 * (d.val / 2) = d.val; omega)
    have i1 : (⟨1 + 2 * (d.val / 2), by omega⟩ : Fin 128) = ⟨(d.val + 1) % 128, Nat.mod_lt _ (by decide)⟩ := Fin.ext (by show 1 + 2 * (d.val / 2) = (d.val + 1) % 128; omega)
    rw [dif_pos (by omega), if_pos hp]
    refine (congrArg₂ (· - ·) (congrArg₂ (· * ·) e0 ec) (congrArg₂ (· * ·) e1 es)).trans ?_
    rw [i0, i1]
    exact (sub_eq_add_neg _ _).trans (congrArg (_ + ·) (mul_neg (α := EReal) _ _).symm)
  · have i0 : (⟨1 + 2 * (d.val / 2), by omega⟩ : Fin 128) = d := Fin.ext (by show 1 + 2 * (d.val / 2) = d.val; omega)
    have i1 : (⟨2 * (d.val / 2), by omega⟩ : Fin 128) = ⟨(d.val + 127) % 128, Nat.mod_lt _ (by decide)⟩ := Fin.ext (by show 2 * (d.val / 2) = (d.val + 127) % 128; omega)
    rw [dif_neg (by omega), if_neg hp]
    refine (congrArg₂ (· + ·) (congrArg₂ (· * ·) e0 es) (congrArg₂ (· * ·) e1 ec)).trans ?_
    rw [i0, i1]
    exact add_comm _ _

/-- A row of a chunk. -/
theorem chunked_at (x : FVec Ideal S2x16x8192x128 .f32) : chunked x (ix5 b h n j d) = x (ix4 b h ⟨n.val * 128 + j.val, by omega⟩ d) := by
  pointwise [chunked]

/-- A scaled entry. -/
theorem scaled_at (x : FVec Ideal S2x16x8192x128 .f32) : scaled x (ix4 b h r d) = x (ix4 b h r d) * Ideal.ofBits .f32 0x3DB504F3#32 := by
  pointwise [scaled]

/-- A decay from row to row. -/
theorem damps_at : damps (ix3 h i j) = damp (logs (ix1 h)) i.val j.val := by
  pointwise [damps, damp, rels, nums]
  rw [num_of _ i.isLt, num_of _ j.isLt]

/-- A row's weight in the state. -/
theorem zetas_at : zetas (ix2 h j) = zeta (logs (ix1 h)) j.val := by
  pointwise [zetas, zeta, nums]
  rw [num_of _ j.isLt]

/-- The state's weight in a row. -/
theorem xis_at : xis (ix2 h j) = xi (logs (ix1 h)) j.val := by
  pointwise [xis, xi, nums]
  rw [num_of _ j.isLt]

/-- A head's decay over a chunk. -/
theorem decays_at : decays (ix3 h 0 0) = decay (logs (ix1 h)) := by
  pointwise [decays, decay]

/-- An entry of the chunks' own part. -/
theorem intra_at (q k v : FVec Ideal S2x16x64x128x128 .f32) (a : FVec Ideal S16x128x128 .f32) : intra q k v a (ix5 b h n i e)
    = ∑ j : Fin 128, (∑ d : Fin 128, q (ix5 b h n i d) * k (ix5 b h n j d)) * a (ix3 h i j) * v (ix5 b h n j e) := by
  pointwise [intra]
/-- An entry of what a chunk adds. -/
theorem gains_at (k v : FVec Ideal S2x16x64x128x128 .f32) (z : FVec Ideal S16x128 .f32) : gains k v z (ix5 n b h d e)
    = ∑ j : Fin 128, k (ix5 b h n j d) * z (ix2 h j) * v (ix5 b h n j e) := by
  pointwise [gains, rowwise]
/-- An entry of the part from the states. -/
theorem cross_at (q : FVec Ideal S2x16x64x128x128 .f32) (s : FVec Ideal S64x2x16x128x128 .f32) (x : FVec Ideal S16x128 .f32) : cross q s x (ix5 b h n i e)
    = (∑ d : Fin 128, q (ix5 b h n i d) * s (ix5 n b h d e)) * x (ix2 h i) := by
  pointwise [cross, rowwise]
/-- An entry of the sum. -/
theorem joined_at (x y : FVec Ideal S2x16x64x128x128 .f32) : joined x y (ix4 b h r e)
    = x (ix5 b h ⟨r.val / 128, by omega⟩ ⟨r.val % 128, by omega⟩ e) + y (ix5 b h ⟨r.val / 128, by omega⟩ ⟨r.val % 128, by omega⟩ e) := by
  pointwise [joined]
/-- An entry of the normalized rows. -/
theorem weighted_at (y : FVec Ideal S2x16x8192x128 .f32) (w : FVec Ideal S2048 .f32) : weighted y w (ix4 b h r e)
    = (y (ix4 b h r e) - mean (fun e => y (ix4 b h r e)))
      * Ideal.rsqrt (mean (fun e => (y (ix4 b h r e) - mean (fun e => y (ix4 b h r e))) * (y (ix4 b h r e) - mean (fun e => y (ix4 b h r e)))) + Ideal.ofBits .f32 0x3727C5AC#32)
      * w (ix1 ⟨h.val * 128 + e.val, by omega⟩) := by
  pointwise [weighted, centred, means, mean]
/-- An entry of the gated rows. -/
theorem gated_at (y : FVec Ideal S2x16x8192x128 .f32) (g : FVec Ideal S2x8192x2048 .f32) (i : S16384x2048.Idx)
    (h0 : (i 0).val = 8192 * b.val + r.val) (h1 : (i 1).val = 128 * h.val + e.val) (k : Fin 2048) (hk : k.val = 128 * h.val + e.val) :
    gated y g i = y (ix4 b h r e) * (g (ix3 b r k) * Ideal.logistic (g (ix3 b r k))) := by
  obtain ⟨i0, i1, rfl⟩ : ∃ (i0 : Fin 16384) (i1 : Fin 2048), i = ix2 i0 i1 := ⟨i 0, i 1, funext fun a => by fin_cases a <;> rfl⟩
  have h0 : i0.val = 8192 * b.val + r.val := h0
  have h1 : i1.val = 128 * h.val + e.val := h1
  pointwise [gated, Ideal.logistic]
  have a0 : (⟨i0.val / 8192, by omega⟩ : Fin 2) = b := Fin.ext (by show i0.val / 8192 = b.val; omega)
  have a1 : (⟨i1.val / 128, by omega⟩ : Fin 16) = h := Fin.ext (by show i1.val / 128 = h.val; omega)
  have a2 : (⟨i0.val % 8192, by omega⟩ : Fin 8192) = r := Fin.ext (by show i0.val % 8192 = r.val; omega)
  have a3 : (⟨i1.val % 128, by omega⟩ : Fin 128) = e := Fin.ext (by show i1.val % 128 = e.val; omega)
  have a4 : i1 = k := Fin.ext (h1.trans hk.symm)
  rw [a0, a1, a2, a3, a4]

end At

end Cert.ReferenceIdeal.Stages
-- ==== Proof.RetentionReads.lean ====
/-
  What the retention reference's buffers hold before and after its loop, as the stages of its arguments.
-/
module

public import proofs.«01_k».proof.Defs
public import proofs.«01_k».proof.Proof.RetentionRef
public import Idealize.ShloMosaic.Lib.StableHlo.RunRead

@[expose] public section

set_option maxRecDepth 16384
set_option maxHeartbeats 4000000

noncomputable section

namespace Cert.ReferenceIdeal.Stages

open Cert.ReferenceIdeal Cert.ReferenceIdeal.Gen Cert.ReferenceIdeal.Value Idealize.ShloMosaic Idealize.ShloMosaic.TcCoe Idealize.SL.Sem
open Idealize.ShloMosaic.StableHlo

variable (m : (ℓ : Loc nD τ sig) → Buf (Elt Ideal) ℓ) (c : Dev nD)

/-- The projections. -/
abbrev P : FVec Ideal S16384x8192 .f32 := m ((c.tc : Thread nD τ).loc main_arg0)
/-- The normalization's weights. -/
abbrev W : FVec Ideal S2048 .f32 := m ((c.tc : Thread nD τ).loc main_arg1)

/-- The gates at the loop's entry. -/
theorem entry_v4 : entryContents preI m c (Proc.devRef .tc main_v4) = slab3 (P m c) := by
  show afterL preI _ _ = _
  rw [afterL_eq_after_flatten]
  unfold_abbrev_sides
  after_reads_simp
  rfl

/-- The queries at the loop's entry. -/
theorem entry_v91 : entryContents preI m c (Proc.devRef .tc main_v91) = qs (P m c) := by
  show afterL preI _ _ = _
  rw [afterL_eq_after_flatten]
  unfold_abbrev_sides
  after_reads_simp
  rfl

/-- The chunks' own part at the loop's entry. -/
theorem entry_v99 : entryContents preI m c (Proc.devRef .tc main_v99) = intra (qs (P m c)) (ks (P m c)) (vs (P m c)) damps := by
  show afterL preI _ _ = _
  rw [afterL_eq_after_flatten]
  unfold_abbrev_sides
  after_reads_simp
  rfl

/-- The state's weights at the loop's entry. -/
theorem entry_v115 : entryContents preI m c (Proc.devRef .tc main_v115) = xis := by
  show afterL preI _ _ = _
  rw [afterL_eq_after_flatten]
  unfold_abbrev_sides
  after_reads_simp
  rfl

/-- What each chunk adds at the loop's entry. -/
theorem entry_v128_0 : entryContents preI m c (Proc.devRef .tc main_v128_0) = gains (ks (P m c)) (vs (P m c)) zetas := by
  show afterL preI _ _ = _
  rw [afterL_eq_after_flatten]
  unfold_abbrev_sides
  after_reads_simp
  rfl

/-- The decays over a chunk at the loop's entry. -/
theorem entry_v128_1 : entryContents preI m c (Proc.devRef .tc main_v128_1) = decays := by
  show afterL preI _ _ = _
  rw [afterL_eq_after_flatten]
  unfold_abbrev_sides
  after_reads_simp
  rfl

/-- The chunk's number at the loop's entry. -/
theorem entry_v128_2 : entryContents preI m c (Proc.devRef .tc main_v128_2) = constantI S_ 32 0#32 := by
  show afterL preI _ _ = _
  rw [afterL_eq_after_flatten]
  unfold_abbrev_sides
  after_reads_simp
  rfl

/-- The running state at the loop's entry. -/
theorem entry_v128_3 : entryContents preI m c (Proc.devRef .tc main_v128_3) = broadcastInDim S2x16x128x128 ![] bcast_S_S2x16x128x128 (constant (F := Ideal) S_ .f32 0x00000000#32) := by
  show afterL preI _ _ = _
  rw [afterL_eq_after_flatten]
  unfold_abbrev_sides
  after_reads_simp
  rfl

/-- The result of what the loop leaves. -/
theorem result (V : Valuation τ sig (Elt Ideal)) : afterL postI V (Proc.devRef .tc main_v164)
    = gated (weighted (joined (V (Proc.devRef .tc main_v99)) (cross (V (Proc.devRef .tc main_v91)) (V (Proc.devRef .tc main_v128_4)) (V (Proc.devRef .tc main_v115))))
        (V (Proc.devRef .tc main_arg1))) (V (Proc.devRef .tc main_v4)) := by
  rw [afterL_eq_after_flatten]
  unfold_abbrev_sides
  after_reads_simp
  rfl

end Cert.ReferenceIdeal.Stages
-- ==== Proof.RetentionLoop.lean ====
/-
  The retention reference's loop over the chunks: before each trip the running state is the decayed sum of the chunks before it, and the
  stored states are the running states before each chunk, at the ideal instance.
-/
module

public import proofs.«01_k».proof.Defs
public import proofs.«01_k».proof.Proof.RetentionRun
public import proofs.«01_k».proof.Proof.RetentionMath
public import Idealize.ShloMosaic.Lib.DynamicIndex
public import Idealize.ShloMosaic.Lib.Pipeline.Value

@[expose] public section

set_option maxRecDepth 16384

noncomputable section

namespace Cert.ReferenceIdeal.Loop

open Cert.ReferenceIdeal Cert.ReferenceIdeal.Gen Cert.ReferenceIdeal.Value Idealize.ShloMosaic Idealize.ShloMosaic.TcCoe Idealize.SL.Sem
open Idealize.ShloMosaic.StableHlo

/-- The starts at a chunk's number. -/
abbrev starts (t : IVec S_ 32) : Fin 5 → Int := fun k => (((![t, constantI S_ 32 0#32, constantI S_ 32 0#32, constantI S_ 32 0#32, constantI S_ 32 0#32] : Fin 5 → (⟨S_, .i32⟩ : BufTy).Contents (Elt Ideal))) k (Shape.Idx.first h_S_)).toInt

section At
variable (b : Fin 2) (h : Fin 16) (n : Fin 64) (d e : Fin 128)

/-- A chunk's block lies inside the stored states. -/
theorem fits (n : Fin 64) : S64x2x16x128x128.Slices ![n.val, 0, 0, 0, 0] S1x2x16x128x128 :=
  ⟨rfl, fun a => by have := n.isLt; fin_cases a <;> simp [S64x2x16x128x128, S1x2x16x128x128] <;> omega⟩

/-- The starts are the chunk's number and zeros. -/
theorem starts_eq (t : IVec S_ 32) (ht : t = fun _ => BitVec.ofNat 32 n.val) (a : Fin 5) : starts t a = ((![n.val, 0, 0, 0, 0] : Fin 5 → ℕ) a : Int) := by
  subst ht
  fin_cases a
  · exact toInt_ofNat_of_lt (by have := n.isLt; omega)
  all_goals rfl

/-- A chunk's share, taken at its number. -/
theorem take_at (A : FVec Ideal S64x2x16x128x128 .f32) (t : IVec S_ 32) (ht : t = fun _ => BitVec.ofNat 32 n.val) :
    shapeCast S2x16x128x128 (Host.dynamicSlice S1x2x16x128x128 A (starts t) sliceFits_S64x2x16x128x128_S1x2x16x128x128) shapeCasts_S1x2x16x128x128_S2x16x128x128 (ix4 b h d e)
      = A (ix5 n b h d e) := by
  rw [Host.dynamicSlice_eq_extractStridedSlice S1x2x16x128x128 A (starts t) ![n.val, 0, 0, 0, 0] _ (fits n) (starts_eq n t ht)]
  pointwise []

/-- The states with one stored at a chunk's number. -/
theorem put_at (B : FVec Ideal S64x2x16x128x128 .f32) (s : FVec Ideal S2x16x128x128 .f32) (t : IVec S_ 32) (k : Fin 64) (ht : t = fun _ => BitVec.ofNat 32 k.val) :
    Host.dynamicUpdateSlice B (broadcastInDim S1x2x16x128x128 ![1, 2, 3, 4] bcast_S2x16x128x128_S1x2x16x128x128_1_2_3_4 s) (starts t) updateFits_S64x2x16x128x128_S1x2x16x128x128 (ix5 n b h d e)
      = if n.val = k.val then s (ix4 b h d e) else B (ix5 n b h d e) := by
  rw [Host.dynamicUpdateSlice_eq_updateSlice B _ (starts t) _ ![k.val, 0, 0, 0, 0] (fun a => by
    rw [starts_eq k t ht a]
    have := k.isLt
    fin_cases a <;> simp [S64x2x16x128x128, S1x2x16x128x128] <;> omega) (fits k)]
  pointwise []
  by_cases hn : n.val = k.val
  · rw [dif_pos (by omega), if_pos hn]
  · rw [dif_neg (by omega), if_neg hn]

/-- The running state after a trip. -/
theorem step_at (x : FVec Ideal S2x16x128x128 .f32) (D : FVec Ideal S16x1x1 .f32) (y : FVec Ideal S2x16x128x128 .f32) :
    addf (mulf x (broadcastInDim S2x16x128x128 ![0, 1, 2, 3] bcast_S1x16x1x1_S2x16x128x128_0_1_2_3 (broadcastInDim S1x16x1x1 ![1, 2, 3] bcast_S16x1x1_S1x16x1x1_1_2_3 D))) y (ix4 b h d e)
      = x (ix4 b h d e) * D (ix3 h 0 0) + y (ix4 b h d e) := by
  pointwise []

end At

/-- The decayed sum of the first `k` chunks' shares. -/
def sums (A : FVec Ideal S64x2x16x128x128 .f32) (D : FVec Ideal S16x1x1 .f32) (b : Fin 2) (h : Fin 16) (d e : Fin 128) : ℕ → Ideal .f32
  | 0 => 0
  | k + 1 => sums A D b h d e k * D (ix3 h 0 0) + A (ix5 ⟨k % 64, Nat.mod_lt _ (by decide)⟩ b h d e)

/-- What the carried buffers hold before trip `k`. -/
structure Held (A : FVec Ideal S64x2x16x128x128 .f32) (D : FVec Ideal S16x1x1 .f32) (k : ℕ) (V : Valuation τ sig (Elt Ideal)) : Prop where
  shares : V (Proc.devRef .tc main_v128_0) = A
  decays : V (Proc.devRef .tc main_v128_1) = D
  count : V (Proc.devRef .tc main_v128_2) = fun _ => BitVec.ofNat 32 k
  state : ∀ b h d e, (V (Proc.devRef .tc main_v128_3) : FVec Ideal S2x16x128x128 .f32) (ix4 b h d e) = sums A D b h d e k
  stored : ∀ (n : Fin 64) b h d e, n.val < k → (V (Proc.devRef .tc main_v128_4) : FVec Ideal S64x2x16x128x128 .f32) (ix5 n b h d e) = sums A D b h d e n.val

/-- A trip keeps what the carried buffers hold. -/
theorem Held.step {A : FVec Ideal S64x2x16x128x128 .f32} {D : FVec Ideal S16x1x1 .f32} {k : ℕ} (hk : k < 64) {V : Valuation τ sig (Elt Ideal)} (H : Held A D k V) :
    Held A D (k + 1) (STEP V) where
  shares := (STEP_main_v128_0 V).trans H.shares
  decays := (STEP_main_v128_1 V).trans H.decays
  count := by
    rw [STEP_main_v128_2]
    show addi (V (Proc.devRef .tc main_v128_2)) (constantI S_ 32 1#32) = _
    rw [H.count]
    funext i
    show BitVec.ofNat 32 k + 1#32 = BitVec.ofNat 32 (k + 1)
    exact (BitVec.ofNat_add k 1).symm
  state b h d e := by
    rw [STEP_main_v128_3]
    refine (step_at b h d e _ _ _).trans ?_
    rw [H.state, H.decays, H.shares]
    refine (congrArg (_ + ·) (take_at b h ⟨k, hk⟩ d e A _ H.count)).trans ?_
    show _ = sums A D b h d e k * D (ix3 h 0 0) + A (ix5 ⟨k % 64, _⟩ b h d e)
    rw [show (⟨k % 64, Nat.mod_lt _ (by decide)⟩ : Fin 64) = ⟨k, hk⟩ from Fin.ext (Nat.mod_eq_of_lt hk)]
  stored n b h d e hn := by
    rw [STEP_main_v128_4]
    refine (put_at b h n d e _ _ _ ⟨k, hk⟩ H.count).trans ?_
    by_cases hc : n.val = k
    · rw [if_pos hc, H.state, hc]
    · rw [if_neg hc]
      exact H.stored n b h d e (by omega)

/-- After `k` trips. -/
theorem held {A : FVec Ideal S64x2x16x128x128 .f32} {D : FVec Ideal S16x1x1 .f32} {V : Valuation τ sig (Elt Ideal)} (H : Held A D 0 V) :
    ∀ k ≤ 64, Held A D k (STEP^[k] V)
  | 0, _ => H
  | k + 1, hk => by
    rw [Function.iterate_succ_apply']
    exact (held H k (by omega)).step (by omega)

end Cert.ReferenceIdeal.Loop
-- ==== Proof.RetentionScan.lean ====
/- What one grid point of the retention call computes: eight chunks of 128 rows, one after the other, each from its rows of
   the queries, keys, values, gates and rotation tables and from the state the chunk before left, at the ideal instance. -/
module

public import proofs.«01_k».proof.Defs
public import proofs.«01_k».proof.Proof.Gen.KernelIdeal.Value
public import proofs.«01_k».proof.Proof.Gen.ReferenceIdeal.Run
public import Idealize.ShloMosaic.Lib.Pointwise
public import Idealize.ShloMosaic.Lib.WritesUnit
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.KernelIdeal.Scan

open Idealize.ShloMosaic Idealize.ShloMosaic.TcCoe Idealize.SL.Sem
open Cert.KernelIdeal Cert.KernelIdeal.Gen

/-- Rows `128 n` to `128 n + 127` of a block. -/
def rows (n : ℕ) (x : Vec Ideal S1024x128 .f32) : Vec Ideal S128x128 .f32 := fun y =>
  x (ix2 ⟨(128 * n + (y 0).val) % 1024, Nat.mod_lt _ (by decide)⟩ (y 1))

/-- A load of 128 rows reads those rows. -/
theorem ld_rows (n o : ℕ) (ho : o = 128 * n) (hn : n < 8) (inb : ∀ a, ![o, 0] a + ![128, 128] a ≤ S1024x128.size a) (x : Vec Ideal S1024x128 .f32) :
    View.ld x (Rect.unit (s := S1024x128) ![o, 0] ![128, 128] inb) = rows n x := by
  subst ho
  funext y
  show x ((Rect.unit (s := S1024x128) ![128 * n, 0] ![128, 128] inb).emb y) = x (ix2 _ _)
  refine congrArg x (funext fun a => Fin.ext ?_)
  have h0 : (y 0).val < 128 := (y 0).isLt
  fin_cases a
  · show 128 * n + 1 * (y 0).val = (128 * n + (y 0).val) % 1024
    omega
  · show 0 + 1 * (y 1).val = (y 1).val
    omega

/-- The state after a chunk, from the decay's logarithm, the chunk's rotation tables, keys and values and the state before. -/
def nxt (lg : Vec Ideal S1x1x128 .f32) (cs sn k v st : Vec Ideal S128x128 .f32) : Vec Ideal S128x128 .f32 :=
  k0_pay13 (k0_pay5 lg) (k0_pay7 lg) k0_pay8 (k0_pay9 cs) sn k v st

/-- The chunk's result, from the same and the chunk's queries and gates and the normalization's weights. -/
def res (lg : Vec Ideal S1x1x128 .f32) (cs sn q k v st : Vec Ideal S128x128 .f32) (gw : Vec Ideal S1x128 .f32) (g : Vec Ideal S128x128 .f32) :
    Vec Ideal S128x128 .bf16 :=
  k0_pay14 (k0_pay12 (k0_pay3 lg) (k0_pay6 lg) k0_pay8 (k0_pay9 cs) sn q k v st) gw g

section Chunks

variable (lg : Vec Ideal S1x1x128 .f32) (cs sn q k v st : Vec Ideal S128x128 .f32) (gw : Vec Ideal S1x128 .f32) (g : Vec Ideal S128x128 .f32)

/-- Chunk 1 leaves the next state. -/
theorem nxt1 : k0_pay13 (k0_pay5 lg) (k0_pay7 lg) k0_pay8 (k0_pay9 cs) sn k v st = nxt lg cs sn k v st := rfl
/-- Chunk 1 stores its result. -/
theorem res1 : k0_pay14 (k0_pay12 (k0_pay3 lg) (k0_pay6 lg) k0_pay8 (k0_pay9 cs) sn q k v st) gw g = res lg cs sn q k v st gw g := rfl
/-- Chunk 2 leaves the next state. -/
theorem nxt2 : k0_pay20 (k0_pay5 lg) (k0_pay7 lg) k0_pay8 (k0_pay15 cs) (k0_pay16 sn) k v st = nxt lg cs sn k v st := rfl
/-- Chunk 2 stores its result. -/
theorem res2 : k0_pay23 (k0_pay21 (k0_pay3 lg) (k0_pay6 lg) k0_pay8 (k0_pay15 cs) (k0_pay16 sn) q k v (k0_pay17 q) (k0_pay18 q) st) (k0_pay22 (k0_pay3 lg) (k0_pay6 lg) k0_pay8 (k0_pay15 cs) (k0_pay16 sn) q k v (k0_pay17 q) (k0_pay18 q) st) (Scalar.ofBits .f32 0x43000000#32) gw g = res lg cs sn q k v st gw g := rfl
/-- Chunk 3 leaves the next state. -/
theorem nxt3 : k0_pay30 (k0_pay5 lg) (k0_pay7 lg) v (k0_pay27 k0_pay8 cs sn k) (k0_pay28 (F := Ideal)) st = nxt lg cs sn k v st := rfl
/-- Chunk 3 stores its result. -/
theorem res3 : k0_pay32 (k0_pay31 (k0_pay3 lg) (k0_pay6 lg) v (k0_pay26 k0_pay8 cs sn q) (k0_pay27 k0_pay8 cs sn k) (k0_pay28 (F := Ideal)) st gw) g = res lg cs sn q k v st gw g := rfl
/-- Chunk 4 leaves the next state. -/
theorem nxt4 : k0_pay39 (k0_pay5 lg) (k0_pay7 lg) v (k0_pay36 k0_pay8 cs sn k) st = nxt lg cs sn k v st := rfl
/-- Chunk 4 stores its result. -/
theorem res4 : k0_pay40 (k0_pay6 lg) st (k0_pay37 (k0_pay3 lg) k0_pay8 cs sn q k v) (k0_pay38 k0_pay8 cs sn q) gw g = res lg cs sn q k v st gw g := rfl
/-- Chunk 5 leaves the next state. -/
theorem nxt5 : k0_pay46 (k0_pay45 (k0_pay5 lg) (k0_pay7 lg) k0_pay8 cs sn k v st) = nxt lg cs sn k v st := rfl
/-- Chunk 5 stores its result. -/
theorem res5 : k0_pay47 (k0_pay44 (k0_pay3 lg) (k0_pay6 lg) k0_pay8 cs sn q k v st) gw g = res lg cs sn q k v st gw g := rfl
/-- Chunk 6 leaves the next state. -/
theorem nxt6 : k0_pay51 (k0_pay5 lg) (k0_pay7 lg) k0_pay8 (k0_pay48 cs) (k0_pay49 sn) k v st = nxt lg cs sn k v st := rfl
/-- Chunk 6 stores its result. -/
theorem res6 : k0_pay54 (k0_pay52 (k0_pay3 lg) (k0_pay6 lg) k0_pay8 (k0_pay48 cs) (k0_pay49 sn) q k v st) (k0_pay53 (k0_pay3 lg) (k0_pay6 lg) k0_pay8 (k0_pay48 cs) (k0_pay49 sn) q k v st) gw g = res lg cs sn q k v st gw g := rfl
/-- Chunk 7 leaves the next state. -/
theorem nxt7 : k0_pay61 (k0_pay5 lg) (k0_pay7 lg) (k0_pay56 sn) v (k0_pay58 k0_pay8 k) (k0_pay59 cs k) st = nxt lg cs sn k v st := rfl
/-- Chunk 7 stores its result. -/
theorem res7 : k0_pay63 (k0_pay62 (k0_pay3 lg) (k0_pay6 lg) (k0_pay56 sn) v (k0_pay57 k0_pay8 cs sn q) (k0_pay58 k0_pay8 k) (k0_pay59 cs k) st) gw g = res lg cs sn q k v st gw g := rfl
/-- Chunk 8 leaves the next state. -/
theorem nxt8 : k0_pay69 (k0_pay5 lg) (k0_pay7 lg) v (k0_pay67 k0_pay8 cs sn k) st = nxt lg cs sn k v st := rfl
/-- Chunk 8 stores its result. -/
theorem res8 : k0_pay70 (k0_pay6 lg) v (k0_pay66 k0_pay8 cs sn q) st (k0_pay68 (k0_pay3 lg) k0_pay8 cs sn q k) gw g = res lg cs sn q k v st gw g := rfl

end Chunks

/-- The state after `n` chunks of a block. -/
def state (lg : Vec Ideal S1x1x128 .f32) (cs sn k v : Vec Ideal S1024x128 .f32) (s0 : Vec Ideal S128x128 .f32) : ℕ → Vec Ideal S128x128 .f32
  | 0 => s0
  | n + 1 => nxt lg (rows n cs) (rows n sn) (rows n k) (rows n v) (state lg cs sn k v s0 n)

/-- The result of chunk `n` of a block. -/
def chunk (lg : Vec Ideal S1x1x128 .f32) (cs sn q k v : Vec Ideal S1024x128 .f32) (s0 : Vec Ideal S128x128 .f32) (gw : Vec Ideal S1x128 .f32)
    (g : Vec Ideal S1024x128 .f32) (n : ℕ) : Vec Ideal S128x128 .bf16 :=
  res lg (rows n cs) (rows n sn) (rows n q) (rows n k) (rows n v) (state lg cs sn k v s0 n) gw (rows n g)

/-- A block's result: row `r` is row `r % 128` of chunk `r / 128`. -/
def block (lg : Vec Ideal S1x1x128 .f32) (cs sn q k v : Vec Ideal S1024x128 .f32) (s0 : Vec Ideal S128x128 .f32) (gw : Vec Ideal S1x128 .f32)
    (g : Vec Ideal S1024x128 .f32) : Vec Ideal S1024x128 .bf16 := fun y =>
  chunk lg cs sn q k v s0 gw g ((y 0).val / 128) (ix2 ⟨(y 0).val % 128, Nat.mod_lt _ (by decide)⟩ (y 1))

/-- Case A's state after the point. -/
theorem leftA (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1024x128 .bf16) (harg11 : arg11.IsWhole) (arg12 : Memref sig .tc .vmem S128x128 .f32) (harg12 : arg12.IsWhole) (hc0 : cond0_0 i) (x0 x1 x2 x3 x4 x5 : Vec Ideal S1024x128 .f32) (x6 : Vec Ideal S1x1x128 .f32) (x7 : Vec Ideal S1x128 .f32) (y) :
    sout0_A_0 c i arg3 harg3 arg4 harg4 arg5 harg5 arg6 harg6 arg7 harg7 arg8 harg8 arg9 harg9 arg10 harg10 arg11 harg11 arg12 harg12 hc0 x0 x1 x2 x3 x4 x5 x6 x7 y = state x6 x4 x5 x1 x2 (k0_pay1 (F := Ideal)) 8 y := by
  frame_open
  simp (disch := decide) only [↓ View.readCov_skip, ↓ View.readCov_cons_toLoadRect, ↓ View.readCov_fill]
  frame_out
  simp only [
    ld_rows 0 0 rfl (by decide) inb_S1024x128_S128x128_0_0,
    ld_rows 1 128 rfl (by decide) inb_S1024x128_S128x128_128_0,
    ld_rows 2 256 rfl (by decide) inb_S1024x128_S128x128_256_0,
    ld_rows 3 384 rfl (by decide) inb_S1024x128_S128x128_384_0,
    ld_rows 4 512 rfl (by decide) inb_S1024x128_S128x128_512_0,
    ld_rows 5 640 rfl (by decide) inb_S1024x128_S128x128_640_0,
    ld_rows 6 768 rfl (by decide) inb_S1024x128_S128x128_768_0,
    ld_rows 7 896 rfl (by decide) inb_S1024x128_S128x128_896_0,
    nxt1, nxt2, nxt3, nxt4, nxt5, nxt6, nxt7, nxt8]
  rfl

/-- Case B's state after the point. -/
theorem leftB (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1024x128 .bf16) (harg11 : arg11.IsWhole) (arg12 : Memref sig .tc .vmem S128x128 .f32) (harg12 : arg12.IsWhole) (hc0 : ¬cond0_0 i) (x0 x1 x2 x3 x4 x5 : Vec Ideal S1024x128 .f32) (x6 : Vec Ideal S1x1x128 .f32) (x7 : Vec Ideal S1x128 .f32) (xs0 : Vec Ideal S128x128 .f32) (y) :
    sout0_B_0 c i arg3 harg3 arg4 harg4 arg5 harg5 arg6 harg6 arg7 harg7 arg8 harg8 arg9 harg9 arg10 harg10 arg11 harg11 arg12 harg12 hc0 x0 x1 x2 x3 x4 x5 x6 x7 xs0 y = state x6 x4 x5 x1 x2 xs0 8 y := by
  frame_open
  simp (disch := decide) only [↓ View.readCov_skip, ↓ View.readCov_cons_toLoadRect, ↓ View.readCov_fill]
  frame_out
  simp only [
    ld_rows 0 0 rfl (by decide) inb_S1024x128_S128x128_0_0,
    ld_rows 1 128 rfl (by decide) inb_S1024x128_S128x128_128_0,
    ld_rows 2 256 rfl (by decide) inb_S1024x128_S128x128_256_0,
    ld_rows 3 384 rfl (by decide) inb_S1024x128_S128x128_384_0,
    ld_rows 4 512 rfl (by decide) inb_S1024x128_S128x128_512_0,
    ld_rows 5 640 rfl (by decide) inb_S1024x128_S128x128_640_0,
    ld_rows 6 768 rfl (by decide) inb_S1024x128_S128x128_768_0,
    ld_rows 7 896 rfl (by decide) inb_S1024x128_S128x128_896_0,
    nxt1, nxt2, nxt3, nxt4, nxt5, nxt6, nxt7, nxt8]
  rfl

section Pieces

variable (lg : Vec Ideal S1x1x128 .f32) (cs sn q k v : Vec Ideal S1024x128 .f32) (s0 : Vec Ideal S128x128 .f32) (gw : Vec Ideal S1x128 .f32)
  (g : Vec Ideal S1024x128 .f32)

/-- The eight chunks' results, the last one first in the list. -/
def pieces : List (View.Piece (Elt Ideal) S1024x128 .bf16) := [
    ⟨Rect.unit (s := S1024x128) ![896, 0] ![128, 128] inb_S1024x128_S128x128_896_0, chunk lg cs sn q k v s0 gw g 7⟩,
    ⟨Rect.unit (s := S1024x128) ![768, 0] ![128, 128] inb_S1024x128_S128x128_768_0, chunk lg cs sn q k v s0 gw g 6⟩,
    ⟨Rect.unit (s := S1024x128) ![640, 0] ![128, 128] inb_S1024x128_S128x128_640_0, chunk lg cs sn q k v s0 gw g 5⟩,
    ⟨Rect.unit (s := S1024x128) ![512, 0] ![128, 128] inb_S1024x128_S128x128_512_0, chunk lg cs sn q k v s0 gw g 4⟩,
    ⟨Rect.unit (s := S1024x128) ![384, 0] ![128, 128] inb_S1024x128_S128x128_384_0, chunk lg cs sn q k v s0 gw g 3⟩,
    ⟨Rect.unit (s := S1024x128) ![256, 0] ![128, 128] inb_S1024x128_S128x128_256_0, chunk lg cs sn q k v s0 gw g 2⟩,
    ⟨Rect.unit (s := S1024x128) ![128, 0] ![128, 128] inb_S1024x128_S128x128_128_0, chunk lg cs sn q k v s0 gw g 1⟩,
    ⟨Rect.unit (s := S1024x128) ![0, 0] ![128, 128] inb_S1024x128_S128x128_0_0, chunk lg cs sn q k v s0 gw g 0⟩]

/-- The eight chunks cover the block. -/
theorem pieces_cover : ∀ y : S1024x128.Idx, ∃ p ∈ pieces lg cs sn q k v s0 gw g, y ∈ p.1.set :=
  View.cover_of_tiledL _ S128x128.size (by sl_kernel_rfl)

/-- A chunk's result is the block's at the chunk's rows. -/
theorem piece_emb (n o : ℕ) (ho : o = 128 * n) (inb : ∀ a, ![o, 0] a + ![128, 128] a ≤ S1024x128.size a) (x : S128x128.Idx) :
    chunk lg cs sn q k v s0 gw g n x = block lg cs sn q k v s0 gw g ((Rect.unit (s := S1024x128) ![o, 0] ![128, 128] inb).emb x) := by
  subst ho
  have h0 : (x 0).val < 128 := (x 0).isLt
  have e : 128 * n + 1 * (x 0).val = 128 * n + (x 0).val := by omega
  show chunk lg cs sn q k v s0 gw g n x = chunk lg cs sn q k v s0 gw g ((128 * n + 1 * (x 0).val) / 128)
    (ix2 ⟨(128 * n + 1 * (x 0).val) % 128, Nat.mod_lt _ (by decide)⟩ ⟨0 + 1 * (x 1).val, by have := (x 1).isLt; simpa using this⟩)
  have e1 : (128 * n + 1 * (x 0).val) / 128 = n := by omega
  rw [e1]
  refine congrArg (chunk lg cs sn q k v s0 gw g n) (funext fun a => Fin.ext ?_)
  fin_cases a
  · show (x 0).val = (128 * n + 1 * (x 0).val) % 128
    omega
  · show (x 1).val = 0 + 1 * (x 1).val
    omega

/-- The eight chunks' results, stored one after the other, are the block's. -/
theorem pieces_block (y : S1024x128.Idx) : View.canon (pieces lg cs sn q k v s0 gw g) y = block lg cs sn q k v s0 gw g y := by
  have h := View.canon_append_of_piecesOf (block lg cs sn q k v s0 gw g) [] (pieces lg cs sn q k v s0 gw g) ?_ y (pieces_cover lg cs sn q k v s0 gw g y)
  · rwa [List.append_nil] at h
  · exact ⟨piece_emb lg cs sn q k v s0 gw g 7 896 rfl inb_S1024x128_S128x128_896_0, piece_emb lg cs sn q k v s0 gw g 6 768 rfl inb_S1024x128_S128x128_768_0, piece_emb lg cs sn q k v s0 gw g 5 640 rfl inb_S1024x128_S128x128_640_0, piece_emb lg cs sn q k v s0 gw g 4 512 rfl inb_S1024x128_S128x128_512_0, piece_emb lg cs sn q k v s0 gw g 3 384 rfl inb_S1024x128_S128x128_384_0, piece_emb lg cs sn q k v s0 gw g 2 256 rfl inb_S1024x128_S128x128_256_0, piece_emb lg cs sn q k v s0 gw g 1 128 rfl inb_S1024x128_S128x128_128_0, piece_emb lg cs sn q k v s0 gw g 0 0 rfl inb_S1024x128_S128x128_0_0, trivial⟩

end Pieces

/-- Case A's output after the point. -/
theorem outA (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1024x128 .bf16) (harg11 : arg11.IsWhole) (arg12 : Memref sig .tc .vmem S128x128 .f32) (harg12 : arg12.IsWhole) (hc0 : cond0_0 i) (x0 x1 x2 x3 x4 x5 : Vec Ideal S1024x128 .f32) (x6 : Vec Ideal S1x1x128 .f32) (x7 : Vec Ideal S1x128 .f32) (y) :
    out0_A_8 c i arg3 harg3 arg4 harg4 arg5 harg5 arg6 harg6 arg7 harg7 arg8 harg8 arg9 harg9 arg10 harg10 arg11 harg11 arg12 harg12 hc0 x0 x1 x2 x3 x4 x5 x6 x7 y = block x6 x4 x5 x0 x1 x2 (k0_pay1 (F := Ideal)) x7 x3 y := by
  frame_open
  simp (disch := decide) only [↓ View.readCov_skip, ↓ View.readCov_cons_toLoadRect, ↓ View.readCov_fill]
  frame_out
  simp only [
    ld_rows 0 0 rfl (by decide) inb_S1024x128_S128x128_0_0,
    ld_rows 1 128 rfl (by decide) inb_S1024x128_S128x128_128_0,
    ld_rows 2 256 rfl (by decide) inb_S1024x128_S128x128_256_0,
    ld_rows 3 384 rfl (by decide) inb_S1024x128_S128x128_384_0,
    ld_rows 4 512 rfl (by decide) inb_S1024x128_S128x128_512_0,
    ld_rows 5 640 rfl (by decide) inb_S1024x128_S128x128_640_0,
    ld_rows 6 768 rfl (by decide) inb_S1024x128_S128x128_768_0,
    ld_rows 7 896 rfl (by decide) inb_S1024x128_S128x128_896_0,
    nxt1, nxt2, nxt3, nxt4, nxt5, nxt6, nxt7, nxt8, res1, res2, res3, res4, res5, res6, res7, res8]
  exact pieces_block x6 x4 x5 x0 x1 x2 (k0_pay1 (F := Ideal)) x7 x3 y

/-- Case B's output after the point. -/
theorem outB (c : Dev nD) (i : grid0.Coords) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1024x128 .bf16) (harg11 : arg11.IsWhole) (arg12 : Memref sig .tc .vmem S128x128 .f32) (harg12 : arg12.IsWhole) (hc0 : ¬cond0_0 i) (x0 x1 x2 x3 x4 x5 : Vec Ideal S1024x128 .f32) (x6 : Vec Ideal S1x1x128 .f32) (x7 : Vec Ideal S1x128 .f32) (xs0 : Vec Ideal S128x128 .f32) (y) :
    out0_B_8 c i arg3 harg3 arg4 harg4 arg5 harg5 arg6 harg6 arg7 harg7 arg8 harg8 arg9 harg9 arg10 harg10 arg11 harg11 arg12 harg12 hc0 x0 x1 x2 x3 x4 x5 x6 x7 xs0 y = block x6 x4 x5 x0 x1 x2 xs0 x7 x3 y := by
  frame_open
  simp (disch := decide) only [↓ View.readCov_skip, ↓ View.readCov_cons_toLoadRect, ↓ View.readCov_fill]
  frame_out
  simp only [
    ld_rows 0 0 rfl (by decide) inb_S1024x128_S128x128_0_0,
    ld_rows 1 128 rfl (by decide) inb_S1024x128_S128x128_128_0,
    ld_rows 2 256 rfl (by decide) inb_S1024x128_S128x128_256_0,
    ld_rows 3 384 rfl (by decide) inb_S1024x128_S128x128_384_0,
    ld_rows 4 512 rfl (by decide) inb_S1024x128_S128x128_512_0,
    ld_rows 5 640 rfl (by decide) inb_S1024x128_S128x128_640_0,
    ld_rows 6 768 rfl (by decide) inb_S1024x128_S128x128_768_0,
    ld_rows 7 896 rfl (by decide) inb_S1024x128_S128x128_896_0,
    nxt1, nxt2, nxt3, nxt4, nxt5, nxt6, nxt7, nxt8, res1, res2, res3, res4, res5, res6, res7, res8]
  exact pieces_block x6 x4 x5 x0 x1 x2 xs0 x7 x3 y

end Cert.KernelIdeal.Scan
-- ==== Proof.RetentionValue.lean ====
/-
  What the retention kernel leaves in its result, entry by entry: the state after each chunk and the normalized rows, at the ideal
  instance.
-/
module

public import proofs.«01_k».proof.Defs
public import proofs.«01_k».proof.Proof.RetentionScan
public import proofs.«01_k».proof.Proof.RetentionMath

@[expose] public section

set_option maxRecDepth 16384

noncomputable section

namespace Cert.KernelIdeal.Scan

open Idealize.ShloMosaic Idealize.ShloMosaic.TcCoe Idealize.SL.Sem
open Cert.KernelIdeal Cert.KernelIdeal.Gen
open Cert.Retention (num num_of zeta xi decay damp half rot keys gain carried mixed mean normed head cosT sinT part retained logs)

/-- A chunk's rotated rows, from its rows and their tables. -/
def turned (cs sn x : Vec Ideal S128x128 .f32) : FVec Ideal S128x128 .f32 :=
  addf (mulf x cs) (mulf (select k0_pay8 (dynamicRotate 1 127#32 none x rotates_S128x128_d1) (dynamicRotate 1 1#32 none x rotates_S128x128_d1)) sn)

/-- A chunk's rows before the normalization. -/
def sums (lg : Vec Ideal S1x1x128 .f32) (cs sn q k v st : Vec Ideal S128x128 .f32) : FVec Ideal S128x128 .f32 :=
  k0_pay12 (k0_pay3 lg) (k0_pay6 lg) k0_pay8 (k0_pay9 cs) sn q k v st

/-- An entry of the next state. -/
theorem nxt_at (lg : Vec Ideal S1x1x128 .f32) (cs sn k v st : Vec Ideal S128x128 .f32) (i : S128x128.Idx) :
    nxt lg cs sn k v st i = st i * k0_pay7 lg (ix2 0 (i 1)) + ∑ j : Fin 128, (turned cs sn k (ix2 j (i 0)) * Ideal.ofBits .f32 0x3DB504F3#32 * k0_pay5 lg (ix2 j (i 0))) * v (ix2 j (i 1)) := by
  pointwise [nxt, k0_pay13, k0_pay11, k0_pay10, k0_pay9, turned]

/-- An entry of a chunk's rows before the normalization. -/
theorem sums_at (lg : Vec Ideal S1x1x128 .f32) (cs sn q k v st : Vec Ideal S128x128 .f32) (i : S128x128.Idx) :
    sums lg cs sn q k v st i
      = (∑ j : Fin 128, (∑ d : Fin 128, turned cs sn q (ix2 (i 0) d) * (turned cs sn k (ix2 j d) * Ideal.ofBits .f32 0x3DB504F3#32)) * k0_pay3 lg (ix2 (i 0) j) * v (ix2 j (i 1)))
        + (∑ d : Fin 128, turned cs sn q (ix2 (i 0) d) * st (ix2 d (i 1))) * k0_pay6 lg i := by
  pointwise [sums, k0_pay12, k0_pay11, k0_pay10, k0_pay9, turned]

/-- An entry of a chunk's result is the normalized row's entry. -/
theorem res_at (lg : Vec Ideal S1x1x128 .f32) (cs sn q k v st : Vec Ideal S128x128 .f32) (gw : Vec Ideal S1x128 .f32) (g : Vec Ideal S128x128 .f32) (i : S128x128.Idx) :
    res lg cs sn q k v st gw g i = normed (fun e => sums lg cs sn q k v st (ix2 (i 0) e)) (gw (ix2 0 (i 1))) (g i) (i 1) := by
  show k0_pay14 (sums lg cs sn q k v st) gw g i = _
  generalize sums lg cs sn q k v st = y
  pointwise [k0_pay14, normed, mean]

/-- The lane parity. -/
theorem parity (i : S128x128.Idx) : k0_pay8 i = if (i 1).val % 2 = 0 then 1#1 else 0#1 := by
  pointwise [k0_pay8]
  generalize i 1 = d
  revert d
  decide +kernel

/-- A difference of indices as the device reads it. -/
theorem num_sub (i j : ℕ) (hi : i < 128) (hj : j < 128) : (FloatOps.sitofp .f32 (IntOp.subi (BitVec.ofNat 32 i) (BitVec.ofNat 32 j)) : Ideal .f32) = num i - num j := by
  show (((BitVec.ofNat 32 i - BitVec.ofNat 32 j).toInt : ℝ) : EReal) = ((i : ℝ) : EReal) - ((j : ℝ) : EReal)
  have h : (BitVec.ofNat 32 i - BitVec.ofNat 32 j).toInt = (i : ℤ) - j := by
    rw [BitVec.toInt_sub, BitVec.toInt_ofNat', BitVec.toInt_ofNat', Int.bmod_eq_of_le (n := (i : ℤ)), Int.bmod_eq_of_le (n := (j : ℤ)), Int.bmod_eq_of_le] <;> omega
  rw [h, ← EReal.coe_sub]
  push_cast
  rfl

section Entries

variable {lg : Vec Ideal S1x1x128 .f32} {l : Ideal .f32} (hl : ∀ d : Fin 128, lg (ix3 0 0 d) = l)
include hl

/-- The weights of the rows in the next state. -/
theorem zeta_at (i : S128x128.Idx) : k0_pay5 lg i = zeta l (i 0).val := by
  have e : lg (ix3 0 0 (i 1)) = l := hl (i 1)
  pointwise [k0_pay5, k0_pay4, k0_pay2, zeta]
  rw [num_of _ (i 0).isLt, e]

/-- The weights of the state in the rows. -/
theorem xi_at (i : S128x128.Idx) : k0_pay6 lg i = xi l (i 0).val := by
  have e : lg (ix3 0 0 (i 1)) = l := hl (i 1)
  pointwise [k0_pay6, k0_pay4, k0_pay2, xi]
  rw [num_of _ (i 0).isLt, e]

/-- The decay over the chunk. -/
theorem decay_at (i : S1x128.Idx) : k0_pay7 lg i = decay l := by
  have e : lg (ix3 0 0 (i 1)) = l := hl (i 1)
  pointwise [k0_pay7, k0_pay2, decay]
  rw [e]

/-- The decays from row to row. -/
theorem damp_at (i : S128x128.Idx) : k0_pay3 lg i = damp l (i 0).val (i 1).val := by
  have e : lg (ix3 0 0 (i 1)) = l := hl (i 1)
  pointwise [k0_pay3, k0_pay2, damp]
  rw [num_sub _ _ (i 0).isLt (i 1).isLt, e]

end Entries

/-- The 128 rows of chunk `n` are those of `X`. -/
def Reads (n : ℕ) (x : Vec Ideal S128x128 .f32) (X : ℕ → Fin 128 → Ideal .f32) : Prop := ∀ j d : Fin 128, x (ix2 j d) = X (128 * n + j.val) d

/-- The 1024 rows of block `s` are those of `X`. -/
def Holds (s : ℕ) (x : Vec Ideal S1024x128 .f32) (X : ℕ → Fin 128 → Ideal .f32) : Prop := ∀ (r : Fin 1024) (d : Fin 128), x (ix2 r d) = X (1024 * s + r.val) d

/-- The table of cosines, by lane. -/
def cosL (C : ℕ → Fin 64 → Ideal .f32) (r : ℕ) (d : Fin 128) : Ideal .f32 := C r (half d)

/-- The table of signed sines, by lane. -/
def sinL (S : ℕ → Fin 64 → Ideal .f32) (r : ℕ) (d : Fin 128) : Ideal .f32 := if d.val % 2 = 0 then -S r (half d) else S r (half d)

/-- Each chunk of a block reads its rows. -/
theorem reads_of_holds {s n : ℕ} (hn : n < 8) {x : Vec Ideal S1024x128 .f32} {X : ℕ → Fin 128 → Ideal .f32} (h : Holds s x X) : Reads (8 * s + n) (rows n x) X := fun j d => by
  refine (h _ _).trans (congrArg (fun r => X r d) ?_)
  have := j.isLt
  show 1024 * s + (128 * n + j.val) % 1024 = 128 * (8 * s + n) + j.val
  omega

section Chunk

variable {n : ℕ} {cs sn q k v g : Vec Ideal S128x128 .f32} {C S : ℕ → Fin 64 → Ideal .f32} {Q K V G : ℕ → Fin 128 → Ideal .f32}
variable (hc : Reads n cs (cosL C)) (hs : Reads n sn (sinL S))

include hc hs in
/-- A chunk's rotated rows are the rotation's. -/
theorem turned_at {x : Vec Ideal S128x128 .f32} {X : ℕ → Fin 128 → Ideal .f32} (hx : Reads n x X) (j d : Fin 128) :
    turned cs sn x (ix2 j d) = rot C S X (128 * n + j.val) d := by
  have e : turned cs sn x (ix2 j d) = x (ix2 j d) * cs (ix2 j d)
      + Scalar.select (k0_pay8 (ix2 j d)) (x (ix2 j ⟨(d.val + 128 - 127) % 128, Nat.mod_lt _ (by decide)⟩)) (x (ix2 j ⟨(d.val + 128 - 1) % 128, Nat.mod_lt _ (by decide)⟩)) * sn (ix2 j d) := by
    pointwise [turned]
  have p : k0_pay8 (ix2 j d) = if d.val % 2 = 0 then 1#1 else 0#1 := parity (ix2 j d)
  rw [e, p, hc, hs, hx, hx, hx]
  unfold rot sinL cosL
  have hd := d.isLt
  have e1 : (⟨(d.val + 128 - 127) % 128, Nat.mod_lt _ (by decide)⟩ : Fin 128) = ⟨(d.val + 1) % 128, Nat.mod_lt _ (by decide)⟩ := Fin.ext (by show (d.val + 128 - 127) % 128 = (d.val + 1) % 128; omega)
  have e2 : (⟨(d.val + 128 - 1) % 128, Nat.mod_lt _ (by decide)⟩ : Fin 128) = ⟨(d.val + 127) % 128, Nat.mod_lt _ (by decide)⟩ := Fin.ext (by show (d.val + 128 - 1) % 128 = (d.val + 127) % 128; omega)
  rw [e1, e2]
  by_cases h : d.val % 2 = 0
  · simp only [h, if_true]; rfl
  · simp only [h, if_false]; rfl

variable {lg : Vec Ideal S1x1x128 .f32} {l : Ideal .f32} (hl : ∀ d : Fin 128, lg (ix3 0 0 d) = l) (hk : Reads n k K) (hv : Reads n v V)
include hc hs hl hk hv

/-- A chunk leaves the next state. -/
theorem nxt_carried (st : Vec Ideal S128x128 .f32) (hst : ∀ d e : Fin 128, st (ix2 d e) = carried l (keys C S K) V n d e) (d e : Fin 128) :
    nxt lg cs sn k v st (ix2 d e) = carried l (keys C S K) V (n + 1) d e := by
  rw [nxt_at]
  show st (ix2 d e) * k0_pay7 lg (ix2 0 e) + ∑ j : Fin 128, (turned cs sn k (ix2 j d) * Ideal.ofBits .f32 0x3DB504F3#32 * k0_pay5 lg (ix2 j d)) * v (ix2 j e) = carried l (keys C S K) V n d e * decay l + gain l (keys C S K) V n d e
  rw [hst, decay_at hl]
  refine congrArg (_ + ·) (Finset.sum_congr rfl fun j _ => ?_)
  rw [turned_at hc hs hk, zeta_at hl, hv]
  rfl

/-- A chunk's rows before the normalization. -/
theorem sums_mixed (hq : Reads n q Q) (st : Vec Ideal S128x128 .f32) (hst : ∀ d e : Fin 128, st (ix2 d e) = carried l (keys C S K) V n d e) (i e : Fin 128) :
    sums lg cs sn q k v st (ix2 i e) = mixed l (rot C S Q) (keys C S K) V (carried l (keys C S K) V n) n i.val e := by
  rw [sums_at]
  show (∑ j : Fin 128, (∑ d : Fin 128, turned cs sn q (ix2 i d) * (turned cs sn k (ix2 j d) * Ideal.ofBits .f32 0x3DB504F3#32)) * k0_pay3 lg (ix2 i j) * v (ix2 j e))
        + (∑ d : Fin 128, turned cs sn q (ix2 i d) * st (ix2 d e)) * k0_pay6 lg (ix2 i e) = _
  unfold mixed
  refine congrArg₂ (· + ·) (Finset.sum_congr rfl fun j _ => ?_) (congrArg₂ (· * ·) (Finset.sum_congr rfl fun d _ => ?_) (xi_at hl _))
  · rw [damp_at hl, hv]
    refine congrArg (fun z => z * _ * _) (Finset.sum_congr rfl fun d _ => ?_)
    rw [turned_at hc hs hq, turned_at hc hs hk]
    rfl
  · rw [turned_at hc hs hq, hst]

/-- A chunk's result. -/
theorem res_head (hq : Reads n q Q) (hg : Reads n g G) (st : Vec Ideal S128x128 .f32) (hst : ∀ d e : Fin 128, st (ix2 d e) = carried l (keys C S K) V n d e)
    {gw : Vec Ideal S1x128 .f32} {w : Fin 128 → Ideal .f32} (hw : ∀ e : Fin 128, gw (ix2 0 e) = w e) (i e : Fin 128) :
    res lg cs sn q k v st gw g (ix2 i e) = head l C S Q K V G w n i.val e := by
  rw [res_at]
  show normed (fun e => sums lg cs sn q k v st (ix2 i e)) (gw (ix2 0 e)) (g (ix2 i e)) e = _
  rw [hw, hg, funext fun e => sums_mixed hc hs hl hk hv hq st hst i e]
  rfl

end Chunk

section Block

variable {s : ℕ} {cs sn q k v g : Vec Ideal S1024x128 .f32} {C S : ℕ → Fin 64 → Ideal .f32} {Q K V G : ℕ → Fin 128 → Ideal .f32}
variable (hc : Holds s cs (cosL C)) (hs : Holds s sn (sinL S)) (hk : Holds s k K) (hv : Holds s v V)
variable {lg : Vec Ideal S1x1x128 .f32} {l : Ideal .f32} (hl : ∀ d : Fin 128, lg (ix3 0 0 d) = l)
variable {s0 : Vec Ideal S128x128 .f32} (h0 : ∀ d e : Fin 128, s0 (ix2 d e) = carried l (keys C S K) V (8 * s) d e)
include hc hs hk hv hl h0

/-- The state within a block, chunk by chunk. -/
theorem state_carried : ∀ n, n ≤ 8 → ∀ d e : Fin 128, state lg cs sn k v s0 n (ix2 d e) = carried l (keys C S K) V (8 * s + n) d e
  | 0, _ => h0
  | n + 1, hn => nxt_carried (reads_of_holds hn hc) (reads_of_holds hn hs) hl (reads_of_holds hn hk) (reads_of_holds hn hv) _
      (state_carried n (Nat.le_of_lt hn))

/-- A block's result. -/
theorem block_head (hq : Holds s q Q) (hg : Holds s g G) {gw : Vec Ideal S1x128 .f32} {w : Fin 128 → Ideal .f32} (hw : ∀ e : Fin 128, gw (ix2 0 e) = w e)
    (r : Fin 1024) (e : Fin 128) : block lg cs sn q k v s0 gw g (ix2 r e) = head l C S Q K V G w (8 * s + r.val / 128) (r.val % 128) e := by
  have hn : r.val / 128 < 8 := by have := r.isLt; omega
  exact res_head (reads_of_holds hn hc) (reads_of_holds hn hs) hl (reads_of_holds hn hk) (reads_of_holds hn hv) (reads_of_holds hn hq) (reads_of_holds hn hg) _
    (state_carried hc hs hk hv hl h0 _ (Nat.le_of_lt hn)) hw ⟨r.val % 128, Nat.mod_lt _ (by decide)⟩ e

end Block

end Cert.KernelIdeal.Scan
-- ==== Proof.RetentionArray.lean ====
/-
  The array that the retention kernel's launch leaves: the state carried from point to point, each point's block, and the whole, at
  the ideal instance.
-/
module

public import proofs.«01_k».proof.Defs
public import proofs.«01_k».proof.Proof.RetentionValue

@[expose] public section

set_option maxRecDepth 16384

noncomputable section

namespace Cert.KernelIdeal.Scan

open Idealize.ShloMosaic Idealize.ShloMosaic.TcCoe Idealize.SL.Sem
open Cert.KernelIdeal Cert.KernelIdeal.Gen
open Cert.Retention (num zeta xi decay damp half rot keys gain carried mixed mean normed head cosT sinT part retained logs)

/-- Where each window's block lies at a point. -/
theorem idx : ∀ t : Fin cfg0.N,
    win0_0.index t = ![t.val / 128 * 8 + t.val % 8, t.val / 8 % 16] ∧ win0_1.index t = ![t.val / 128 * 8 + t.val % 8, 16 + t.val / 8 % 16]
    ∧ win0_2.index t = ![t.val / 128 * 8 + t.val % 8, 32 + t.val / 8 % 16] ∧ win0_3.index t = ![t.val / 128 * 8 + t.val % 8, 48 + t.val / 8 % 16]
    ∧ win0_4.index t = ![t.val % 8, 0] ∧ win0_5.index t = ![t.val % 8, 0] ∧ win0_6.index t = ![t.val / 8 % 16, 0, 0] ∧ win0_7.index t = ![0, t.val / 8 % 16]
    ∧ win0_8.index t = ![t.val / 128 * 8 + t.val % 8, t.val / 8 % 16] := (by decide +kernel : ∀ t : Fin grid0.N, _)

variable (m : (ℓ : Loc nD τ sig) → Buf (Elt Ideal) ℓ) (c : Dev nD)

/-- The projections. -/
abbrev P : FVec Ideal S16384x8192 .f32 := m ((c : Thread nD τ).loc main_arg0)

/-- The normalization's weights. -/
abbrev W : FVec Ideal S2048 .f32 := m ((c : Thread nD τ).loc main_arg1)

/-- A point's queries. -/
theorem holds_q (t : Fin cfg0.N) : Holds (t.val % 8) (iblk m c 0 t : Vec Ideal S1024x128 .f32) (part (P m c) (t.val / 128) (t.val / 8 % 16) 0) := fun r d => by
  obtain ⟨e0, -⟩ := idx t
  have ht := lt_of_lt_of_eq t.isLt N_0
  have hr := r.isLt
  have hd := d.isLt
  unfold iblk part
  rw [View.read_apply]
  refine (congrFun (V_main_arg0 m c) _).trans (congrArg (P m c) (funext fun a => Fin.ext ?_))
  fin_cases a
  · show win0_0.index t 0 * 1024 + 1 * r.val = (8192 * (t.val / 128) + (1024 * (t.val % 8) + r.val)) % 16384
    rw [e0]
    show (t.val / 128 * 8 + t.val % 8) * 1024 + 1 * r.val = _
    omega
  · show win0_0.index t 1 * 128 + 1 * d.val = (2048 * 0 + 128 * (t.val / 8 % 16) + d.val) % 8192
    rw [e0]
    show (t.val / 8 % 16) * 128 + 1 * d.val = _
    omega

/-- A point's keys. -/
theorem holds_k (t : Fin cfg0.N) : Holds (t.val % 8) (iblk m c 1 t : Vec Ideal S1024x128 .f32) (part (P m c) (t.val / 128) (t.val / 8 % 16) 1) := fun r d => by
  obtain ⟨-, e0, -⟩ := idx t
  have ht := lt_of_lt_of_eq t.isLt N_0
  have hr := r.isLt
  have hd := d.isLt
  unfold iblk part
  rw [View.read_apply]
  refine (congrFun (V_main_arg0 m c) _).trans (congrArg (P m c) (funext fun a => Fin.ext ?_))
  fin_cases a
  · show win0_1.index t 0 * 1024 + 1 * r.val = (8192 * (t.val / 128) + (1024 * (t.val % 8) + r.val)) % 16384
    rw [e0]
    show (t.val / 128 * 8 + t.val % 8) * 1024 + 1 * r.val = _
    omega
  · show win0_1.index t 1 * 128 + 1 * d.val = (2048 * 1 + 128 * (t.val / 8 % 16) + d.val) % 8192
    rw [e0]
    show (16 + t.val / 8 % 16) * 128 + 1 * d.val = _
    omega

/-- A point's values. -/
theorem holds_v (t : Fin cfg0.N) : Holds (t.val % 8) (iblk m c 2 t : Vec Ideal S1024x128 .f32) (part (P m c) (t.val / 128) (t.val / 8 % 16) 2) := fun r d => by
  obtain ⟨-, -, e0, -⟩ := idx t
  have ht := lt_of_lt_of_eq t.isLt N_0
  have hr := r.isLt
  have hd := d.isLt
  unfold iblk part
  rw [View.read_apply]
  refine (congrFun (V_main_arg0 m c) _).trans (congrArg (P m c) (funext fun a => Fin.ext ?_))
  fin_cases a
  · show win0_2.index t 0 * 1024 + 1 * r.val = (8192 * (t.val / 128) + (1024 * (t.val % 8) + r.val)) % 16384
    rw [e0]
    show (t.val / 128 * 8 + t.val % 8) * 1024 + 1 * r.val = _
    omega
  · show win0_2.index t 1 * 128 + 1 * d.val = (2048 * 2 + 128 * (t.val / 8 % 16) + d.val) % 8192
    rw [e0]
    show (32 + t.val / 8 % 16) * 128 + 1 * d.val = _
    omega

/-- A point's gates. -/
theorem holds_g (t : Fin cfg0.N) : Holds (t.val % 8) (iblk m c 3 t : Vec Ideal S1024x128 .f32) (part (P m c) (t.val / 128) (t.val / 8 % 16) 3) := fun r d => by
  obtain ⟨-, -, -, e0, -⟩ := idx t
  have ht := lt_of_lt_of_eq t.isLt N_0
  have hr := r.isLt
  have hd := d.isLt
  unfold iblk part
  rw [View.read_apply]
  refine (congrFun (V_main_arg0 m c) _).trans (congrArg (P m c) (funext fun a => Fin.ext ?_))
  fin_cases a
  · show win0_3.index t 0 * 1024 + 1 * r.val = (8192 * (t.val / 128) + (1024 * (t.val % 8) + r.val)) % 16384
    rw [e0]
    show (t.val / 128 * 8 + t.val % 8) * 1024 + 1 * r.val = _
    omega
  · show win0_3.index t 1 * 128 + 1 * d.val = (2048 * 3 + 128 * (t.val / 8 % 16) + d.val) % 8192
    rw [e0]
    show (48 + t.val / 8 % 16) * 128 + 1 * d.val = _
    omega

/-- A point's rows of the cosines. -/
theorem holds_cos (t : Fin cfg0.N) : Holds (t.val % 8) (iblk m c 4 t : Vec Ideal S1024x128 .f32) (cosL cosT) := fun r d => by
  obtain ⟨-, -, -, -, e0, -⟩ := idx t
  have hr := r.isLt
  unfold iblk
  rw [View.read_apply]
  refine Eq.trans (congrArg (V m c main_v14) (funext fun a => Fin.ext ?_)) (Cert.Retention.cos_at m c ⟨1024 * (t.val % 8) + r.val, by omega⟩ d)
  fin_cases a
  · show win0_4.index t 0 * 1024 + 1 * r.val = 1024 * (t.val % 8) + r.val
    rw [e0]
    show t.val % 8 * 1024 + 1 * r.val = _
    omega
  · show win0_4.index t 1 * 128 + 1 * d.val = d.val
    rw [e0]
    show 0 * 128 + 1 * d.val = _
    omega

/-- A point's rows of the signed sines. -/
theorem holds_sin (t : Fin cfg0.N) : Holds (t.val % 8) (iblk m c 5 t : Vec Ideal S1024x128 .f32) (sinL sinT) := fun r d => by
  obtain ⟨-, -, -, -, -, e0, -⟩ := idx t
  have hr := r.isLt
  unfold iblk
  rw [View.read_apply]
  refine Eq.trans (congrArg (V m c main_v19) (funext fun a => Fin.ext ?_)) (Cert.Retention.sin_at m c ⟨1024 * (t.val % 8) + r.val, by omega⟩ d)
  fin_cases a
  · show win0_5.index t 0 * 1024 + 1 * r.val = 1024 * (t.val % 8) + r.val
    rw [e0]
    show t.val % 8 * 1024 + 1 * r.val = _
    omega
  · show win0_5.index t 1 * 128 + 1 * d.val = d.val
    rw [e0]
    show 0 * 128 + 1 * d.val = _
    omega

/-- The logarithm of a point's head's decay. -/
abbrev lg (t : ℕ) : Ideal .f32 := logs (ix1 ⟨t / 8 % 16, Nat.mod_lt _ (by decide)⟩)

/-- A point's logarithms, one on every lane. -/
theorem holds_log (t : Fin cfg0.N) (d : Fin 128) : (iblk m c 6 t : Vec Ideal S1x1x128 .f32) (ix3 0 0 d) = lg t.val := by
  obtain ⟨-, -, -, -, -, -, e0, -⟩ := idx t
  unfold iblk
  rw [View.read_apply]
  refine Eq.trans (congrArg (V m c main_v29) (funext fun a => Fin.ext ?_)) (Cert.Retention.log_at m c ⟨t.val / 8 % 16, Nat.mod_lt _ (by decide)⟩ d)
  fin_cases a
  · show win0_6.index t 0 * 1 + 1 * 0 = t.val / 8 % 16
    rw [e0]
    show t.val / 8 % 16 * 1 + 1 * 0 = _
    omega
  · show win0_6.index t 1 * 1 + 1 * 0 = 0
    rw [e0]
    rfl
  · show win0_6.index t 2 * 128 + 1 * d.val = d.val
    rw [e0]
    show 0 * 128 + 1 * d.val = _
    omega

/-- A point's normalization weights. -/
def wts (t : ℕ) (e : Fin 128) : Ideal .f32 := W m c (ix1 ⟨(128 * (t / 8 % 16) + e.val) % 2048, Nat.mod_lt _ (by decide)⟩)

/-- A point's block of the weights. -/
theorem holds_w (t : Fin cfg0.N) (d : Fin 128) : (iblk m c 7 t : Vec Ideal S1x128 .f32) (ix2 0 d) = wts m c t.val d := by
  obtain ⟨-, -, -, -, -, -, -, e0, -⟩ := idx t
  have hd := d.isLt
  unfold iblk
  rw [View.read_apply]
  refine Eq.trans (congrArg (V m c main_v30) (funext fun a => Fin.ext ?_)) (Cert.Retention.weight_at m c ⟨(128 * (t.val / 8 % 16) + d.val) % 2048, Nat.mod_lt _ (by decide)⟩)
  fin_cases a
  · show win0_7.index t 0 * 1 + 1 * 0 = 0
    rw [e0]
    rfl
  · show win0_7.index t 1 * 128 + 1 * d.val = (128 * (t.val / 8 % 16) + d.val) % 2048
    rw [e0]
    show t.val / 8 % 16 * 128 + 1 * d.val = _
    omega

/-- The state of a point's head before chunk `n`. -/
abbrev st (t n : ℕ) (d e : Fin 128) : Ideal .f32 :=
  carried (lg t) (keys cosT sinT (part (P m c) (t / 128) (t / 8 % 16) 1)) (part (P m c) (t / 128) (t / 8 % 16) 2) n d e

/-- The state at the start of a head is zero. -/
theorem zero_at (d e : Fin 128) : k0_pay1 (F := Ideal) (ix2 d e) = 0 := by
  pointwise [k0_pay1]

/-- The scratch after a point holds its head's state after the point's chunks. -/
theorem scratch_at (n : ℕ) : ∀ (hn : n < cfg0.N) (d e : Fin 128), (outsAt0 m c n hn).2 (ix2 d e) = st m c n (8 * (n % 8) + 8) d e := by
  induction n using Nat.strong_induction_on with
  | _ n ih =>
    intro hn d e
    by_cases h0 : n % 8 = 0
    · have hs : ∀ d e : Fin 128, k0_pay1 (F := Ideal) (ix2 d e) = st m c n (8 * (n % 8)) d e := fun d e => by
        rw [zero_at, h0]; rfl
      refine (congrFun (congrArg Prod.snd (outsAt0_A m c ⟨n, hn⟩ h0)) (ix2 d e)).trans ?_
      dsimp only
      rw [leftA]
      exact state_carried (holds_cos m c ⟨n, hn⟩) (holds_sin m c ⟨n, hn⟩) (holds_k m c ⟨n, hn⟩) (holds_v m c ⟨n, hn⟩) (holds_log m c ⟨n, hn⟩) hs 8 (le_refl _) d e
    · have hs : ∀ d e : Fin 128, (outsAt0 m c (n - 1) (Nat.lt_of_le_of_lt (Nat.sub_le _ _) hn)).2 (ix2 d e) = st m c n (8 * (n % 8)) d e := fun d e => by
        rw [ih (n - 1) (by omega)]
        have a1 : (n - 1) / 128 = n / 128 := by omega
        have a2 : (n - 1) / 8 = n / 8 := by omega
        have a3 : 8 * ((n - 1) % 8) + 8 = 8 * (n % 8) := by omega
        unfold st lg
        simp only [a1, a2, a3]
      refine (congrFun (congrArg Prod.snd (outsAt0_B m c ⟨n, hn⟩ h0)) (ix2 d e)).trans ?_
      dsimp only
      rw [leftB]
      exact state_carried (holds_cos m c ⟨n, hn⟩) (holds_sin m c ⟨n, hn⟩) (holds_k m c ⟨n, hn⟩) (holds_v m c ⟨n, hn⟩) (holds_log m c ⟨n, hn⟩) hs 8 (le_refl _) d e

/-- What a point stores. -/
theorem stored_at (t : Fin cfg0.N) (r : Fin 1024) (e : Fin 128) : (outsAt0 m c t.val t.isLt).1 (ix2 r e)
    = head (lg t.val) cosT sinT (part (P m c) (t.val / 128) (t.val / 8 % 16) 0) (part (P m c) (t.val / 128) (t.val / 8 % 16) 1) (part (P m c) (t.val / 128) (t.val / 8 % 16) 2)
      (part (P m c) (t.val / 128) (t.val / 8 % 16) 3) (wts m c t.val) (8 * (t.val % 8) + r.val / 128) (r.val % 128) e := by
  by_cases h0 : t.val % 8 = 0
  · have hs : ∀ d e : Fin 128, k0_pay1 (F := Ideal) (ix2 d e) = st m c t.val (8 * (t.val % 8)) d e := fun d e => by
      rw [zero_at, h0]; rfl
    refine (congrFun (congrArg Prod.fst (outsAt0_A m c t h0)) (ix2 r e)).trans ?_
    dsimp only
    rw [outA]
    exact block_head (holds_cos m c t) (holds_sin m c t) (holds_k m c t) (holds_v m c t) (holds_log m c t) hs (holds_q m c t) (holds_g m c t) (holds_w m c t) r e
  · have hs : ∀ d e : Fin 128, (outsAt0 m c (t.val - 1) (Nat.lt_of_le_of_lt (Nat.sub_le _ _) t.isLt)).2 (ix2 d e) = st m c t.val (8 * (t.val % 8)) d e := fun d e => by
      rw [scratch_at m c (t.val - 1)]
      have a1 : (t.val - 1) / 128 = t.val / 128 := by omega
      have a2 : (t.val - 1) / 8 = t.val / 8 := by omega
      have a3 : 8 * ((t.val - 1) % 8) + 8 = 8 * (t.val % 8) := by omega
      unfold st lg
      simp only [a1, a2, a3]
    refine (congrFun (congrArg Prod.fst (outsAt0_B m c t h0)) (ix2 r e)).trans ?_
    dsimp only
    rw [outB]
    exact block_head (holds_cos m c t) (holds_sin m c t) (holds_k m c t) (holds_v m c t) (holds_log m c t) hs (holds_q m c t) (holds_g m c t) (holds_w m c t) r e

/-- The array that the launch fills is the retention. -/
theorem final : (dats m 0 c).arrAt 8 cfg0.N = (fun i => retained (P m c) (W m c) i : Vec Ideal S16384x2048 .bf16) := by
  refine (dats m 0 c).arrAt_eq_of_covers 8 _ (by decide +kernel) fun t hf y => ?_
  blk_simp
  rw [after0_8]
  obtain ⟨-, -, -, -, -, -, -, -, e0⟩ := idx t
  have ht := lt_of_lt_of_eq t.isLt N_0
  have hy : ∀ z : S1024x128.Idx, (outsAt0 m c t.val t.isLt).1 z = head (lg t.val) cosT sinT (part (P m c) (t.val / 128) (t.val / 8 % 16) 0) (part (P m c) (t.val / 128) (t.val / 8 % 16) 1) (part (P m c) (t.val / 128) (t.val / 8 % 16) 2)
      (part (P m c) (t.val / 128) (t.val / 8 % 16) 3) (wts m c t.val) (8 * (t.val % 8) + (z 0).val / 128) ((z 0).val % 128) (z 1) := fun z =>
    (congrArg (outsAt0 m c t.val t.isLt).1 (funext fun a => by fin_cases a <;> rfl)).trans (stored_at m c t (z 0) (z 1))
  rw [hy]
  have h0 : (y 0).val < 1024 := (y 0).isLt
  have a0 : ((win0_8.blk t).view.emb y 0).val = win0_8.index t 0 * 1024 + 1 * (y 0).val := rfl
  have a1 : ((win0_8.blk t).view.emb y 1).val = win0_8.index t 1 * 128 + 1 * (y 1).val := rfl
  rw [e0] at a0 a1
  have b0 : ((win0_8.blk t).view.emb y 0).val = (t.val / 128 * 8 + t.val % 8) * 1024 + 1 * (y 0).val := a0
  have b1 : ((win0_8.blk t).view.emb y 1).val = (t.val / 8 % 16) * 128 + 1 * (y 1).val := a1
  refine Eq.trans ?_ (Cert.Retention.retained_eq (P m c) (W m c) _ (t.val / 128) (t.val / 8 % 16) (8 * (t.val % 8) + (y 0).val / 128) ((y 0).val % 128) (y 1)
    (Nat.mod_lt _ (by decide)) (by omega) (by rw [b0]; omega) (by rw [b1]; omega)).symm
  have hm : (⟨t.val / 8 % 16 % 16, Nat.mod_lt _ (by decide)⟩ : Fin 16) = ⟨t.val / 8 % 16, Nat.mod_lt _ (by decide)⟩ := Fin.ext (Nat.mod_mod _ _)
  rw [hm]
  rfl

end Cert.KernelIdeal.Scan
-- ==== Proof.RetentionClaim.lean ====
/-
  The retention's reference ends with the retention in its result, so the kernel and the reference agree, at the ideal instance.
-/
module

public import proofs.«01_k».proof.Defs
public import proofs.«01_k».proof.Proof.RetentionReads
public import proofs.«01_k».proof.Proof.RetentionLoop
public import proofs.«01_k».proof.Proof.RetentionArray

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem
open Idealize.ShloMosaic.StableHlo
open Cert.ReferenceIdeal.Loop (sums Held held)
open Cert.Retention (num num_of zeta xi decay damp half rot keys gain carried mixed mean normed head cosT sinT part retained retained_eq logs angle)

section Rows
variable (p : FVec Ideal S16384x8192 .f32) (b : Fin 2) (h : Fin 16) (n : Fin 64) (i j d e : Fin 128)

/-- A query of a chunk. -/
theorem qs_at : qs p (ix5 b h n i d) = rot cosT sinT (part p b.val h.val 0) (128 * n.val + i.val) d := by
  unfold qs
  rw [chunked_at, turned_at b h _ d _ (part p b.val h.val 0) (fun d => slab0_at p b h _ d)]
  exact congrArg (rot cosT sinT (part p b.val h.val 0) · d) (by show n.val * 128 + i.val = _; omega)

/-- A key of a chunk. -/
theorem ks_at : ks p (ix5 b h n i d) = keys cosT sinT (part p b.val h.val 1) (128 * n.val + i.val) d := by
  unfold ks
  rw [chunked_at, scaled_at, turned_at b h _ d _ (part p b.val h.val 1) (fun d => slab1_at p b h _ d)]
  exact congrArg (keys cosT sinT (part p b.val h.val 1) · d) (by show n.val * 128 + i.val = _; omega)

/-- A value of a chunk. -/
theorem vs_at : vs p (ix5 b h n i d) = part p b.val h.val 2 (128 * n.val + i.val) d := by
  unfold vs
  rw [chunked_at, slab2_at]
  exact congrArg (part p b.val h.val 2 · d) (by show n.val * 128 + i.val = _; omega)

/-- What a chunk adds to the state. -/
theorem gains_eq : gains (ks p) (vs p) zetas (ix5 n b h d e)
    = gain (logs (ix1 h)) (keys cosT sinT (part p b.val h.val 1)) (part p b.val h.val 2) n.val d e := by
  rw [gains_at]
  unfold gain
  exact Finset.sum_congr rfl fun j _ => by rw [ks_at, vs_at, zetas_at]

/-- The decayed sums are the state. -/
theorem sums_eq : ∀ k ≤ 64, sums (gains (ks p) (vs p) zetas) decays b h d e k
    = carried (logs (ix1 h)) (keys cosT sinT (part p b.val h.val 1)) (part p b.val h.val 2) k d e
  | 0, _ => rfl
  | k + 1, hk => by
    unfold sums carried
    rw [sums_eq k (by omega), decays_at, gains_eq]
    show _ + gain _ _ _ (k % 64) d e = _
    rw [Nat.mod_eq_of_lt (by omega)]

/-- An entry of the two parts' sum. -/
theorem mixed_eq (s : FVec Ideal S64x2x16x128x128 .f32)
    (hs : ∀ d e, s (ix5 n b h d e) = carried (logs (ix1 h)) (keys cosT sinT (part p b.val h.val 1)) (part p b.val h.val 2) n.val d e) :
    intra (qs p) (ks p) (vs p) damps (ix5 b h n i e) + cross (qs p) s xis (ix5 b h n i e)
      = mixed (logs (ix1 h)) (rot cosT sinT (part p b.val h.val 0)) (keys cosT sinT (part p b.val h.val 1)) (part p b.val h.val 2)
          (carried (logs (ix1 h)) (keys cosT sinT (part p b.val h.val 1)) (part p b.val h.val 2) n.val) n.val i.val e := by
  rw [intra_at, cross_at]
  unfold mixed
  simp only [qs_at, ks_at, vs_at, damps_at, xis_at, hs]

end Rows

/-- The stages' entry: the retention of the projections and the weights. -/
theorem stages_eq (p : FVec Ideal S16384x8192 .f32) (w : FVec Ideal S2048 .f32) (s : FVec Ideal S64x2x16x128x128 .f32)
    (hs : ∀ n b h d e, s (ix5 n b h d e) = carried (logs (ix1 h)) (keys cosT sinT (part p b.val h.val 1)) (part p b.val h.val 2) n.val d e)
    (i : S16384x2048.Idx) :
    gated (weighted (joined (intra (qs p) (ks p) (vs p) damps) (cross (qs p) s xis)) w) (slab3 p) i = retained p w i := by
  obtain ⟨i0, i1, rfl⟩ : ∃ (i0 : Fin 16384) (i1 : Fin 2048), i = ix2 i0 i1 := ⟨i 0, i 1, funext fun a => by fin_cases a <;> rfl⟩
  obtain ⟨b, hb⟩ : ∃ b : Fin 2, b.val = i0.val / 8192 := ⟨⟨i0.val / 8192, by omega⟩, rfl⟩
  obtain ⟨n, hn⟩ : ∃ n : Fin 64, n.val = i0.val % 8192 / 128 := ⟨⟨i0.val % 8192 / 128, by omega⟩, rfl⟩
  obtain ⟨j, hj⟩ : ∃ j : Fin 128, j.val = i0.val % 128 := ⟨⟨i0.val % 128, by omega⟩, rfl⟩
  obtain ⟨h, hh⟩ : ∃ h : Fin 16, h.val = i1.val / 128 := ⟨⟨i1.val / 128, by omega⟩, rfl⟩
  obtain ⟨e, he⟩ : ∃ e : Fin 128, e.val = i1.val % 128 := ⟨⟨i1.val % 128, by omega⟩, rfl⟩
  have hr : 128 * n.val + j.val < 8192 := by omega
  have h0 : i0.val = 8192 * b.val + (128 * n.val + j.val) := by omega
  have h1 : i1.val = 128 * h.val + e.val := by omega
  rw [retained_eq p w (ix2 i0 i1) b.val h.val n.val j.val e j.isLt n.isLt h0 h1]
  rw [gated_at b h ⟨128 * n.val + j.val, hr⟩ e _ _ (ix2 i0 i1) h0 h1 i1 h1, weighted_at,
    slab3_at p b h ⟨128 * n.val + j.val, hr⟩ e i1 h1]
  have row : ∀ e : Fin 128, joined (intra (qs p) (ks p) (vs p) damps) (cross (qs p) s xis) (ix4 b h ⟨128 * n.val + j.val, hr⟩ e)
      = mixed (logs (ix1 h)) (rot cosT sinT (part p b.val h.val 0)) (keys cosT sinT (part p b.val h.val 1)) (part p b.val h.val 2)
          (carried (logs (ix1 h)) (keys cosT sinT (part p b.val h.val 1)) (part p b.val h.val 2) n.val) n.val j.val e := by
    intro e
    rw [joined_at]
    have en : (⟨(128 * n.val + j.val) / 128, by omega⟩ : Fin 64) = n := Fin.ext (by show (128 * n.val + j.val) / 128 = n.val; omega)
    have ej : (⟨(128 * n.val + j.val) % 128, by omega⟩ : Fin 128) = j := Fin.ext (by show (128 * n.val + j.val) % 128 = j.val; omega)
    rw [en, ej]
    exact mixed_eq p b h n j e s (fun d e => hs n b h d e)
  simp only [row]
  have el : (⟨h.val % 16, Nat.mod_lt _ (by decide)⟩ : Fin 16) = h := Fin.ext (Nat.mod_eq_of_lt h.isLt)
  have ew : (⟨(128 * h.val + e.val) % 2048, Nat.mod_lt _ (by decide)⟩ : Fin 2048) = ⟨h.val * 128 + e.val, by omega⟩ :=
    Fin.ext (by show (128 * h.val + e.val) % 2048 = h.val * 128 + e.val; omega)
  unfold head normed
  simp only [el, ew]

variable (m : (ℓ : Loc nD τ sig) → Buf (Elt Ideal) ℓ) (c : Dev nD)

/-- Before the first trip the state is zero and no state is stored. -/
theorem held_entry : Held (gains (ks (P m c)) (vs (P m c)) zetas) decays 0 (entryContents preI m c) where
  shares := entry_v128_0 m c
  decays := entry_v128_1 m c
  count := entry_v128_2 m c
  state b h d e := by
    rw [entry_v128_3]
    exact Ideal.ofBits_zero_f32
  stored n b h d e hn := absurd hn (Nat.not_lt_zero _)

/-- The stored states after the loop. -/
theorem stored (n : Fin 64) (b : Fin 2) (h : Fin 16) (d e : Fin 128) :
    (after condOps (atK m 64 c) (Proc.devRef .tc main_v128_4) : FVec Ideal S64x2x16x128x128 .f32) (ix5 n b h d e)
      = carried (logs (ix1 h)) (keys cosT sinT (part (P m c) b.val h.val 1)) (part (P m c) b.val h.val 2) n.val d e := by
  rw [cond_keeps (atK m 64 c) main_v128_4 (by decide), atK_agree m c 64 main_v128_4 (by decide),
    (held (held_entry m c) 64 le_rfl).stored n b h d e n.isLt]
  exact sums_eq (P m c) b h d e n.val (by omega)

/-- A buffer that the loop does not write is as before it. -/
theorem kept (r : Ref sig .tc) (hr : r ∉ Fold.loopW) : after condOps (atK m 64 c) (Proc.devRef .tc r) = entryContents preI m c (Proc.devRef .tc r) := by
  have hk := Fold.loop_keeps m c r hr 64
  simp only [Fold.loopW, List.mem_append, not_or] at hr
  rw [after_of_writes_sub _ _ condOps_writes hr.1.1.1.1]
  exact hk

/-- The reference's result is the retention. -/
theorem final : finalContents condOps preI bodyI postI 64 m c (Proc.devRef .tc main_v164) = fun i => retained (P m c) (W m c) i := by
  show afterL postI _ _ = _
  refine (result _).trans ?_
  rw [kept m c main_v99 (by decide +kernel), kept m c main_v91 (by decide +kernel), kept m c main_v115 (by decide +kernel),
    kept m c main_arg1 (by decide +kernel), kept m c main_v4 (by decide +kernel),
    entry_v99, entry_v91, entry_v115, entry_v4, Fold.entry_keeps m c main_arg1 (by decide +kernel)]
  funext i
  exact stages_eq (P m c) (W m c) _ (fun n b h d e => stored m c n b h d e) i

variable (ρ : Dev nD → PrngReg)

/-- The reference runs, ends with the retention in its result, and leaves its arguments unchanged. -/
theorem run : θ_run (Cert.ReferenceIdeal.defs (F := Ideal)) (onTc (τ := τ) (Cert.ReferenceIdeal.main (F := Ideal))) ⟨m, fun _ => 0, ρ⟩
    (fun r => ∀ c : Dev nD, r.2.mem ((c.tc : Thread nD τ).loc main_v164) = (fun i => retained (P m c) (W m c) i)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run Cert.ReferenceIdeal.defs _ _).mono (fun r h c => ⟨?_, ?_, ?_⟩) (run_fold m ρ)
  · rw [h c main_v164 (by decide)]
    exact final m c
  · rw [h c main_arg0 (by decide)]
    exact (Fold.final_keeps m c main_arg0 (by decide +kernel) (by decide +kernel)).trans (Fold.entry_keeps m c main_arg0 (by decide +kernel))
  · rw [h c main_arg1 (by decide)]
    exact (Fold.final_keeps m c main_arg1 (by decide +kernel) (by decide +kernel)).trans (Fold.entry_keeps m c main_arg1 (by decide +kernel))

end Cert.ReferenceIdeal.Stages

/-- The retention and its reference end with equal results. -/
theorem Cert.ReferenceIdeal.Stages.claim : Cert.algebraic_KernelIdeal_ReferenceIdeal := by
  pair_intro
  · run_from Cert.KernelIdeal.Gen.run_main m g
    show Cert.KernelIdeal.Gen.V m c Cert.KernelIdeal.main_arg1 = _
    unfold_abbrev_sides
    after_reads_simp
  · run_from Cert.ReferenceIdeal.Stages.run m' g'
    exact (Cert.KernelIdeal.Scan.final m c).symm

end
-- ==== Proof.FfnBValue.lean ====
/- The value of the gated feed-forward call at layer 0's second half step, with its residual and layer norm: row `r` of the result is the normalized
   row `r` of `√2 · x + ½ · (silu (x · wg) · (x · wu)) · wd`, at the ideal instance. -/
module

public import proofs.«01_k».proof.Defs
public import proofs.«01_k».proof.Proof.Gen.FfnBIdeal.Value
public import proofs.«01_k».proof.Proof.FfnValue
public import Idealize.ShloMosaic.Lib.Pointwise
public import Idealize.ShloMosaic.Lib.WritesUnit
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.FfnBIdeal.Normed

open Idealize.ShloMosaic Idealize.ShloMosaic.TcCoe Idealize.SL.Sem
open Cert.FfnBIdeal Cert.FfnBIdeal.Gen
open Cert.OutProjIdeal.Normed (mean norm)
open Cert.FfnIdeal.Normed (res gate)

/-- The hidden units of a block: the gated projections of its rows. -/
def hid (x : Vec Ideal S512x4096 .f32) (wg wu : Vec Ideal S1x1x4096x256 .bf16) (r : Fin 512) (k : Fin 256) : EReal :=
  gate (∑ j : Fin 4096, x (ix2 r j) * wg (ix4 0 0 j k)) (∑ j : Fin 4096, x (ix2 r j) * wu (ix4 0 0 j k))

/-- The product of a block of hidden units with the block of the output weights. -/
def mulBlk (h : Fin 512 → Fin 256 → EReal) (w : Vec Ideal S1x1x256x4096 .bf16) (y : S512x4096.Idx) : EReal :=
  ∑ k : Fin 256, h (y 0) k * w (ix4 0 0 k (y 1))

/-- One tile of the accumulation: the old value and the product with the tile's columns. -/
def tile (h : Vec Ideal S512x256 .bf16) (v : Vec Ideal S512x512 .f32) (w : Vec Ideal S1x1x256x512 .bf16) : Vec Ideal S512x512 .f32 := fun x =>
  v x + ∑ k : Fin 256, h (ix2 (x 0) k) * w (ix4 0 0 k (x 1))

/-- The hidden units, as the body computes them. -/
theorem pay7 (x : Vec Ideal S512x4096 .bf16) (wg wu : Vec Ideal S1x1x4096x256 .bf16) (i : S512x256.Idx) :
    k0_pay7 x wg wu i = hid x wg wu (i 0) (i 1) := by
  pointwise [k0_pay7, hid, Cert.FfnIdeal.Normed.gate, Ideal.logistic]

theorem pay8 (x : Vec Ideal S512x4096 .bf16) (wg wu : Vec Ideal S1x1x4096x256 .bf16) (v : Vec Ideal S512x512 .f32) (w : Vec Ideal S1x1x256x512 .bf16) :
    k0_pay8 x wg wu v w = tile (k0_pay7 x wg wu) v w := by
  funext i
  pointwise [k0_pay8, tile]

theorem pay11 (x : Vec Ideal S512x4096 .bf16) (wg wu : Vec Ideal S1x1x4096x256 .bf16) (v : Vec Ideal S512x512 .f32) (w : Vec Ideal S1x1x256x512 .bf16) :
    k0_pay11 (k0_pay9 v) (k0_pay10 x wg wu w) = tile (k0_pay7 x wg wu) v w := by
  funext i
  pointwise [k0_pay11, k0_pay9, k0_pay10, tile]

theorem pay12 (h : Vec Ideal S512x256 .bf16) (v : Vec Ideal S512x512 .f32) (w : Vec Ideal S1x1x256x512 .bf16) :
    k0_pay12 h v w = tile h v w := by
  funext i
  pointwise [k0_pay12, tile]

theorem pay13 (h : Vec Ideal S512x256 .bf16) (v : Vec Ideal S512x512 .f32) (w : Vec Ideal S1x1x256x512 .bf16) :
    k0_pay13 h v w = tile h v w := by
  funext i
  pointwise [k0_pay13, tile]

theorem pay14 (h : Vec Ideal S512x256 .bf16) (v : Vec Ideal S512x512 .f32) (w : Vec Ideal S1x1x256x512 .bf16) :
    k0_pay14 h v w = tile h v w := by
  funext i
  pointwise [k0_pay14, tile]

theorem pay1 (h : Vec Ideal S512x256 .bf16) (v : Vec Ideal S512x512 .f32) (w : Vec Ideal S1x1x256x512 .bf16) :
    k0_pay1 h (k0_pay15 v) w = tile h v w := by
  funext i
  pointwise [k0_pay1, k0_pay15, tile]

theorem pay2 (h : Vec Ideal S512x256 .bf16) (v : Vec Ideal S512x512 .f32) (w : Vec Ideal S1x1x256x512 .bf16) :
    k0_pay2 h v w = tile h v w := by
  funext i
  pointwise [k0_pay2, tile]

theorem pay3 (h : Vec Ideal S512x256 .bf16) (v : Vec Ideal S512x512 .f32) (w : Vec Ideal S1x1x256x512 .bf16) :
    k0_pay3 h v w = tile h v w := by
  funext i
  pointwise [k0_pay3, tile]

/-- What one trip of the loop stores: the layer norm of its 32 rows. -/
theorem pay4 (x o : Vec Ideal S32x4096 .f32) (w b : Vec Ideal S1x4096 .f32) (i : S32x4096.Idx) :
    k0_pay4 x o w b i = norm (fun k => res (x (ix2 (i 0) k)) (o (ix2 (i 0) k))) (fun k => w (ix2 0 k)) (fun k => b (ix2 0 k)) (i 1) := by
  pointwise [k0_pay4, Cert.OutProjIdeal.Normed.norm, Cert.OutProjIdeal.Normed.mean, Cert.FfnIdeal.Normed.res]

/-- A store of 32 whole rows at row `32 · k`: inside them the stored value, elsewhere what was there. -/
theorem rows (v : View sig .tc .vmem S512x4096 .f32) (f : v.ty.Contents (Elt Ideal)) (k : Fin k0_t1_loop.trips)
    (hb : ∀ a, k0_off1 k a + S32x4096.size a ≤ S512x4096.size a) (w : S32x4096.Idx → EReal) (y : S512x4096.Idx) :
    v.read (Elt Ideal) (v.writes (Elt Ideal) f [⟨Rect.unit (s := S512x4096) (k0_off1 k) S32x4096.size hb, w⟩]) y
      = if h : 32 * k.val ≤ (y 0).val ∧ (y 0).val < 32 * k.val + 32 then
          w (ix2 ⟨(y 0).val - 32 * k.val, by omega⟩ (y 1))
        else v.read (Elt Ideal) f y := by
  by_cases h : 32 * k.val ≤ (y 0).val ∧ (y 0).val < 32 * k.val + 32
  · rw [dif_pos h]
    refine View.read_writes_cons_unit_of_mem (s := S512x4096) v f hb w [] y (ix2 ⟨(y 0).val - 32 * k.val, by omega⟩ (y 1)) (k0_off1_eq k) ?_
    refine Fin.forall_fin_two.mpr ⟨?_, ?_⟩
    · show (y 0).val = 32 * k.val + ((y 0).val - 32 * k.val)
      omega
    · show (y 1).val = 0 + (y 1).val
      omega
  · rw [dif_neg h]
    refine View.read_writes_cons_unit_of_not_mem (s := S512x4096) v f hb w [] y (k0_off1_eq k) 0 ?_
    show (y 0).val < 32 * k.val ∨ 32 * k.val + 32 ≤ (y 0).val
    omega

/-- A store of the whole buffer is what is read back. -/
theorem whole (v : View sig .tc .vmem S512x4096 .f32) (f : v.ty.Contents (Elt Ideal))
    (hb : ∀ a, (![0, 0] : Fin 2 → ℕ) a + S512x4096.size a ≤ S512x4096.size a) (w : S512x4096.Idx → EReal) (y : S512x4096.Idx) :
    v.read (Elt Ideal) (v.writes (Elt Ideal) f [⟨Rect.unit (s := S512x4096) ![0, 0] S512x4096.size hb, w⟩]) y = w y :=
  View.read_writes_cons_unit_of_mem (s := S512x4096) v f hb w [] y y rfl
    (Fin.forall_fin_two.mpr ⟨(Nat.zero_add _).symm, (Nat.zero_add _).symm⟩)

/-- Reading 32 whole rows from row `32 · k` on. -/
theorem ldRows (X : Vec Ideal S512x4096 .f32) (k : Fin k0_t1_loop.trips)
    (hb : ∀ a, k0_off1 k a + S32x4096.size a ≤ S512x4096.size a) (r : Fin 32) (j : Fin 4096) (h : 32 * k.val + r.val < 512) :
    View.ld X (Rect.unit (s := S512x4096) (k0_off1 k) S32x4096.size hb) (ix2 r j) = X (ix2 ⟨32 * k.val + r.val, h⟩ j) := by
  refine congrArg X (funext (Fin.forall_fin_two.mpr ⟨Fin.ext ?_, Fin.ext ?_⟩))
  · show k0_off1 k 0 + 1 * r.val = 32 * k.val + r.val
    rw [k0_off1_eq k, Nat.one_mul]; rfl
  · show k0_off1 k 1 + 1 * j.val = j.val
    rw [k0_off1_eq k, Nat.one_mul]; exact Nat.zero_add _

/-- A tile's entry is the entry of the whole accumulation at the tile's columns. -/
theorem tile_at (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a)
    (x : S512x512.Idx) (y : S512x4096.Idx) (h0 : (y 0).val = (x 0).val) (h1 : (y 1).val = o + (x 1).val) :
    tile h (View.ld O (Rect.unit (s := S512x4096) ![0, o] ![512, 512] hO)) (View.ld w (Rect.unit (s := S1x1x256x4096) ![0, 0, 0, o] ![1, 1, 256, 512] hW)) x
      = O y + mulBlk (fun r k => h (ix2 r k)) w y := by
  have e0 : x 0 = y 0 := Fin.ext h0.symm
  refine congrArg₂ (· + ·) (congrArg O (funext (Fin.forall_fin_two.mpr ⟨Fin.ext ?_, Fin.ext ?_⟩)))
    (Finset.sum_congr rfl fun k _ => congrArg₂ (· * ·) (congrArg (fun r => h (ix2 r k)) e0) (congrArg w ?_))
  · show 0 + 1 * (x 0).val = (y 0).val
    omega
  · show o + 1 * (x 1).val = (y 1).val
    omega
  · funext a
    fin_cases a <;> refine Fin.ext ?_
    · rfl
    · rfl
    · show 0 + 1 * k.val = k.val
      omega
    · show o + 1 * (x 1).val = (y 1).val
      omega

/-- A tile is the whole accumulation at the places of its columns. -/
theorem tile_emb (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a) (x : S512x512.Idx) :
    tile h (View.ld O (Rect.unit (s := S512x4096) ![0, o] ![512, 512] hO)) (View.ld w (Rect.unit (s := S1x1x256x4096) ![0, 0, 0, o] ![1, 1, 256, 512] hW)) x
      = O ((Rect.unit (s := S512x4096) ![0, o] ![512, 512] hO).emb x)
        + mulBlk (fun r k => h (ix2 r k)) w ((Rect.unit (s := S512x4096) ![0, o] ![512, 512] hO).emb x) := by
  refine tile_at h O w o hO hW x _ ?_ ?_
  · show 0 + 1 * (x 0).val = (x 0).val
    omega
  · show o + 1 * (x 1).val = o + (x 1).val
    omega

/-- The eight tiles, 512 columns each, the last one stored first in the list. -/
def tileList (h : Vec Ideal S512x256 .bf16) (O : Vec Ideal S512x4096 .f32) (w : Vec Ideal S1x1x256x4096 .bf16) : List (View.Piece (Elt Ideal) S512x4096 .f32) := [
    ⟨Rect.unit (s := S512x4096) ![0, 3584] ![512, 512] inb_S512x4096_S512x512_0_3584, tile h (View.ld O (Rect.unit (s := S512x4096) ![0, 3584] ![512, 512] inb_S512x4096_S512x512_0_3584)) (View.ld w (Rect.unit (s := S1x1x256x4096) ![0, 0, 0, 3584] ![1, 1, 256, 512] inb_S1x1x256x4096_S1x1x256x512_0_0_0_3584))⟩,
    ⟨Rect.unit (s := S512x4096) ![0, 3072] ![512, 512] inb_S512x4096_S512x512_0_3072, tile h (View.ld O (Rect.unit (s := S512x4096) ![0, 3072] ![512, 512] inb_S512x4096_S512x512_0_3072)) (View.ld w (Rect.unit (s := S1x1x256x4096) ![0, 0, 0, 3072] ![1, 1, 256, 512] inb_S1x1x256x4096_S1x1x256x512_0_0_0_3072))⟩,
    ⟨Rect.unit (s := S512x4096) ![0, 2560] ![512, 512] inb_S512x4096_S512x512_0_2560, tile h (View.ld O (Rect.unit (s := S512x4096) ![0, 2560] ![512, 512] inb_S512x4096_S512x512_0_2560)) (View.ld w (Rect.unit (s := S1x1x256x4096) ![0, 0, 0, 2560] ![1, 1, 256, 512] inb_S1x1x256x4096_S1x1x256x512_0_0_0_2560))⟩,
    ⟨Rect.unit (s := S512x4096) ![0, 2048] ![512, 512] inb_S512x4096_S512x512_0_2048, tile h (View.ld O (Rect.unit (s := S512x4096) ![0, 2048] ![512, 512] inb_S512x4096_S512x512_0_2048)) (View.ld w (Rect.unit (s := S1x1x256x4096) ![0, 0, 0, 2048] ![1, 1, 256, 512] inb_S1x1x256x4096_S1x1x256x512_0_0_0_2048))⟩,
    ⟨Rect.unit (s := S512x4096) ![0, 1536] ![512, 512] inb_S512x4096_S512x512_0_1536, tile h (View.ld O (Rect.unit (s := S512x4096) ![0, 1536] ![512, 512] inb_S512x4096_S512x512_0_1536)) (View.ld w (Rect.unit (s := S1x1x256x4096) ![0, 0, 0, 1536] ![1, 1, 256, 512] inb_S1x1x256x4096_S1x1x256x512_0_0_0_1536))⟩,
    ⟨Rect.unit (s := S512x4096) ![0, 1024] ![512, 512] inb_S512x4096_S512x512_0_1024, tile h (View.ld O (Rect.unit (s := S512x4096) ![0, 1024] ![512, 512] inb_S512x4096_S512x512_0_1024)) (View.ld w (Rect.unit (s := S1x1x256x4096) ![0, 0, 0, 1024] ![1, 1, 256, 512] inb_S1x1x256x4096_S1x1x256x512_0_0_0_1024))⟩,
    ⟨Rect.unit (s := S512x4096) ![0, 512] ![512, 512] inb_S512x4096_S512x512_0_512, tile h (View.ld O (Rect.unit (s := S512x4096) ![0, 512] ![512, 512] inb_S512x4096_S512x512_0_512)) (View.ld w (Rect.unit (s := S1x1x256x4096) ![0, 0, 0, 512] ![1, 1, 256, 512] inb_S1x1x256x4096_S1x1x256x512_0_0_0_512))⟩,
    ⟨Rect.unit (s := S512x4096) ![0, 0] ![512, 512] inb_S512x4096_S512x512_0_0, tile h (View.ld O (Rect.unit (s := S512x4096) ![0, 0] ![512, 512] inb_S512x4096_S512x512_0_0)) (View.ld w (Rect.unit (s := S1x1x256x4096) ![0, 0, 0, 0] ![1, 1, 256, 512] inb_S1x1x256x4096_S1x1x256x512_0_0_0_0))⟩]

/-- The eight tiles cover the buffer. -/
theorem tiles_cover (h : Vec Ideal S512x256 .bf16) (O : Vec Ideal S512x4096 .f32) (w : Vec Ideal S1x1x256x4096 .bf16) :
    ∀ y : S512x4096.Idx, ∃ p ∈ tileList h O w, y ∈ p.1.set :=
  View.cover_of_tiledL _ S512x512.size (by sl_kernel_rfl)

/-- The eight tiles, stored one after the other over any earlier stores, hold the old contents and the product of the hidden
    units with the output weights. -/
theorem tiles (h : Vec Ideal S512x256 .bf16) (O : Vec Ideal S512x4096 .f32) (w : Vec Ideal S1x1x256x4096 .bf16)
    (L : List (View.Piece (Elt Ideal) S512x4096 .f32)) (y : S512x4096.Idx) :
    View.canon (tileList h O w ++ L) y = O y + mulBlk (fun r k => h (ix2 r k)) w y := by
  refine View.canon_append_of_piecesOf (fun y => O y + mulBlk (fun r k => h (ix2 r k)) w y) L _ ?_ y (tiles_cover h O w y)
  exact ⟨tile_emb h O w 3584 _ _, tile_emb h O w 3072 _ _, tile_emb h O w 2560 _ _, tile_emb h O w 2048 _ _,
    tile_emb h O w 1536 _ _, tile_emb h O w 1024 _ _, tile_emb h O w 512 _ _, tile_emb h O w 0 _ _, trivial⟩

section Loop

variable (𝒱 : Variants) (c : Dev nD) (bd : Option 𝒱.V) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (h2 : k0_cond2 i = 1#1)
  (X2 : BufTy.Contents (Elt Ideal) arg2.view.ty) (X6 : BufTy.Contents (Elt Ideal) arg6.view.ty) (X7 : BufTy.Contents (Elt Ideal) arg7.view.ty)

/-- One trip's only store: the normalized rows. -/
theorem trip (k : Fin k0_t1_loop.trips) (f : BufTy.Contents (Elt Ideal) arg8.view.ty) :
    tripL_k0_t1 (F := Ideal) 𝒱 c bd i arg2 harg2 arg3 harg3 arg4 harg4 arg5 harg5 arg6 harg6 arg7 harg7 arg8 harg8 arg9 harg9 h2 X2 X6 X7 k f
      = [⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            (arg6.view.read (Elt Ideal) X6) (arg7.view.read (Elt Ideal) X7)⟩] := by
  have hz : (![0, 0] : Fin 2 → ℕ) = fun _ => 0 := by funext a; fin_cases a <;> rfl
  have e6 := View.ld_unit_zero (S := S1x4096) hz inb_S1x4096_S1x4096_0_0 (arg6.view.read (Elt Ideal) X6)
  have e7 := View.ld_unit_zero (S := S1x4096) hz inb_S1x4096_S1x4096_0_0 (arg7.view.read (Elt Ideal) X7)
  unfold tripL_k0_t1 trip_k0_t1
  refine Eq.trans ?_ (congrArg₂ (fun u v => [(⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            u v⟩ : View.Piece (Elt Ideal) S512x4096 .f32)]) e6 e7)
  rfl

/-- After `n` trips the first `32 · n` rows are normalized and the rest are as the loop found them. -/
theorem loop (G : BufTy.Contents (Elt Ideal) arg8.view.ty) : ∀ n ≤ 16, ∀ y : S512x4096.Idx,
    arg8.view.read (Elt Ideal) (arg8.view.writes (Elt Ideal) G
        (pb_k0_t1 (F := Ideal) 𝒱 c bd i arg2 harg2 arg3 harg3 arg4 harg4 arg5 harg5 arg6 harg6 arg7 harg7 arg8 harg8 arg9 harg9 h2 X2 X6 X7 G n)) y
      = if (y 0).val < 32 * n then
          norm (fun k => res (arg2.view.read (Elt Ideal) X2 (ix2 (y 0) k)) (arg8.view.read (Elt Ideal) G (ix2 (y 0) k)))
            (fun k => arg6.view.read (Elt Ideal) X6 (ix2 0 k)) (fun k => arg7.view.read (Elt Ideal) X7 (ix2 0 k)) (y 1)
        else arg8.view.read (Elt Ideal) G y := by
  have ht : k0_t1_loop.trips = 16 := by decide +kernel
  intro n
  induction n with
  | zero => intro _ y; rw [if_neg (by omega)]; rfl
  | succ n ih =>
    intro hn y
    have hk : n < k0_t1_loop.trips := by omega
    rw [pb_k0_t1_succ (F := Ideal) 𝒱 c bd i arg2 harg2 arg3 harg3 arg4 harg4 arg5 harg5 arg6 harg6 arg7 harg7 arg8 harg8 arg9 harg9 h2 X2 X6 X7 G ⟨n, hk⟩,
      View.writes_append, trip]
    rw [rows]
    by_cases h : 32 * n ≤ (y 0).val ∧ (y 0).val < 32 * n + 32
    · have h512 : 32 * n + ((y 0).val - 32 * n) < 512 := by have := (y 0).isLt; omega
      have hy : (⟨32 * n + ((y 0).val - 32 * n), h512⟩ : Fin 512) = y 0 := Fin.ext (by show 32 * n + ((y 0).val - 32 * n) = (y 0).val; omega)
      have eo : ∀ k : Fin 4096, arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n)) (ix2 (y 0) k)
          = arg8.view.read (Elt Ideal) G (ix2 (y 0) k) := fun k =>
        (ih (by omega) _).trans (if_neg (by show ¬ (y 0).val < 32 * n; omega))
      rw [dif_pos h, if_pos (by omega), pay4]
      have e2 : ∀ k : Fin 4096, View.ld (arg2.view.read (Elt Ideal) X2) (Rect.unit (s := S512x4096) (k0_off1 ⟨n, hk⟩) S32x4096.size (k0_off1_inb i ⟨n, hk⟩ h2))
          (ix2 ⟨(y 0).val - 32 * n, by omega⟩ k) = arg2.view.read (Elt Ideal) X2 (ix2 (y 0) k) := fun k =>
        (ldRows _ ⟨n, hk⟩ _ _ _ h512).trans (by rw [hy])
      have e8 : ∀ k : Fin 4096, View.ld (arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n))) (Rect.unit (s := S512x4096) (k0_off1 ⟨n, hk⟩) S32x4096.size (k0_off1_inb i ⟨n, hk⟩ h2))
          (ix2 ⟨(y 0).val - 32 * n, by omega⟩ k) = arg8.view.read (Elt Ideal) G (ix2 (y 0) k) := fun k =>
        (ldRows _ ⟨n, hk⟩ _ _ _ h512).trans (by rw [hy]; exact eo k)
      exact congrArg (fun f => norm f _ _ _) (funext fun k => congrArg₂ res (e2 k) (e8 k))
    · rw [dif_neg h, ih (by omega) y]
      by_cases h' : (y 0).val < 32 * n
      · rw [if_pos h', if_pos (by omega)]
      · rw [if_neg h', if_neg (by have h'' : ¬ (32 * n ≤ (y 0).val ∧ (y 0).val < 32 * n + 32) := h; omega)]

end Loop

variable (m : (ℓ : Loc nD τ sig) → Buf (Elt Ideal) ℓ) (ρ : Dev nD → PrngReg)

/-- What the first point of a row block leaves: zero and the product of its hidden units with its output weights. -/
theorem firstPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32) (y : S512x4096.Idx) :
    out0_A_6 c i arg2 harg2 arg3 harg3 arg4 harg4 arg5 harg5 arg6 harg6 arg7 harg7 arg8 harg8 arg9 harg9 hc0 hc1 x0 x1 x2 x3 x4 x5 y = 0 + mulBlk (hid x0 x1 x2) x3 y := by
  frame_open
  simp (disch := decide) only [↓ View.readCov_skip, ↓ View.readCov_cons_toLoadRect, ↓ View.readCov_fill]
  frame_out
  simp only [pay8, pay11, pay12, pay13, pay14, pay1, pay2, pay3]
  have key := tiles (k0_pay7 (k0_pay5 x0) x1 x2) (k0_pay6 (F := Ideal)) x3 [⟨Rect.unit (s := S512x4096) ![0, 0] ![512, 4096] inb_S512x4096_S512x4096_0_0, k0_pay6 (F := Ideal)⟩] y
  simp only [tileList, List.cons_append, List.nil_append] at key
  refine key.trans ?_
  refine congrArg₂ (· + ·) ?_ (congrArg (fun f => mulBlk f x3 y) (funext fun r => funext fun k => ?_))
  · pointwise [k0_pay6]
  · pointwise [k0_pay7, k0_pay5, hid, Cert.FfnIdeal.Normed.gate, Ideal.logistic]

/-- What a middle point leaves: what it found and the product of its hidden units with its output weights. -/
theorem midPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_B_6 c i arg2 harg2 arg3 harg3 arg4 harg4 arg5 harg5 arg6 harg6 arg7 harg7 arg8 harg8 arg9 harg9 hc0 hc1 x0 x1 x2 x3 x4 x5 xo6 xs0 y = xo6 y + mulBlk (hid xs0 x1 x2) x3 y := by
  frame_out
  simp only [pay8, pay11, pay12, pay13, pay14, pay1, pay2, pay3]
  refine (tiles (k0_pay7 xs0 x1 x2) xo6 x3 [] y).trans ?_
  exact congrArg (fun f => xo6 y + mulBlk f x3 y) (funext fun r => funext fun k => pay7 _ _ _ _)

/-- What the last point of a row block leaves: the layer norm of the residual and the accumulated product. -/
theorem lastPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_C_6 c i arg2 harg2 arg3 harg3 arg4 harg4 arg5 harg5 arg6 harg6 arg7 harg7 arg8 harg8 arg9 harg9 hc0 hc1 x0 x1 x2 x3 x4 x5 xo6 xs0 y
      = norm (fun k => res (x0 (ix2 (y 0) k)) (xo6 (ix2 (y 0) k) + mulBlk (hid xs0 x1 x2) x3 (ix2 (y 0) k))) (fun k => x4 (ix2 0 k)) (fun k => x5 (ix2 0 k)) (y 1) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0),
    ← View.read_writes_eq_canon arg8.view arg8.view.junk _ (cover0_C_6 c i arg2 harg2 arg3 harg3 arg4 harg4 arg5 harg5 arg6 harg6 arg7 harg7 arg8 harg8 arg9 harg9 hc0 hc1 x0 x1 x2 x3 x4 x5 xo6 xs0)]
  have hz : (![0, 0] : Fin 2 → ℕ) = fun _ => 0 := by funext a; fin_cases a <;> rfl
  have hz4 : (![0, 0, 0, 0] : Fin 4 → ℕ) = fun _ => 0 := by funext a; fin_cases a <;> rfl
  have ht : (y 0).val < 32 * 16 := (y 0).isLt
  have e : Scf.trips (0#32) (Scalar.addi 0#32 16#32) 1#32 = 16 := by decide +kernel
  unfold kernelRun0_C
  dsimp only
  rw [View.writes_append, e, loop _ _ _ _ _ _ _ _ _ _ _ _ _ _ _ _ _ _ _ _  _ _ _ _ _ 16 le_rfl, if_pos ht]
  sl_unfold_words
  simp only [View.readAt_eq_ld, harg2.read_unread, harg3.read_unread, harg4.read_unread, harg5.read_unread,
    harg6.read_unread, harg7.read_unread, harg8.read_unread, harg9.read_unread]
  rw [View.ld_unit_zero (S := S512x4096) hz inb_S512x4096_S512x4096_0_0 xs0,
    View.ld_unit_zero (S := S1x1x4096x256) hz4 inb_S1x1x4096x256_S1x1x4096x256_0_0_0_0 x1,
    View.ld_unit_zero (S := S1x1x4096x256) hz4 inb_S1x1x4096x256_S1x1x4096x256_0_0_0_0 x2]
  simp only [pay8, pay11, pay12, pay13, pay14, pay1, pay2, pay3]
  refine congrArg (fun f => norm f _ _ _) (funext fun k => congrArg (res _) ?_)
  refine (congrFun (View.read_writes_eq_canon arg8.view arg8.view.junk (tileList (k0_pay7 xs0 x1 x2) xo6 x3) (tiles_cover _ _ _)) _).trans ?_
  refine (tiles (k0_pay7 xs0 x1 x2) xo6 x3 [] _).trans ?_
  exact congrArg (fun f => xo6 (ix2 (y 0) k) + mulBlk f x3 (ix2 (y 0) k)) (funext fun r => funext fun k => pay7 _ _ _ _)

/-- Point `t` of the grid is row block `t / 43` and block `t % 43` of the hidden units. -/
theorem idx : ∀ t : Fin cfg0.N, win0_0.index t = ![t.val / 43, 0] ∧ win0_1.index t = ![0, 1, 0, t.val % 43] ∧ win0_2.index t = ![0, 1, 0, t.val % 43]
    ∧ win0_3.index t = ![0, 1, t.val % 43, 0] ∧ win0_4.index t = ![0, 0] ∧ win0_5.index t = ![0, 0] ∧ win0_6.index t = ![t.val / 43, 0] :=
  (by decide +kernel : ∀ t : Fin grid0.N, _)

/-- What the run keeps in the scratch after point `n`: the row block of the activations. -/
theorem kept (c : Dev nD) : ∀ (n : ℕ) (h : n < cfg0.N), ((outsAt0 m c n h).2 : Vec Ideal S512x4096 .bf16) = (iblk m c 0 ⟨n, h⟩ : Vec Ideal S512x4096 .f32) := by
  intro n
  induction n with
  | zero =>
    intro h
    rw [outsAt0_A m c ⟨0, h⟩ rfl (by show ¬ 0 % 43 = 42; omega)]
    funext y
    frame_out
    pointwise [k0_pay5]
  | succ n ih =>
    intro h
    have e := (idx ⟨n + 1, h⟩).1
    have e' := (idx ⟨n, Nat.lt_of_succ_lt h⟩).1
    by_cases h0 : (n + 1) % 43 = 0
    · rw [outsAt0_A m c ⟨n + 1, h⟩ h0 (by show ¬ (n + 1) % 43 = 42; omega)]
      funext y
      frame_out
      pointwise [k0_pay5]
    · by_cases h1 : (n + 1) % 43 = 42
      · rw [outsAt0_C m c ⟨n + 1, h⟩ h0 h1]
        refine (ih (Nat.lt_of_succ_lt h)).trans ?_
        funext y
        blk_ext [iblk, e, e']
      · rw [outsAt0_B m c ⟨n + 1, h⟩ h0 h1]
        refine (ih (Nat.lt_of_succ_lt h)).trans ?_
        funext y
        blk_ext [iblk, e, e']

/-- The row block that a point finds in the scratch, when it is not the first of its row block. -/
theorem kept_prev (c : Dev nD) (t : Fin cfg0.N) (h : ¬t.val % 43 = 0) :
    ((outsAt0 m c (t.val - 1) (Nat.lt_of_le_of_lt (Nat.sub_le _ _) t.isLt)).2 : Vec Ideal S512x4096 .bf16) = (iblk m c 0 t : Vec Ideal S512x4096 .f32) := by
  have e := (idx t).1
  have e' := (idx ⟨t.val - 1, Nat.lt_of_le_of_lt (Nat.sub_le _ _) t.isLt⟩).1
  have q : (t.val - 1) / 43 = t.val / 43 := by omega
  rw [kept m c (t.val - 1)]
  simp only [q] at e'
  funext y
  blk_ext [iblk, e, e']

/-- What point `t` adds: the product of its hidden units with its output weights. -/
def term (c : Dev nD) (t : Fin cfg0.N) (y : S512x4096.Idx) : EReal :=
  mulBlk (hid (iblk m c 0 t) (iblk m c 1 t) (iblk m c 2 t)) (iblk m c 3 t) y

/-- The accumulated product after point `n`: what the output's buffer holds before the layer norm. -/
def acc (c : Dev nD) (n : ℕ) (h : n < cfg0.N) (y : S512x4096.Idx) : EReal :=
  if n % 43 = 42 then (outsAt0 m c (n - 1) (Nat.lt_of_le_of_lt (Nat.sub_le _ _) h)).1 y + term m c ⟨n, h⟩ y else (outsAt0 m c n h).1 y

/-- The first point of a row block starts from zero. -/
theorem acc_first (c : Dev nD) (t : Fin cfg0.N) (h : t.val % 43 = 0) (y : S512x4096.Idx) :
    acc m c t.val t.isLt y = 0 + term m c t y := by
  rw [acc, if_neg (by omega), outsAt0_A m c t h (by omega)]
  dsimp only
  rw [firstPoint]
  rfl

/-- Every other point adds the product of its blocks. -/
theorem acc_step (c : Dev nD) (t : Fin cfg0.N) (h : ¬t.val % 43 = 0) (y : S512x4096.Idx) :
    acc m c t.val t.isLt y = acc m c (t.val - 1) (Nat.lt_of_le_of_lt (Nat.sub_le _ _) t.isLt) y + term m c t y := by
  rw [acc, acc, if_neg (show ¬ (t.val - 1) % 43 = 42 by omega)]
  by_cases h1 : t.val % 43 = 42
  · rw [if_pos h1]
  · rw [if_neg h1, outsAt0_B m c t h h1]
    dsimp only
    rw [midPoint, kept_prev m c t h]
    rfl

/-- Hidden unit `k` of row `r`. -/
def hidden (x : Vec Ideal S16384x4096 .f32) (wg wu : Vec Ideal S2x2x4096x11008 .f32) (r : Fin 16384) (k : Fin 11008) : EReal :=
  gate (∑ j : Fin 4096, x (ix2 r j) * wg (ix4 0 1 j k)) (∑ j : Fin 4096, x (ix2 r j) * wu (ix4 0 1 j k))

/-- Entry `(r, j)` of the product of the hidden units and the output weights. -/
def prod (x : Vec Ideal S16384x4096 .f32) (wg wu : Vec Ideal S2x2x4096x11008 .f32) (wd : Vec Ideal S2x2x11008x4096 .f32) (r : Fin 16384) (j : Fin 4096) : EReal :=
  ∑ k : Fin 11008, hidden x wg wu r k * wd (ix4 0 1 k j)

/-- The result: the layer norm of the residual sum's rows. -/
def out (x : Vec Ideal S16384x4096 .f32) (wg wu : Vec Ideal S2x2x4096x11008 .f32) (wd : Vec Ideal S2x2x11008x4096 .f32) (lw lb : Vec Ideal S4096 .f32) :
    Vec Ideal S16384x4096 .f32 := fun i =>
  norm (fun j => res (x (ix2 (i 0) j)) (prod x wg wu wd (i 0) j)) (fun j => lw (ix1 j)) (fun j => lb (ix1 j)) (i 1)

/-- The array that the launch fills is the result. -/
theorem final (c : Dev nD) : (dats m 0 c).arrAt 6 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have h7 : t.val % 43 = 42 := (flush0_6 t).mp hf
  have h0 : ¬t.val % 43 = 0 := by omega
  rw [outsAt0_C m c t h0 h7]
  dsimp only
  rw [lastPoint, kept_prev m c t h0]
  have hs : ∀ j : Fin 4096, (outsAt0 m c (t.val - 1) (Nat.lt_of_le_of_lt (Nat.sub_le _ _) t.isLt)).1 (ix2 (y 0) j)
        + mulBlk (hid (iblk m c 0 t) (iblk m c 1 t) (iblk m c 2 t)) (iblk m c 3 t) (ix2 (y 0) j)
      = 0 + ∑ s : Fin 43, term m c ⟨43 * (t.val / 43) + s.val, Pipeline.run_point_lt_of_flush t h7 s⟩ (ix2 (y 0) j) := fun j => by
    refine Eq.trans ?_ (Pipeline.eq_sum_fin_of_reset_step_apply_of_flush (acc m c) 43 (fun _ => 0) (term m c) (acc_first m c) (acc_step m c) t h7 _)
    rw [acc, if_pos h7]
    rfl
  simp only [hs, zero_add]
  obtain ⟨e0, e1, e2, e3, e4, e5, e6⟩ := idx t
  have hx : ∀ j : Fin 4096, (iblk m c 0 t : Vec Ideal S512x4096 .f32) (ix2 (y 0) j)
      = (m ((c : Thread nD τ).loc main_arg0) : Vec Ideal S16384x4096 .f32) (ix2 (((win0_6.blk t).view.emb y) 0) j) := fun j => by
    blk_point [iblk, V, e0, e6]
  have hw : ∀ j : Fin 4096, (iblk m c 4 t : Vec Ideal S1x4096 .f32) (ix2 0 j)
      = (m ((c : Thread nD τ).loc main_arg4) : Vec Ideal S4096 .f32) (ix1 j) := fun j => by
    blk_point [iblk, V, e4]
  have hb : ∀ j : Fin 4096, (iblk m c 5 t : Vec Ideal S1x4096 .f32) (ix2 0 j)
      = (m ((c : Thread nD τ).loc main_arg5) : Vec Ideal S4096 .f32) (ix1 j) := fun j => by
    blk_point [iblk, V, e5]
  have hy : (y 1).val = ((win0_6.blk t).view.emb y 1).val := by
    show (y 1).val = win0_6.index t 1 * 4096 + 1 * (y 1).val
    rw [e6]
    show (y 1).val = 0 * 4096 + 1 * (y 1).val
    omega
  have hp : ∀ j : Fin 4096, ∑ s : Fin 43, term m c ⟨43 * (t.val / 43) + s.val, Pipeline.run_point_lt_of_flush t h7 s⟩ (ix2 (y 0) j)
      = prod (m ((c : Thread nD τ).loc main_arg0)) (m ((c : Thread nD τ).loc main_arg1)) (m ((c : Thread nD τ).loc main_arg2))
        (m ((c : Thread nD τ).loc main_arg3)) (((win0_6.blk t).view.emb y) 0) j := fun j => by
    refine Fin.sum_mul_add_congr fun s k hl => ?_
    obtain ⟨d0, d1, d2, d3, -⟩ := idx ⟨43 * (t.val / 43) + s.val, Pipeline.run_point_lt_of_flush t h7 s⟩
    have q0 : (43 * (t.val / 43) + s.val) / 43 = t.val / 43 := by omega
    have q1 : (43 * (t.val / 43) + s.val) % 43 = s.val := by omega
    simp only [q0, q1] at d0 d1 d2 d3
    refine congrArg₂ (· * ·) (congrArg₂ gate (Finset.sum_congr rfl fun i _ => congrArg₂ (· * ·) ?_ ?_)
      (Finset.sum_congr rfl fun i _ => congrArg₂ (· * ·) ?_ ?_)) ?_
    · blk_point [iblk, V, d0, e6]
    · blk_point [iblk, V, d1]
    · blk_point [iblk, V, d0, e6]
    · blk_point [iblk, V, d2]
    · blk_point [iblk, V, d3]
  have key := congr (congr (congr (congrArg norm (funext fun j => congrArg₂ res (hx j) (hp j))) (funext hw)) (funext hb)) (Fin.ext hy)
  exact key

end Cert.FfnBIdeal.Normed

end
-- ==== Proof.FfnBRef.lean ====
/- The reference of the feed-forward call at layer 0's second half step, stage by stage: the gated hidden units, the output projection, the residual sum and the
   layer norm, each entry as a plain expression, at the ideal instance. -/
module

public import proofs.«01_k».proof.Defs
public import proofs.«01_k».proof.Proof.OutProjValue
public import proofs.«01_k».proof.Proof.Gen.FfnBRefIdeal.Run
public import Idealize.ShloMosaic.Lib.Pointwise
public import Idealize.ShloMosaic.Lib.Tactic

@[expose] public section

set_option maxRecDepth 16384

noncomputable section
namespace Cert.FfnBRefIdeal.Value
namespace Rows
open Idealize.ShloMosaic Idealize.ShloMosaic.TcCoe Idealize.SL.Sem Cert.FfnBRefIdeal Cert.FfnBRefIdeal.Gen
open Cert.OutProjIdeal.Normed (mean norm)

/-- The reference's gated value of two arrays. -/
def gateA (g u : FVec Ideal S16384x11008 .f32) : FVec Ideal S16384x11008 .f32 := mulf (mulf g (Host.divf (broadcastInDim S16384x11008 ![] bcast_S_S16384x11008 (constant S_ .f32 0x3F800000#32)) (addf (broadcastInDim S16384x11008 ![] bcast_S_S16384x11008 (constant S_ .f32 0x3F800000#32)) (Host.exp (Host.negf g))))) u

/-- The reference's gate projection. -/
def projA (x : FVec Ideal S16384x4096 .f32) (w : FVec Ideal S2x2x4096x11008 .f32) : FVec Ideal S16384x11008 .f32 := Host.dotGeneral dot_S16384x4096_S4096x11008_S16384x11008_1_0_0_1_n_n none x (shapeCast _ (extractStridedSlice S1x1x4096x11008 ![0, 1, 0, 0] w slices_S2x2x4096x11008_S1x1x4096x11008_0_1_0_0) shapeCasts_S1x1x4096x11008_S4096x11008)

/-- The reference's output projection. -/
def downA (h : FVec Ideal S16384x11008 .f32) (wd : FVec Ideal S2x2x11008x4096 .f32) : FVec Ideal S16384x4096 .f32 := Host.dotGeneral dot_S16384x11008_S11008x4096_S16384x4096_1_0_0_1_n_n none h (shapeCast _ (extractStridedSlice S1x1x11008x4096 ![0, 1, 0, 0] wd slices_S2x2x11008x4096_S1x1x11008x4096_0_1_0_0) shapeCasts_S1x1x11008x4096_S11008x4096)

/-- The reference's residual sum. -/
def resA (x O : FVec Ideal S16384x4096 .f32) : FVec Ideal S16384x4096 .f32 := addf (mulf (broadcastInDim S16384x4096 ![] bcast_S_S16384x4096 (constant S_ .f32 0x3FB504F3#32)) x) (mulf (broadcastInDim S16384x4096 ![] bcast_S_S16384x4096 (constant S_ .f32 0x3F000000#32)) O)

/-- The reference's layer norm. -/
def normA (A : FVec Ideal S16384x4096 .f32) (lw lb : FVec Ideal S4096 .f32) : FVec Ideal S16384x4096 .f32 := addf (mulf (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 lw))) (broadcastInDim S16384x4096 ![0, 1] bcast_S1x4096_S16384x4096_0_1 (broadcastInDim S1x4096 ![1] bcast_S4096_S1x4096_1 lb))

/-- The named result is the layer norm of the residual sum, stage by stage. -/
theorem res_eq (m : (ℓ : Loc nD τ sig) → Buf (Elt Ideal) ℓ) (c : Dev nD) :
    Value.res_main_v39 m c = normA (resA (m ((c : Thread nD τ).loc main_arg0)) (downA (gateA (projA (m ((c : Thread nD τ).loc main_arg0)) (m ((c : Thread nD τ).loc main_arg1)))
      (projA (m ((c : Thread nD τ).loc main_arg0)) (m ((c : Thread nD τ).loc main_arg2)))) (m ((c : Thread nD τ).loc main_arg3))))
      (m ((c : Thread nD τ).loc main_arg4)) (m ((c : Thread nD τ).loc main_arg5)) := rfl

/-- An entry of the gated values. -/
theorem gateA_at (g u : Vec Ideal S16384x11008 .f32) (i : S16384x11008.Idx) : gateA g u i = g i * Ideal.div 1 (1 + Ideal.exp (-g i)) * u i := by
  pointwise [gateA]

/-- An entry of a projection to the hidden units. -/
theorem projA_at (x : Vec Ideal S16384x4096 .f32) (w : Vec Ideal S2x2x4096x11008 .f32) (i : S16384x11008.Idx) :
    projA x w i = ∑ j : Fin 4096, x (ix2 (i 0) j) * w (ix4 0 1 j (i 1)) := by
  pointwise [projA]

/-- An entry of the output projection. -/
theorem downA_at (h : Vec Ideal S16384x11008 .f32) (w : Vec Ideal S2x2x11008x4096 .f32) (i : S16384x4096.Idx) :
    downA h w i = ∑ k : Fin 11008, h (ix2 (i 0) k) * w (ix4 0 1 k (i 1)) := by
  pointwise [downA]

/-- An entry of the residual sum. -/
theorem resA_at (x O : Vec Ideal S16384x4096 .f32) (i : S16384x4096.Idx) :
    resA x O i = Ideal.ofBits .f32 0x3FB504F3#32 * x i + Ideal.ofBits .f32 0x3F000000#32 * O i := by
  pointwise [resA]

/-- An entry of the layer norm is the normalized row's entry. -/
theorem normA_at (A : Vec Ideal S16384x4096 .f32) (lw lb : Vec Ideal S4096 .f32) (i : S16384x4096.Idx) :
    normA A lw lb i = norm (fun j => A (ix2 (i 0) j)) (fun j => lw (ix1 j)) (fun j => lb (ix1 j)) (i 1) := by
  pointwise [normA, Cert.OutProjIdeal.Normed.norm, Cert.OutProjIdeal.Normed.mean]

end Rows
end Cert.FfnBRefIdeal.Value
end
-- ==== Proof.FfnBClaim.lean ====
/- The value claim of the feed-forward call at layer 0's second half step: the array that the launch fills is the reference's result. -/
module

public import proofs.«01_k».proof.Proof.FfnBValue
public import proofs.«01_k».proof.Proof.FfnBRef

@[expose] public section

set_option maxRecDepth 16384

noncomputable section

open Idealize.ShloMosaic Idealize.ShloMosaic.TcCoe Idealize.SL.Sem

/-- The reference's result is the normalized residual sum. -/
theorem Cert.FfnBRefIdeal.Value.Rows.res_out (m : (ℓ : Loc Cert.FfnBRefIdeal.nD Cert.FfnBRefIdeal.τ Cert.FfnBRefIdeal.sig) → Buf (Elt Ideal) ℓ)
    (c : Dev Cert.FfnBRefIdeal.nD) : Cert.FfnBRefIdeal.Value.res_main_v39 m c
      = Cert.FfnBIdeal.Normed.out (m (c.tc.loc Cert.FfnBRefIdeal.main_arg0)) (m (c.tc.loc Cert.FfnBRefIdeal.main_arg1))
        (m (c.tc.loc Cert.FfnBRefIdeal.main_arg2)) (m (c.tc.loc Cert.FfnBRefIdeal.main_arg3))
        (m (c.tc.loc Cert.FfnBRefIdeal.main_arg4)) (m (c.tc.loc Cert.FfnBRefIdeal.main_arg5)) := by
  funext i
  refine (congrFun (Cert.FfnBRefIdeal.Value.Rows.res_eq m c) i).trans ((Cert.FfnBRefIdeal.Value.Rows.normA_at _ _ _ i).trans ?_)
  refine congrArg (fun f => Cert.OutProjIdeal.Normed.norm f _ _ _) (funext fun j => ?_)
  refine (Cert.FfnBRefIdeal.Value.Rows.resA_at _ _ _).trans (congrArg (Cert.FfnIdeal.Normed.res _) ?_)
  refine (Cert.FfnBRefIdeal.Value.Rows.downA_at _ _ _).trans (Finset.sum_congr rfl fun k _ => congrArg (· * _) ?_)
  refine (Cert.FfnBRefIdeal.Value.Rows.gateA_at _ _ _).trans (congrArg₂ Cert.FfnIdeal.Normed.gate ?_ ?_)
  · exact Cert.FfnBRefIdeal.Value.Rows.projA_at _ _ _
  · exact Cert.FfnBRefIdeal.Value.Rows.projA_at _ _ _

/-- The feed-forward call at layer 0's second half step, with its residual and layer norm, and its reference, end with equal results. -/
theorem Cert.FfnBIdeal.Normed.claim : Cert.algebraic_FfnBIdeal_FfnBRefIdeal := by
  pair_intro
  · run_from Cert.FfnBIdeal.Gen.run_main m g
  · run_from Cert.FfnBRefIdeal.Value.run m' g'
    refine Eq.trans ?_ (Cert.FfnBIdeal.Normed.final m c).symm
    refine (Cert.FfnBRefIdeal.Value.Rows.res_out m' c).trans ?_
    obtain ⟨a0, a1, a2, a3, a4, a5⟩ := hagree c
    rw [a0, a1, a2, a3, a4, a5]

end
-- ==== Proof.FfnCValue.lean ====
/- The value of the gated feed-forward call at layer 1's first half step, with its residual and layer norm: row `r` of the result is the normalized
   row `r` of `√2 · x + ½ · (silu (x · wg) · (x · wu)) · wd`, at the ideal instance. -/
module

public import proofs.«01_k».proof.Defs
public import proofs.«01_k».proof.Proof.Gen.FfnCIdeal.Value
public import proofs.«01_k».proof.Proof.FfnValue
public import Idealize.ShloMosaic.Lib.Pointwise
public import Idealize.ShloMosaic.Lib.WritesUnit
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.FfnCIdeal.Normed

open Idealize.ShloMosaic Idealize.ShloMosaic.TcCoe Idealize.SL.Sem
open Cert.FfnCIdeal Cert.FfnCIdeal.Gen
open Cert.OutProjIdeal.Normed (mean norm)
open Cert.FfnIdeal.Normed (res gate)

/-- The hidden units of a block: the gated projections of its rows. -/
def hid (x : Vec Ideal S512x4096 .f32) (wg wu : Vec Ideal S1x1x4096x256 .bf16) (r : Fin 512) (k : Fin 256) : EReal :=
  gate (∑ j : Fin 4096, x (ix2 r j) * wg (ix4 0 0 j k)) (∑ j : Fin 4096, x (ix2 r j) * wu (ix4 0 0 j k))

/-- The product of a block of hidden units with the block of the output weights. -/
def mulBlk (h : Fin 512 → Fin 256 → EReal) (w : Vec Ideal S1x1x256x4096 .bf16) (y : S512x4096.Idx) : EReal :=
  ∑ k : Fin 256, h (y 0) k * w (ix4 0 0 k (y 1))

/-- One tile of the accumulation: the old value and the product with the tile's columns. -/
def tile (h : Vec Ideal S512x256 .bf16) (v : Vec Ideal S512x512 .f32) (w : Vec Ideal S1x1x256x512 .bf16) : Vec Ideal S512x512 .f32 := fun x =>
  v x + ∑ k : Fin 256, h (ix2 (x 0) k) * w (ix4 0 0 k (x 1))

/-- The hidden units, as the body computes them. -/
theorem pay7 (x : Vec Ideal S512x4096 .bf16) (wg wu : Vec Ideal S1x1x4096x256 .bf16) (i : S512x256.Idx) :
    k0_pay7 x wg wu i = hid x wg wu (i 0) (i 1) := by
  pointwise [k0_pay7, hid, Cert.FfnIdeal.Normed.gate, Ideal.logistic]

theorem pay8 (x : Vec Ideal S512x4096 .bf16) (wg wu : Vec Ideal S1x1x4096x256 .bf16) (v : Vec Ideal S512x512 .f32) (w : Vec Ideal S1x1x256x512 .bf16) :
    k0_pay8 x wg wu v w = tile (k0_pay7 x wg wu) v w := by
  funext i
  pointwise [k0_pay8, tile]

theorem pay11 (x : Vec Ideal S512x4096 .bf16) (wg wu : Vec Ideal S1x1x4096x256 .bf16) (v : Vec Ideal S512x512 .f32) (w : Vec Ideal S1x1x256x512 .bf16) :
    k0_pay11 (k0_pay9 v) (k0_pay10 x wg wu w) = tile (k0_pay7 x wg wu) v w := by
  funext i
  pointwise [k0_pay11, k0_pay9, k0_pay10, tile]

theorem pay12 (h : Vec Ideal S512x256 .bf16) (v : Vec Ideal S512x512 .f32) (w : Vec Ideal S1x1x256x512 .bf16) :
    k0_pay12 h v w = tile h v w := by
  funext i
  pointwise [k0_pay12, tile]

theorem pay13 (h : Vec Ideal S512x256 .bf16) (v : Vec Ideal S512x512 .f32) (w : Vec Ideal S1x1x256x512 .bf16) :
    k0_pay13 h v w = tile h v w := by
  funext i
  pointwise [k0_pay13, tile]

theorem pay14 (h : Vec Ideal S512x256 .bf16) (v : Vec Ideal S512x512 .f32) (w : Vec Ideal S1x1x256x512 .bf16) :
    k0_pay14 h v w = tile h v w := by
  funext i
  pointwise [k0_pay14, tile]

theorem pay1 (h : Vec Ideal S512x256 .bf16) (v : Vec Ideal S512x512 .f32) (w : Vec Ideal S1x1x256x512 .bf16) :
    k0_pay1 h (k0_pay15 v) w = tile h v w := by
  funext i
  pointwise [k0_pay1, k0_pay15, tile]

theorem pay2 (h : Vec Ideal S512x256 .bf16) (v : Vec Ideal S512x512 .f32) (w : Vec Ideal S1x1x256x512 .bf16) :
    k0_pay2 h v w = tile h v w := by
  funext i
  pointwise [k0_pay2, tile]

theorem pay3 (h : Vec Ideal S512x256 .bf16) (v : Vec Ideal S512x512 .f32) (w : Vec Ideal S1x1x256x512 .bf16) :
    k0_pay3 h v w = tile h v w := by
  funext i
  pointwise [k0_pay3, tile]

/-- What one trip of the loop stores: the layer norm of its 32 rows. -/
theorem pay4 (x o : Vec Ideal S32x4096 .f32) (w b : Vec Ideal S1x4096 .f32) (i : S32x4096.Idx) :
    k0_pay4 x o w b i = norm (fun k => res (x (ix2 (i 0) k)) (o (ix2 (i 0) k))) (fun k => w (ix2 0 k)) (fun k => b (ix2 0 k)) (i 1) := by
  pointwise [k0_pay4, Cert.OutProjIdeal.Normed.norm, Cert.OutProjIdeal.Normed.mean, Cert.FfnIdeal.Normed.res]

/-- A store of 32 whole rows at row `32 · k`: inside them the stored value, elsewhere what was there. -/
theorem rows (v : View sig .tc .vmem S512x4096 .f32) (f : v.ty.Contents (Elt Ideal)) (k : Fin k0_t1_loop.trips)
    (hb : ∀ a, k0_off1 k a + S32x4096.size a ≤ S512x4096.size a) (w : S32x4096.Idx → EReal) (y : S512x4096.Idx) :
    v.read (Elt Ideal) (v.writes (Elt Ideal) f [⟨Rect.unit (s := S512x4096) (k0_off1 k) S32x4096.size hb, w⟩]) y
      = if h : 32 * k.val ≤ (y 0).val ∧ (y 0).val < 32 * k.val + 32 then
          w (ix2 ⟨(y 0).val - 32 * k.val, by omega⟩ (y 1))
        else v.read (Elt Ideal) f y := by
  by_cases h : 32 * k.val ≤ (y 0).val ∧ (y 0).val < 32 * k.val + 32
  · rw [dif_pos h]
    refine View.read_writes_cons_unit_of_mem (s := S512x4096) v f hb w [] y (ix2 ⟨(y 0).val - 32 * k.val, by omega⟩ (y 1)) (k0_off1_eq k) ?_
    refine Fin.forall_fin_two.mpr ⟨?_, ?_⟩
    · show (y 0).val = 32 * k.val + ((y 0).val - 32 * k.val)
      omega
    · show (y 1).val = 0 + (y 1).val
      omega
  · rw [dif_neg h]
    refine View.read_writes_cons_unit_of_not_mem (s := S512x4096) v f hb w [] y (k0_off1_eq k) 0 ?_
    show (y 0).val < 32 * k.val ∨ 32 * k.val + 32 ≤ (y 0).val
    omega

/-- A store of the whole buffer is what is read back. -/
theorem whole (v : View sig .tc .vmem S512x4096 .f32) (f : v.ty.Contents (Elt Ideal))
    (hb : ∀ a, (![0, 0] : Fin 2 → ℕ) a + S512x4096.size a ≤ S512x4096.size a) (w : S512x4096.Idx → EReal) (y : S512x4096.Idx) :
    v.read (Elt Ideal) (v.writes (Elt Ideal) f [⟨Rect.unit (s := S512x4096) ![0, 0] S512x4096.size hb, w⟩]) y = w y :=
  View.read_writes_cons_unit_of_mem (s := S512x4096) v f hb w [] y y rfl
    (Fin.forall_fin_two.mpr ⟨(Nat.zero_add _).symm, (Nat.zero_add _).symm⟩)

/-- Reading 32 whole rows from row `32 · k` on. -/
theorem ldRows (X : Vec Ideal S512x4096 .f32) (k : Fin k0_t1_loop.trips)
    (hb : ∀ a, k0_off1 k a + S32x4096.size a ≤ S512x4096.size a) (r : Fin 32) (j : Fin 4096) (h : 32 * k.val + r.val < 512) :
    View.ld X (Rect.unit (s := S512x4096) (k0_off1 k) S32x4096.size hb) (ix2 r j) = X (ix2 ⟨32 * k.val + r.val, h⟩ j) := by
  refine congrArg X (funext (Fin.forall_fin_two.mpr ⟨Fin.ext ?_, Fin.ext ?_⟩))
  · show k0_off1 k 0 + 1 * r.val = 32 * k.val + r.val
    rw [k0_off1_eq k, Nat.one_mul]; rfl
  · show k0_off1 k 1 + 1 * j.val = j.val
    rw [k0_off1_eq k, Nat.one_mul]; exact Nat.zero_add _

/-- A tile's entry is the entry of the whole accumulation at the tile's columns. -/
theorem tile_at (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a)
    (x : S512x512.Idx) (y : S512x4096.Idx) (h0 : (y 0).val = (x 0).val) (h1 : (y 1).val = o + (x 1).val) :
    tile h (View.ld O (Rect.unit (s := S512x4096) ![0, o] ![512, 512] hO)) (View.ld w (Rect.unit (s := S1x1x256x4096) ![0, 0, 0, o] ![1, 1, 256, 512] hW)) x
      = O y + mulBlk (fun r k => h (ix2 r k)) w y := by
  have e0 : x 0 = y 0 := Fin.ext h0.symm
  refine congrArg₂ (· + ·) (congrArg O (funext (Fin.forall_fin_two.mpr ⟨Fin.ext ?_, Fin.ext ?_⟩)))
    (Finset.sum_congr rfl fun k _ => congrArg₂ (· * ·) (congrArg (fun r => h (ix2 r k)) e0) (congrArg w ?_))
  · show 0 + 1 * (x 0).val = (y 0).val
    omega
  · show o + 1 * (x 1).val = (y 1).val
    omega
  · funext a
    fin_cases a <;> refine Fin.ext ?_
    · rfl
    · rfl
    · show 0 + 1 * k.val = k.val
      omega
    · show o + 1 * (x 1).val = (y 1).val
      omega

/-- A tile is the whole accumulation at the places of its columns. -/
theorem tile_emb (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a) (x : S512x512.Idx) :
    tile h (View.ld O (Rect.unit (s := S512x4096) ![0, o] ![512, 512] hO)) (View.ld w (Rect.unit (s := S1x1x256x4096) ![0, 0, 0, o] ![1, 1, 256, 512] hW)) x
      = O ((Rect.unit (s := S512x4096) ![0, o] ![512, 512] hO).emb x)
        + mulBlk (fun r k => h (ix2 r k)) w ((Rect.unit (s := S512x4096) ![0, o] ![512, 512] hO).emb x) := by
  refine tile_at h O w o hO hW x _ ?_ ?_
  · show 0 + 1 * (x 0).val = (x 0).val
    omega
  · show o + 1 * (x 1).val = o + (x 1).val
    omega

/-- The eight tiles, 512 columns each, the last one stored first in the list. -/
def tileList (h : Vec Ideal S512x256 .bf16) (O : Vec Ideal S512x4096 .f32) (w : Vec Ideal S1x1x256x4096 .bf16) : List (View.Piece (Elt Ideal) S512x4096 .f32) := [
    ⟨Rect.unit (s := S512x4096) ![0, 3584] ![512, 512] inb_S512x4096_S512x512_0_3584, tile h (View.ld O (Rect.unit (s := S512x4096) ![0, 3584] ![512, 512] inb_S512x4096_S512x512_0_3584)) (View.ld w (Rect.unit (s := S1x1x256x4096) ![0, 0, 0, 3584] ![1, 1, 256, 512] inb_S1x1x256x4096_S1x1x256x512_0_0_0_3584))⟩,
    ⟨Rect.unit (s := S512x4096) ![0, 3072] ![512, 512] inb_S512x4096_S512x512_0_3072, tile h (View.ld O (Rect.unit (s := S512x4096) ![0, 3072] ![512, 512] inb_S512x4096_S512x512_0_3072)) (View.ld w (Rect.unit (s := S1x1x256x4096) ![0, 0, 0, 3072] ![1, 1, 256, 512] inb_S1x1x256x4096_S1x1x256x512_0_0_0_3072))⟩,
    ⟨Rect.unit (s := S512x4096) ![0, 2560] ![512, 512] inb_S512x4096_S512x512_0_2560, tile h (View.ld O (Rect.unit (s := S512x4096) ![0, 2560] ![512, 512] inb_S512x4096_S512x512_0_2560)) (View.ld w (Rect.unit (s := S1x1x256x4096) ![0, 0, 0, 2560] ![1, 1, 256, 512] inb_S1x1x256x4096_S1x1x256x512_0_0_0_2560))⟩,
    ⟨Rect.unit (s := S512x4096) ![0, 2048] ![512, 512] inb_S512x4096_S512x512_0_2048, tile h (View.ld O (Rect.unit (s := S512x4096) ![0, 2048] ![512, 512] inb_S512x4096_S512x512_0_2048)) (View.ld w (Rect.unit (s := S1x1x256x4096) ![0, 0, 0, 2048] ![1, 1, 256, 512] inb_S1x1x256x4096_S1x1x256x512_0_0_0_2048))⟩,
    ⟨Rect.unit (s := S512x4096) ![0, 1536] ![512, 512] inb_S512x4096_S512x512_0_1536, tile h (View.ld O (Rect.unit (s := S512x4096) ![0, 1536] ![512, 512] inb_S512x4096_S512x512_0_1536)) (View.ld w (Rect.unit (s := S1x1x256x4096) ![0, 0, 0, 1536] ![1, 1, 256, 512] inb_S1x1x256x4096_S1x1x256x512_0_0_0_1536))⟩,
    ⟨Rect.unit (s := S512x4096) ![0, 1024] ![512, 512] inb_S512x4096_S512x512_0_1024, tile h (View.ld O (Rect.unit (s := S512x4096) ![0, 1024] ![512, 512] inb_S512x4096_S512x512_0_1024)) (View.ld w (Rect.unit (s := S1x1x256x4096) ![0, 0, 0, 1024] ![1, 1, 256, 512] inb_S1x1x256x4096_S1x1x256x512_0_0_0_1024))⟩,
    ⟨Rect.unit (s := S512x4096) ![0, 512] ![512, 512] inb_S512x4096_S512x512_0_512, tile h (View.ld O (Rect.unit (s := S512x4096) ![0, 512] ![512, 512] inb_S512x4096_S512x512_0_512)) (View.ld w (Rect.unit (s := S1x1x256x4096) ![0, 0, 0, 512] ![1, 1, 256, 512] inb_S1x1x256x4096_S1x1x256x512_0_0_0_512))⟩,
    ⟨Rect.unit (s := S512x4096) ![0, 0] ![512, 512] inb_S512x4096_S512x512_0_0, tile h (View.ld O (Rect.unit (s := S512x4096) ![0, 0] ![512, 512] inb_S512x4096_S512x512_0_0)) (View.ld w (Rect.unit (s := S1x1x256x4096) ![0, 0, 0, 0] ![1, 1, 256, 512] inb_S1x1x256x4096_S1x1x256x512_0_0_0_0))⟩]

/-- The eight tiles cover the buffer. -/
theorem tiles_cover (h : Vec Ideal S512x256 .bf16) (O : Vec Ideal S512x4096 .f32) (w : Vec Ideal S1x1x256x4096 .bf16) :
    ∀ y : S512x4096.Idx, ∃ p ∈ tileList h O w, y ∈ p.1.set :=
  View.cover_of_tiledL _ S512x512.size (by sl_kernel_rfl)

/-- The eight tiles, stored one after the other over any earlier stores, hold the old contents and the product of the hidden
    units with the output weights. -/
theorem tiles (h : Vec Ideal S512x256 .bf16) (O : Vec Ideal S512x4096 .f32) (w : Vec Ideal S1x1x256x4096 .bf16)
    (L : List (View.Piece (Elt Ideal) S512x4096 .f32)) (y : S512x4096.Idx) :
    View.canon (tileList h O w ++ L) y = O y + mulBlk (fun r k => h (ix2 r k)) w y := by
  refine View.canon_append_of_piecesOf (fun y => O y + mulBlk (fun r k => h (ix2 r k)) w y) L _ ?_ y (tiles_cover h O w y)
  exact ⟨tile_emb h O w 3584 _ _, tile_emb h O w 3072 _ _, tile_emb h O w 2560 _ _, tile_emb h O w 2048 _ _,
    tile_emb h O w 1536 _ _, tile_emb h O w 1024 _ _, tile_emb h O w 512 _ _, tile_emb h O w 0 _ _, trivial⟩

section Loop

variable (𝒱 : Variants) (c : Dev nD) (bd : Option 𝒱.V) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (h2 : k0_cond2 i = 1#1)
  (X2 : BufTy.Contents (Elt Ideal) arg2.view.ty) (X6 : BufTy.Contents (Elt Ideal) arg6.view.ty) (X7 : BufTy.Contents (Elt Ideal) arg7.view.ty)

/-- One trip's only store: the normalized rows. -/
theorem trip (k : Fin k0_t1_loop.trips) (f : BufTy.Contents (Elt Ideal) arg8.view.ty) :
    tripL_k0_t1 (F := Ideal) 𝒱 c bd i arg2 harg2 arg3 harg3 arg4 harg4 arg5 harg5 arg6 harg6 arg7 harg7 arg8 harg8 arg9 harg9 h2 X2 X6 X7 k f
      = [⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            (arg6.view.read (Elt Ideal) X6) (arg7.view.read (Elt Ideal) X7)⟩] := by
  have hz : (![0, 0] : Fin 2 → ℕ) = fun _ => 0 := by funext a; fin_cases a <;> rfl
  have e6 := View.ld_unit_zero (S := S1x4096) hz inb_S1x4096_S1x4096_0_0 (arg6.view.read (Elt Ideal) X6)
  have e7 := View.ld_unit_zero (S := S1x4096) hz inb_S1x4096_S1x4096_0_0 (arg7.view.read (Elt Ideal) X7)
  unfold tripL_k0_t1 trip_k0_t1
  refine Eq.trans ?_ (congrArg₂ (fun u v => [(⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            u v⟩ : View.Piece (Elt Ideal) S512x4096 .f32)]) e6 e7)
  rfl

/-- After `n` trips the first `32 · n` rows are normalized and the rest are as the loop found them. -/
theorem loop (G : BufTy.Contents (Elt Ideal) arg8.view.ty) : ∀ n ≤ 16, ∀ y : S512x4096.Idx,
    arg8.view.read (Elt Ideal) (arg8.view.writes (Elt Ideal) G
        (pb_k0_t1 (F := Ideal) 𝒱 c bd i arg2 harg2 arg3 harg3 arg4 harg4 arg5 harg5 arg6 harg6 arg7 harg7 arg8 harg8 arg9 harg9 h2 X2 X6 X7 G n)) y
      = if (y 0).val < 32 * n then
          norm (fun k => res (arg2.view.read (Elt Ideal) X2 (ix2 (y 0) k)) (arg8.view.read (Elt Ideal) G (ix2 (y 0) k)))
            (fun k => arg6.view.read (Elt Ideal) X6 (ix2 0 k)) (fun k => arg7.view.read (Elt Ideal) X7 (ix2 0 k)) (y 1)
        else arg8.view.read (Elt Ideal) G y := by
  have ht : k0_t1_loop.trips = 16 := by decide +kernel
  intro n
  induction n with
  | zero => intro _ y; rw [if_neg (by omega)]; rfl
  | succ n ih =>
    intro hn y
    have hk : n < k0_t1_loop.trips := by omega
    rw [pb_k0_t1_succ (F := Ideal) 𝒱 c bd i arg2 harg2 arg3 harg3 arg4 harg4 arg5 harg5 arg6 harg6 arg7 harg7 arg8 harg8 arg9 harg9 h2 X2 X6 X7 G ⟨n, hk⟩,
      View.writes_append, trip]
    rw [rows]
    by_cases h : 32 * n ≤ (y 0).val ∧ (y 0).val < 32 * n + 32
    · have h512 : 32 * n + ((y 0).val - 32 * n) < 512 := by have := (y 0).isLt; omega
      have hy : (⟨32 * n + ((y 0).val - 32 * n), h512⟩ : Fin 512) = y 0 := Fin.ext (by show 32 * n + ((y 0).val - 32 * n) = (y 0).val; omega)
      have eo : ∀ k : Fin 4096, arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n)) (ix2 (y 0) k)
          = arg8.view.read (Elt Ideal) G (ix2 (y 0) k) := fun k =>
        (ih (by omega) _).trans (if_neg (by show ¬ (y 0).val < 32 * n; omega))
      rw [dif_pos h, if_pos (by omega), pay4]
      have e2 : ∀ k : Fin 4096, View.ld (arg2.view.read (Elt Ideal) X2) (Rect.unit (s := S512x4096) (k0_off1 ⟨n, hk⟩) S32x4096.size (k0_off1_inb i ⟨n, hk⟩ h2))
          (ix2 ⟨(y 0).val - 32 * n, by omega⟩ k) = arg2.view.read (Elt Ideal) X2 (ix2 (y 0) k) := fun k =>
        (ldRows _ ⟨n, hk⟩ _ _ _ h512).trans (by rw [hy])
      have e8 : ∀ k : Fin 4096, View.ld (arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n))) (Rect.unit (s := S512x4096) (k0_off1 ⟨n, hk⟩) S32x4096.size (k0_off1_inb i ⟨n, hk⟩ h2))
          (ix2 ⟨(y 0).val - 32 * n, by omega⟩ k) = arg8.view.read (Elt Ideal) G (ix2 (y 0) k) := fun k =>
        (ldRows _ ⟨n, hk⟩ _ _ _ h512).trans (by rw [hy]; exact eo k)
      exact congrArg (fun f => norm f _ _ _) (funext fun k => congrArg₂ res (e2 k) (e8 k))
    · rw [dif_neg h, ih (by omega) y]
      by_cases h' : (y 0).val < 32 * n
      · rw [if_pos h', if_pos (by omega)]
      · rw [if_neg h', if_neg (by have h'' : ¬ (32 * n ≤ (y 0).val ∧ (y 0).val < 32 * n + 32) := h; omega)]

end Loop

variable (m : (ℓ : Loc nD τ sig) → Buf (Elt Ideal) ℓ) (ρ : Dev nD → PrngReg)

/-- What the first point of a row block leaves: zero and the product of its hidden units with its output weights. -/
theorem firstPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32) (y : S512x4096.Idx) :
    out0_A_6 c i arg2 harg2 arg3 harg3 arg4 harg4 arg5 harg5 arg6 harg6 arg7 harg7 arg8 harg8 arg9 harg9 hc0 hc1 x0 x1 x2 x3 x4 x5 y = 0 + mulBlk (hid x0 x1 x2) x3 y := by
  frame_open
  simp (disch := decide) only [↓ View.readCov_skip, ↓ View.readCov_cons_toLoadRect, ↓ View.readCov_fill]
  frame_out
  simp only [pay8, pay11, pay12, pay13, pay14, pay1, pay2, pay3]
  have key := tiles (k0_pay7 (k0_pay5 x0) x1 x2) (k0_pay6 (F := Ideal)) x3 [⟨Rect.unit (s := S512x4096) ![0, 0] ![512, 4096] inb_S512x4096_S512x4096_0_0, k0_pay6 (F := Ideal)⟩] y
  simp only [tileList, List.cons_append, List.nil_append] at key
  refine key.trans ?_
  refine congrArg₂ (· + ·) ?_ (congrArg (fun f => mulBlk f x3 y) (funext fun r => funext fun k => ?_))
  · pointwise [k0_pay6]
  · pointwise [k0_pay7, k0_pay5, hid, Cert.FfnIdeal.Normed.gate, Ideal.logistic]

/-- What a middle point leaves: what it found and the product of its hidden units with its output weights. -/
theorem midPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_B_6 c i arg2 harg2 arg3 harg3 arg4 harg4 arg5 harg5 arg6 harg6 arg7 harg7 arg8 harg8 arg9 harg9 hc0 hc1 x0 x1 x2 x3 x4 x5 xo6 xs0 y = xo6 y + mulBlk (hid xs0 x1 x2) x3 y := by
  frame_out
  simp only [pay8, pay11, pay12, pay13, pay14, pay1, pay2, pay3]
  refine (tiles (k0_pay7 xs0 x1 x2) xo6 x3 [] y).trans ?_
  exact congrArg (fun f => xo6 y + mulBlk f x3 y) (funext fun r => funext fun k => pay7 _ _ _ _)

/-- What the last point of a row block leaves: the layer norm of the residual and the accumulated product. -/
theorem lastPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_C_6 c i arg2 harg2 arg3 harg3 arg4 harg4 arg5 harg5 arg6 harg6 arg7 harg7 arg8 harg8 arg9 harg9 hc0 hc1 x0 x1 x2 x3 x4 x5 xo6 xs0 y
      = norm (fun k => res (x0 (ix2 (y 0) k)) (xo6 (ix2 (y 0) k) + mulBlk (hid xs0 x1 x2) x3 (ix2 (y 0) k))) (fun k => x4 (ix2 0 k)) (fun k => x5 (ix2 0 k)) (y 1) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0),
    ← View.read_writes_eq_canon arg8.view arg8.view.junk _ (cover0_C_6 c i arg2 harg2 arg3 harg3 arg4 harg4 arg5 harg5 arg6 harg6 arg7 harg7 arg8 harg8 arg9 harg9 hc0 hc1 x0 x1 x2 x3 x4 x5 xo6 xs0)]
  have hz : (![0, 0] : Fin 2 → ℕ) = fun _ => 0 := by funext a; fin_cases a <;> rfl
  have hz4 : (![0, 0, 0, 0] : Fin 4 → ℕ) = fun _ => 0 := by funext a; fin_cases a <;> rfl
  have ht : (y 0).val < 32 * 16 := (y 0).isLt
  have e : Scf.trips (0#32) (Scalar.addi 0#32 16#32) 1#32 = 16 := by decide +kernel
  unfold kernelRun0_C
  dsimp only
  rw [View.writes_append, e, loop _ _ _ _ _ _ _ _ _ _ _ _ _ _ _ _ _ _ _ _  _ _ _ _ _ 16 le_rfl, if_pos ht]
  sl_unfold_words
  simp only [View.readAt_eq_ld, harg2.read_unread, harg3.read_unread, harg4.read_unread, harg5.read_unread,
    harg6.read_unread, harg7.read_unread, harg8.read_unread, harg9.read_unread]
  rw [View.ld_unit_zero (S := S512x4096) hz inb_S512x4096_S512x4096_0_0 xs0,
    View.ld_unit_zero (S := S1x1x4096x256) hz4 inb_S1x1x4096x256_S1x1x4096x256_0_0_0_0 x1,
    View.ld_unit_zero (S := S1x1x4096x256) hz4 inb_S1x1x4096x256_S1x1x4096x256_0_0_0_0 x2]
  simp only [pay8, pay11, pay12, pay13, pay14, pay1, pay2, pay3]
  refine congrArg (fun f => norm f _ _ _) (funext fun k => congrArg (res _) ?_)
  refine (congrFun (View.read_writes_eq_canon arg8.view arg8.view.junk (tileList (k0_pay7 xs0 x1 x2) xo6 x3) (tiles_cover _ _ _)) _).trans ?_
  refine (tiles (k0_pay7 xs0 x1 x2) xo6 x3 [] _).trans ?_
  exact congrArg (fun f => xo6 (ix2 (y 0) k) + mulBlk f x3 (ix2 (y 0) k)) (funext fun r => funext fun k => pay7 _ _ _ _)

/-- Point `t` of the grid is row block `t / 43` and block `t % 43` of the hidden units. -/
theorem idx : ∀ t : Fin cfg0.N, win0_0.index t = ![t.val / 43, 0] ∧ win0_1.index t = ![1, 0, 0, t.val % 43] ∧ win0_2.index t = ![1, 0, 0, t.val % 43]
    ∧ win0_3.index t = ![1, 0, t.val % 43, 0] ∧ win0_4.index t = ![0, 0] ∧ win0_5.index t = ![0, 0] ∧ win0_6.index t = ![t.val / 43, 0] :=
  (by decide +kernel : ∀ t : Fin grid0.N, _)

/-- What the run keeps in the scratch after point `n`: the row block of the activations. -/
theorem kept (c : Dev nD) : ∀ (n : ℕ) (h : n < cfg0.N), ((outsAt0 m c n h).2 : Vec Ideal S512x4096 .bf16) = (iblk m c 0 ⟨n, h⟩ : Vec Ideal S512x4096 .f32) := by
  intro n
  induction n with
  | zero =>
    intro h
    rw [outsAt0_A m c ⟨0, h⟩ rfl (by show ¬ 0 % 43 = 42; omega)]
    funext y
    frame_out
    pointwise [k0_pay5]
  | succ n ih =>
    intro h
    have e := (idx ⟨n + 1, h⟩).1
    have e' := (idx ⟨n, Nat.lt_of_succ_lt h⟩).1
    by_cases h0 : (n + 1) % 43 = 0
    · rw [outsAt0_A m c ⟨n + 1, h⟩ h0 (by show ¬ (n + 1) % 43 = 42; omega)]
      funext y
      frame_out
      pointwise [k0_pay5]
    · by_cases h1 : (n + 1) % 43 = 42
      · rw [outsAt0_C m c ⟨n + 1, h⟩ h0 h1]
        refine (ih (Nat.lt_of_succ_lt h)).trans ?_
        funext y
        blk_ext [iblk, e, e']
      · rw [outsAt0_B m c ⟨n + 1, h⟩ h0 h1]
        refine (ih (Nat.lt_of_succ_lt h)).trans ?_
        funext y
        blk_ext [iblk, e, e']

/-- The row block that a point finds in the scratch, when it is not the first of its row block. -/
theorem kept_prev (c : Dev nD) (t : Fin cfg0.N) (h : ¬t.val % 43 = 0) :
    ((outsAt0 m c (t.val - 1) (Nat.lt_of_le_of_lt (Nat.sub_le _ _) t.isLt)).2 : Vec Ideal S512x4096 .bf16) = (iblk m c 0 t : Vec Ideal S512x4096 .f32) := by
  have e := (idx t).1
  have e' := (idx ⟨t.val - 1, Nat.lt_of_le_of_lt (Nat.sub_le _ _) t.isLt⟩).1
  have q : (t.val - 1) / 43 = t.val / 43 := by omega
  rw [kept m c (t.val - 1)]
  simp only [q] at e'
  funext y
  blk_ext [iblk, e, e']

/-- What point `t` adds: the product of its hidden units with its output weights. -/
def term (c : Dev nD) (t : Fin cfg0.N) (y : S512x4096.Idx) : EReal :=
  mulBlk (hid (iblk m c 0 t) (iblk m c 1 t) (iblk m c 2 t)) (iblk m c 3 t) y

/-- The accumulated product after point `n`: what the output's buffer holds before the layer norm. -/
def acc (c : Dev nD) (n : ℕ) (h : n < cfg0.N) (y : S512x4096.Idx) : EReal :=
  if n % 43 = 42 then (outsAt0 m c (n - 1) (Nat.lt_of_le_of_lt (Nat.sub_le _ _) h)).1 y + term m c ⟨n, h⟩ y else (outsAt0 m c n h).1 y

/-- The first point of a row block starts from zero. -/
theorem acc_first (c : Dev nD) (t : Fin cfg0.N) (h : t.val % 43 = 0) (y : S512x4096.Idx) :
    acc m c t.val t.isLt y = 0 + term m c t y := by
  rw [acc, if_neg (by omega), outsAt0_A m c t h (by omega)]
  dsimp only
  rw [firstPoint]
  rfl

/-- Every other point adds the product of its blocks. -/
theorem acc_step (c : Dev nD) (t : Fin cfg0.N) (h : ¬t.val % 43 = 0) (y : S512x4096.Idx) :
    acc m c t.val t.isLt y = acc m c (t.val - 1) (Nat.lt_of_le_of_lt (Nat.sub_le _ _) t.isLt) y + term m c t y := by
  rw [acc, acc, if_neg (show ¬ (t.val - 1) % 43 = 42 by omega)]
  by_cases h1 : t.val % 43 = 42
  · rw [if_pos h1]
  · rw [if_neg h1, outsAt0_B m c t h h1]
    dsimp only
    rw [midPoint, kept_prev m c t h]
    rfl

/-- Hidden unit `k` of row `r`. -/
def hidden (x : Vec Ideal S16384x4096 .f32) (wg wu : Vec Ideal S2x2x4096x11008 .f32) (r : Fin 16384) (k : Fin 11008) : EReal :=
  gate (∑ j : Fin 4096, x (ix2 r j) * wg (ix4 1 0 j k)) (∑ j : Fin 4096, x (ix2 r j) * wu (ix4 1 0 j k))

/-- Entry `(r, j)` of the product of the hidden units and the output weights. -/
def prod (x : Vec Ideal S16384x4096 .f32) (wg wu : Vec Ideal S2x2x4096x11008 .f32) (wd : Vec Ideal S2x2x11008x4096 .f32) (r : Fin 16384) (j : Fin 4096) : EReal :=
  ∑ k : Fin 11008, hidden x wg wu r k * wd (ix4 1 0 k j)

/-- The result: the layer norm of the residual sum's rows. -/
def out (x : Vec Ideal S16384x4096 .f32) (wg wu : Vec Ideal S2x2x4096x11008 .f32) (wd : Vec Ideal S2x2x11008x4096 .f32) (lw lb : Vec Ideal S4096 .f32) :
    Vec Ideal S16384x4096 .f32 := fun i =>
  norm (fun j => res (x (ix2 (i 0) j)) (prod x wg wu wd (i 0) j)) (fun j => lw (ix1 j)) (fun j => lb (ix1 j)) (i 1)

/-- The array that the launch fills is the result. -/
theorem final (c : Dev nD) : (dats m 0 c).arrAt 6 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have h7 : t.val % 43 = 42 := (flush0_6 t).mp hf
  have h0 : ¬t.val % 43 = 0 := by omega
  rw [outsAt0_C m c t h0 h7]
  dsimp only
  rw [lastPoint, kept_prev m c t h0]
  have hs : ∀ j : Fin 4096, (outsAt0 m c (t.val - 1) (Nat.lt_of_le_of_lt (Nat.sub_le _ _) t.isLt)).1 (ix2 (y 0) j)
        + mulBlk (hid (iblk m c 0 t) (iblk m c 1 t) (iblk m c 2 t)) (iblk m c 3 t) (ix2 (y 0) j)
      = 0 + ∑ s : Fin 43, term m c ⟨43 * (t.val / 43) + s.val, Pipeline.run_point_lt_of_flush t h7 s⟩ (ix2 (y 0) j) := fun j => by
    refine Eq.trans ?_ (Pipeline.eq_sum_fin_of_reset_step_apply_of_flush (acc m c) 43 (fun _ => 0) (term m c) (acc_first m c) (acc_step m c) t h7 _)
    rw [acc, if_pos h7]
    rfl
  simp only [hs, zero_add]
  obtain ⟨e0, e1, e2, e3, e4, e5, e6⟩ := idx t
  have hx : ∀ j : Fin 4096, (iblk m c 0 t : Vec Ideal S512x4096 .f32) (ix2 (y 0) j)
      = (m ((c : Thread nD τ).loc main_arg0) : Vec Ideal S16384x4096 .f32) (ix2 (((win0_6.blk t).view.emb y) 0) j) := fun j => by
    blk_point [iblk, V, e0, e6]
  have hw : ∀ j : Fin 4096, (iblk m c 4 t : Vec Ideal S1x4096 .f32) (ix2 0 j)
      = (m ((c : Thread nD τ).loc main_arg4) : Vec Ideal S4096 .f32) (ix1 j) := fun j => by
    blk_point [iblk, V, e4]
  have hb : ∀ j : Fin 4096, (iblk m c 5 t : Vec Ideal S1x4096 .f32) (ix2 0 j)
      = (m ((c : Thread nD τ).loc main_arg5) : Vec Ideal S4096 .f32) (ix1 j) := fun j => by
    blk_point [iblk, V, e5]
  have hy : (y 1).val = ((win0_6.blk t).view.emb y 1).val := by
    show (y 1).val = win0_6.index t 1 * 4096 + 1 * (y 1).val
    rw [e6]
    show (y 1).val = 0 * 4096 + 1 * (y 1).val
    omega
  have hp : ∀ j : Fin 4096, ∑ s : Fin 43, term m c ⟨43 * (t.val / 43) + s.val, Pipeline.run_point_lt_of_flush t h7 s⟩ (ix2 (y 0) j)
      = prod (m ((c : Thread nD τ).loc main_arg0)) (m ((c : Thread nD τ).loc main_arg1)) (m ((c : Thread nD τ).loc main_arg2))
        (m ((c : Thread nD τ).loc main_arg3)) (((win0_6.blk t).view.emb y) 0) j := fun j => by
    refine Fin.sum_mul_add_congr fun s k hl => ?_
    obtain ⟨d0, d1, d2, d3, -⟩ := idx ⟨43 * (t.val / 43) + s.val, Pipeline.run_point_lt_of_flush t h7 s⟩
    have q0 : (43 * (t.val / 43) + s.val) / 43 = t.val / 43 := by omega
    have q1 : (43 * (t.val / 43) + s.val) % 43 = s.val := by omega
    simp only [q0, q1] at d0 d1 d2 d3
    refine congrArg₂ (· * ·) (congrArg₂ gate (Finset.sum_congr rfl fun i _ => congrArg₂ (· * ·) ?_ ?_)
      (Finset.sum_congr rfl fun i _ => congrArg₂ (· * ·) ?_ ?_)) ?_
    · blk_point [iblk, V, d0, e6]
    · blk_point [iblk, V, d1]
    · blk_point [iblk, V, d0, e6]
    · blk_point [iblk, V, d2]
    · blk_point [iblk, V, d3]
  have key := congr (congr (congr (congrArg norm (funext fun j => congrArg₂ res (hx j) (hp j))) (funext hw)) (funext hb)) (Fin.ext hy)
  exact key

end Cert.FfnCIdeal.Normed

end
-- ==== Proof.FfnCRef.lean ====
/- The reference of the feed-forward call at layer 1's first half step, stage by stage: the gated hidden units, the output projection, the residual sum and the
   layer norm, each entry as a plain expression, at the ideal instance. -/
module

public import proofs.«01_k».proof.Defs
public import proofs.«01_k».proof.Proof.OutProjValue
public import proofs.«01_k».proof.Proof.Gen.FfnCRefIdeal.Run
public import Idealize.ShloMosaic.Lib.Pointwise
public import Idealize.ShloMosaic.Lib.Tactic

@[expose] public section

set_option maxRecDepth 16384

noncomputable section
namespace Cert.FfnCRefIdeal.Value
namespace Rows
open Idealize.ShloMosaic Idealize.ShloMosaic.TcCoe Idealize.SL.Sem Cert.FfnCRefIdeal Cert.FfnCRefIdeal.Gen
open Cert.OutProjIdeal.Normed (mean norm)

/-- The reference's gated value of two arrays. -/
def gateA (g u : FVec Ideal S16384x11008 .f32) : FVec Ideal S16384x11008 .f32 := mulf (mulf g (Host.divf (broadcastInDim S16384x11008 ![] bcast_S_S16384x11008 (constant S_ .f32 0x3F800000#32)) (addf (broadcastInDim S16384x11008 ![] bcast_S_S16384x11008 (constant S_ .f32 0x3F800000#32)) (Host.exp (Host.negf g))))) u

/-- The reference's gate projection. -/
def projA (x : FVec Ideal S16384x4096 .f32) (w : FVec Ideal S2x2x4096x11008 .f32) : FVec Ideal S16384x11008 .f32 := Host.dotGeneral dot_S16384x4096_S4096x11008_S16384x11008_1_0_0_1_n_n none x (shapeCast _ (extractStridedSlice S1x1x4096x11008 ![1, 0, 0, 0] w slices_S2x2x4096x11008_S1x1x4096x11008_1_0_0_0) shapeCasts_S1x1x4096x11008_S4096x11008)

/-- The reference's output projection. -/
def downA (h : FVec Ideal S16384x11008 .f32) (wd : FVec Ideal S2x2x11008x4096 .f32) : FVec Ideal S16384x4096 .f32 := Host.dotGeneral dot_S16384x11008_S11008x4096_S16384x4096_1_0_0_1_n_n none h (shapeCast _ (extractStridedSlice S1x1x11008x4096 ![1, 0, 0, 0] wd slices_S2x2x11008x4096_S1x1x11008x4096_1_0_0_0) shapeCasts_S1x1x11008x4096_S11008x4096)

/-- The reference's residual sum. -/
def resA (x O : FVec Ideal S16384x4096 .f32) : FVec Ideal S16384x4096 .f32 := addf (mulf (broadcastInDim S16384x4096 ![] bcast_S_S16384x4096 (constant S_ .f32 0x3FB504F3#32)) x) (mulf (broadcastInDim S16384x4096 ![] bcast_S_S16384x4096 (constant S_ .f32 0x3F000000#32)) O)

/-- The reference's layer norm. -/
def normA (A : FVec Ideal S16384x4096 .f32) (lw lb : FVec Ideal S4096 .f32) : FVec Ideal S16384x4096 .f32 := addf (mulf (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 lw))) (broadcastInDim S16384x4096 ![0, 1] bcast_S1x4096_S16384x4096_0_1 (broadcastInDim S1x4096 ![1] bcast_S4096_S1x4096_1 lb))

/-- The named result is the layer norm of the residual sum, stage by stage. -/
theorem res_eq (m : (ℓ : Loc nD τ sig) → Buf (Elt Ideal) ℓ) (c : Dev nD) :
    Value.res_main_v39 m c = normA (resA (m ((c : Thread nD τ).loc main_arg0)) (downA (gateA (projA (m ((c : Thread nD τ).loc main_arg0)) (m ((c : Thread nD τ).loc main_arg1)))
      (projA (m ((c : Thread nD τ).loc main_arg0)) (m ((c : Thread nD τ).loc main_arg2)))) (m ((c : Thread nD τ).loc main_arg3))))
      (m ((c : Thread nD τ).loc main_arg4)) (m ((c : Thread nD τ).loc main_arg5)) := rfl

/-- An entry of the gated values. -/
theorem gateA_at (g u : Vec Ideal S16384x11008 .f32) (i : S16384x11008.Idx) : gateA g u i = g i * Ideal.div 1 (1 + Ideal.exp (-g i)) * u i := by
  pointwise [gateA]

/-- An entry of a projection to the hidden units. -/
theorem projA_at (x : Vec Ideal S16384x4096 .f32) (w : Vec Ideal S2x2x4096x11008 .f32) (i : S16384x11008.Idx) :
    projA x w i = ∑ j : Fin 4096, x (ix2 (i 0) j) * w (ix4 1 0 j (i 1)) := by
  pointwise [projA]

/-- An entry of the output projection. -/
theorem downA_at (h : Vec Ideal S16384x11008 .f32) (w : Vec Ideal S2x2x11008x4096 .f32) (i : S16384x4096.Idx) :
    downA h w i = ∑ k : Fin 11008, h (ix2 (i 0) k) * w (ix4 1 0 k (i 1)) := by
  pointwise [downA]

/-- An entry of the residual sum. -/
theorem resA_at (x O : Vec Ideal S16384x4096 .f32) (i : S16384x4096.Idx) :
    resA x O i = Ideal.ofBits .f32 0x3FB504F3#32 * x i + Ideal.ofBits .f32 0x3F000000#32 * O i := by
  pointwise [resA]

/-- An entry of the layer norm is the normalized row's entry. -/
theorem normA_at (A : Vec Ideal S16384x4096 .f32) (lw lb : Vec Ideal S4096 .f32) (i : S16384x4096.Idx) :
    normA A lw lb i = norm (fun j => A (ix2 (i 0) j)) (fun j => lw (ix1 j)) (fun j => lb (ix1 j)) (i 1) := by
  pointwise [normA, Cert.OutProjIdeal.Normed.norm, Cert.OutProjIdeal.Normed.mean]

end Rows
end Cert.FfnCRefIdeal.Value
end
-- ==== Proof.FfnCClaim.lean ====
/- The value claim of the feed-forward call at layer 1's first half step: the array that the launch fills is the reference's result. -/
module

public import proofs.«01_k».proof.Proof.FfnCValue
public import proofs.«01_k».proof.Proof.FfnCRef

@[expose] public section

set_option maxRecDepth 16384

noncomputable section

open Idealize.ShloMosaic Idealize.ShloMosaic.TcCoe Idealize.SL.Sem

/-- The reference's result is the normalized residual sum. -/
theorem Cert.FfnCRefIdeal.Value.Rows.res_out (m : (ℓ : Loc Cert.FfnCRefIdeal.nD Cert.FfnCRefIdeal.τ Cert.FfnCRefIdeal.sig) → Buf (Elt Ideal) ℓ)
    (c : Dev Cert.FfnCRefIdeal.nD) : Cert.FfnCRefIdeal.Value.res_main_v39 m c
      = Cert.FfnCIdeal.Normed.out (m (c.tc.loc Cert.FfnCRefIdeal.main_arg0)) (m (c.tc.loc Cert.FfnCRefIdeal.main_arg1))
        (m (c.tc.loc Cert.FfnCRefIdeal.main_arg2)) (m (c.tc.loc Cert.FfnCRefIdeal.main_arg3))
        (m (c.tc.loc Cert.FfnCRefIdeal.main_arg4)) (m (c.tc.loc Cert.FfnCRefIdeal.main_arg5)) := by
  funext i
  refine (congrFun (Cert.FfnCRefIdeal.Value.Rows.res_eq m c) i).trans ((Cert.FfnCRefIdeal.Value.Rows.normA_at _ _ _ i).trans ?_)
  refine congrArg (fun f => Cert.OutProjIdeal.Normed.norm f _ _ _) (funext fun j => ?_)
  refine (Cert.FfnCRefIdeal.Value.Rows.resA_at _ _ _).trans (congrArg (Cert.FfnIdeal.Normed.res _) ?_)
  refine (Cert.FfnCRefIdeal.Value.Rows.downA_at _ _ _).trans (Finset.sum_congr rfl fun k _ => congrArg (· * _) ?_)
  refine (Cert.FfnCRefIdeal.Value.Rows.gateA_at _ _ _).trans (congrArg₂ Cert.FfnIdeal.Normed.gate ?_ ?_)
  · exact Cert.FfnCRefIdeal.Value.Rows.projA_at _ _ _
  · exact Cert.FfnCRefIdeal.Value.Rows.projA_at _ _ _

/-- The feed-forward call at layer 1's first half step, with its residual and layer norm, and its reference, end with equal results. -/
theorem Cert.FfnCIdeal.Normed.claim : Cert.algebraic_FfnCIdeal_FfnCRefIdeal := by
  pair_intro
  · run_from Cert.FfnCIdeal.Gen.run_main m g
  · run_from Cert.FfnCRefIdeal.Value.run m' g'
    refine Eq.trans ?_ (Cert.FfnCIdeal.Normed.final m c).symm
    refine (Cert.FfnCRefIdeal.Value.Rows.res_out m' c).trans ?_
    obtain ⟨a0, a1, a2, a3, a4, a5⟩ := hagree c
    rw [a0, a1, a2, a3, a4, a5]

end
-- ==== Proof.FfnDValue.lean ====
/- The value of the gated feed-forward call at layer 1's second half step, with its residual and layer norm: row `r` of the result is the normalized
   row `r` of `√2 · x + ½ · (silu (x · wg) · (x · wu)) · wd`, at the ideal instance. -/
module

public import proofs.«01_k».proof.Defs
public import proofs.«01_k».proof.Proof.Gen.FfnDIdeal.Value
public import proofs.«01_k».proof.Proof.FfnValue
public import Idealize.ShloMosaic.Lib.Pointwise
public import Idealize.ShloMosaic.Lib.WritesUnit
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

namespace Cert.FfnDIdeal.Normed

open Idealize.ShloMosaic Idealize.ShloMosaic.TcCoe Idealize.SL.Sem
open Cert.FfnDIdeal Cert.FfnDIdeal.Gen
open Cert.OutProjIdeal.Normed (mean norm)
open Cert.FfnIdeal.Normed (res gate)

/-- The hidden units of a block: the gated projections of its rows. -/
def hid (x : Vec Ideal S512x4096 .f32) (wg wu : Vec Ideal S1x1x4096x256 .bf16) (r : Fin 512) (k : Fin 256) : EReal :=
  gate (∑ j : Fin 4096, x (ix2 r j) * wg (ix4 0 0 j k)) (∑ j : Fin 4096, x (ix2 r j) * wu (ix4 0 0 j k))

/-- The product of a block of hidden units with the block of the output weights. -/
def mulBlk (h : Fin 512 → Fin 256 → EReal) (w : Vec Ideal S1x1x256x4096 .bf16) (y : S512x4096.Idx) : EReal :=
  ∑ k : Fin 256, h (y 0) k * w (ix4 0 0 k (y 1))

/-- One tile of the accumulation: the old value and the product with the tile's columns. -/
def tile (h : Vec Ideal S512x256 .bf16) (v : Vec Ideal S512x512 .f32) (w : Vec Ideal S1x1x256x512 .bf16) : Vec Ideal S512x512 .f32 := fun x =>
  v x + ∑ k : Fin 256, h (ix2 (x 0) k) * w (ix4 0 0 k (x 1))

/-- The hidden units, as the body computes them. -/
theorem pay7 (x : Vec Ideal S512x4096 .bf16) (wg wu : Vec Ideal S1x1x4096x256 .bf16) (i : S512x256.Idx) :
    k0_pay7 x wg wu i = hid x wg wu (i 0) (i 1) := by
  pointwise [k0_pay7, hid, Cert.FfnIdeal.Normed.gate, Ideal.logistic]

theorem pay8 (x : Vec Ideal S512x4096 .bf16) (wg wu : Vec Ideal S1x1x4096x256 .bf16) (v : Vec Ideal S512x512 .f32) (w : Vec Ideal S1x1x256x512 .bf16) :
    k0_pay8 x wg wu v w = tile (k0_pay7 x wg wu) v w := by
  funext i
  pointwise [k0_pay8, tile]

theorem pay11 (x : Vec Ideal S512x4096 .bf16) (wg wu : Vec Ideal S1x1x4096x256 .bf16) (v : Vec Ideal S512x512 .f32) (w : Vec Ideal S1x1x256x512 .bf16) :
    k0_pay11 (k0_pay9 v) (k0_pay10 x wg wu w) = tile (k0_pay7 x wg wu) v w := by
  funext i
  pointwise [k0_pay11, k0_pay9, k0_pay10, tile]

theorem pay12 (h : Vec Ideal S512x256 .bf16) (v : Vec Ideal S512x512 .f32) (w : Vec Ideal S1x1x256x512 .bf16) :
    k0_pay12 h v w = tile h v w := by
  funext i
  pointwise [k0_pay12, tile]

theorem pay13 (h : Vec Ideal S512x256 .bf16) (v : Vec Ideal S512x512 .f32) (w : Vec Ideal S1x1x256x512 .bf16) :
    k0_pay13 h v w = tile h v w := by
  funext i
  pointwise [k0_pay13, tile]

theorem pay14 (h : Vec Ideal S512x256 .bf16) (v : Vec Ideal S512x512 .f32) (w : Vec Ideal S1x1x256x512 .bf16) :
    k0_pay14 h v w = tile h v w := by
  funext i
  pointwise [k0_pay14, tile]

theorem pay1 (h : Vec Ideal S512x256 .bf16) (v : Vec Ideal S512x512 .f32) (w : Vec Ideal S1x1x256x512 .bf16) :
    k0_pay1 h (k0_pay15 v) w = tile h v w := by
  funext i
  pointwise [k0_pay1, k0_pay15, tile]

theorem pay2 (h : Vec Ideal S512x256 .bf16) (v : Vec Ideal S512x512 .f32) (w : Vec Ideal S1x1x256x512 .bf16) :
    k0_pay2 h v w = tile h v w := by
  funext i
  pointwise [k0_pay2, tile]

theorem pay3 (h : Vec Ideal S512x256 .bf16) (v : Vec Ideal S512x512 .f32) (w : Vec Ideal S1x1x256x512 .bf16) :
    k0_pay3 h v w = tile h v w := by
  funext i
  pointwise [k0_pay3, tile]

/-- What one trip of the loop stores: the layer norm of its 32 rows. -/
theorem pay4 (x o : Vec Ideal S32x4096 .f32) (w b : Vec Ideal S1x4096 .f32) (i : S32x4096.Idx) :
    k0_pay4 x o w b i = norm (fun k => res (x (ix2 (i 0) k)) (o (ix2 (i 0) k))) (fun k => w (ix2 0 k)) (fun k => b (ix2 0 k)) (i 1) := by
  pointwise [k0_pay4, Cert.OutProjIdeal.Normed.norm, Cert.OutProjIdeal.Normed.mean, Cert.FfnIdeal.Normed.res]

/-- A store of 32 whole rows at row `32 · k`: inside them the stored value, elsewhere what was there. -/
theorem rows (v : View sig .tc .vmem S512x4096 .f32) (f : v.ty.Contents (Elt Ideal)) (k : Fin k0_t1_loop.trips)
    (hb : ∀ a, k0_off1 k a + S32x4096.size a ≤ S512x4096.size a) (w : S32x4096.Idx → EReal) (y : S512x4096.Idx) :
    v.read (Elt Ideal) (v.writes (Elt Ideal) f [⟨Rect.unit (s := S512x4096) (k0_off1 k) S32x4096.size hb, w⟩]) y
      = if h : 32 * k.val ≤ (y 0).val ∧ (y 0).val < 32 * k.val + 32 then
          w (ix2 ⟨(y 0).val - 32 * k.val, by omega⟩ (y 1))
        else v.read (Elt Ideal) f y := by
  by_cases h : 32 * k.val ≤ (y 0).val ∧ (y 0).val < 32 * k.val + 32
  · rw [dif_pos h]
    refine View.read_writes_cons_unit_of_mem (s := S512x4096) v f hb w [] y (ix2 ⟨(y 0).val - 32 * k.val, by omega⟩ (y 1)) (k0_off1_eq k) ?_
    refine Fin.forall_fin_two.mpr ⟨?_, ?_⟩
    · show (y 0).val = 32 * k.val + ((y 0).val - 32 * k.val)
      omega
    · show (y 1).val = 0 + (y 1).val
      omega
  · rw [dif_neg h]
    refine View.read_writes_cons_unit_of_not_mem (s := S512x4096) v f hb w [] y (k0_off1_eq k) 0 ?_
    show (y 0).val < 32 * k.val ∨ 32 * k.val + 32 ≤ (y 0).val
    omega

/-- A store of the whole buffer is what is read back. -/
theorem whole (v : View sig .tc .vmem S512x4096 .f32) (f : v.ty.Contents (Elt Ideal))
    (hb : ∀ a, (![0, 0] : Fin 2 → ℕ) a + S512x4096.size a ≤ S512x4096.size a) (w : S512x4096.Idx → EReal) (y : S512x4096.Idx) :
    v.read (Elt Ideal) (v.writes (Elt Ideal) f [⟨Rect.unit (s := S512x4096) ![0, 0] S512x4096.size hb, w⟩]) y = w y :=
  View.read_writes_cons_unit_of_mem (s := S512x4096) v f hb w [] y y rfl
    (Fin.forall_fin_two.mpr ⟨(Nat.zero_add _).symm, (Nat.zero_add _).symm⟩)

/-- Reading 32 whole rows from row `32 · k` on. -/
theorem ldRows (X : Vec Ideal S512x4096 .f32) (k : Fin k0_t1_loop.trips)
    (hb : ∀ a, k0_off1 k a + S32x4096.size a ≤ S512x4096.size a) (r : Fin 32) (j : Fin 4096) (h : 32 * k.val + r.val < 512) :
    View.ld X (Rect.unit (s := S512x4096) (k0_off1 k) S32x4096.size hb) (ix2 r j) = X (ix2 ⟨32 * k.val + r.val, h⟩ j) := by
  refine congrArg X (funext (Fin.forall_fin_two.mpr ⟨Fin.ext ?_, Fin.ext ?_⟩))
  · show k0_off1 k 0 + 1 * r.val = 32 * k.val + r.val
    rw [k0_off1_eq k, Nat.one_mul]; rfl
  · show k0_off1 k 1 + 1 * j.val = j.val
    rw [k0_off1_eq k, Nat.one_mul]; exact Nat.zero_add _

/-- A tile's entry is the entry of the whole accumulation at the tile's columns. -/
theorem tile_at (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a)
    (x : S512x512.Idx) (y : S512x4096.Idx) (h0 : (y 0).val = (x 0).val) (h1 : (y 1).val = o + (x 1).val) :
    tile h (View.ld O (Rect.unit (s := S512x4096) ![0, o] ![512, 512] hO)) (View.ld w (Rect.unit (s := S1x1x256x4096) ![0, 0, 0, o] ![1, 1, 256, 512] hW)) x
      = O y + mulBlk (fun r k => h (ix2 r k)) w y := by
  have e0 : x 0 = y 0 := Fin.ext h0.symm
  refine congrArg₂ (· + ·) (congrArg O (funext (Fin.forall_fin_two.mpr ⟨Fin.ext ?_, Fin.ext ?_⟩)))
    (Finset.sum_congr rfl fun k _ => congrArg₂ (· * ·) (congrArg (fun r => h (ix2 r k)) e0) (congrArg w ?_))
  · show 0 + 1 * (x 0).val = (y 0).val
    omega
  · show o + 1 * (x 1).val = (y 1).val
    omega
  · funext a
    fin_cases a <;> refine Fin.ext ?_
    · rfl
    · rfl
    · show 0 + 1 * k.val = k.val
      omega
    · show o + 1 * (x 1).val = (y 1).val
      omega

/-- A tile is the whole accumulation at the places of its columns. -/
theorem tile_emb (h : Vec Ideal S512x256 .bf16) (O : Vec Ideal S512x4096 .f32) (w : Vec Ideal S1x1x256x4096 .bf16) (o : ℕ)
    (hO : ∀ a, (![0, o] : Fin 2 → ℕ) a + (![512, 512] : Fin 2 → ℕ) a ≤ S512x4096.size a)
    (hW : ∀ a, (![0, 0, 0, o] : Fin 4 → ℕ) a + (![1, 1, 256, 512] : Fin 4 → ℕ) a ≤ S1x1x256x4096.size a) (x : S512x512.Idx) :
    tile h (View.ld O (Rect.unit (s := S512x4096) ![0, o] ![512, 512] hO)) (View.ld w (Rect.unit (s := S1x1x256x4096) ![0, 0, 0, o] ![1, 1, 256, 512] hW)) x
      = O ((Rect.unit (s := S512x4096) ![0, o] ![512, 512] hO).emb x)
        + mulBlk (fun r k => h (ix2 r k)) w ((Rect.unit (s := S512x4096) ![0, o] ![512, 512] hO).emb x) := by
  refine tile_at h O w o hO hW x _ ?_ ?_
  · show 0 + 1 * (x 0).val = (x 0).val
    omega
  · show o + 1 * (x 1).val = o + (x 1).val
    omega

/-- The eight tiles, 512 columns each, the last one stored first in the list. -/
def tileList (h : Vec Ideal S512x256 .bf16) (O : Vec Ideal S512x4096 .f32) (w : Vec Ideal S1x1x256x4096 .bf16) : List (View.Piece (Elt Ideal) S512x4096 .f32) := [
    ⟨Rect.unit (s := S512x4096) ![0, 3584] ![512, 512] inb_S512x4096_S512x512_0_3584, tile h (View.ld O (Rect.unit (s := S512x4096) ![0, 3584] ![512, 512] inb_S512x4096_S512x512_0_3584)) (View.ld w (Rect.unit (s := S1x1x256x4096) ![0, 0, 0, 3584] ![1, 1, 256, 512] inb_S1x1x256x4096_S1x1x256x512_0_0_0_3584))⟩,
    ⟨Rect.unit (s := S512x4096) ![0, 3072] ![512, 512] inb_S512x4096_S512x512_0_3072, tile h (View.ld O (Rect.unit (s := S512x4096) ![0, 3072] ![512, 512] inb_S512x4096_S512x512_0_3072)) (View.ld w (Rect.unit (s := S1x1x256x4096) ![0, 0, 0, 3072] ![1, 1, 256, 512] inb_S1x1x256x4096_S1x1x256x512_0_0_0_3072))⟩,
    ⟨Rect.unit (s := S512x4096) ![0, 2560] ![512, 512] inb_S512x4096_S512x512_0_2560, tile h (View.ld O (Rect.unit (s := S512x4096) ![0, 2560] ![512, 512] inb_S512x4096_S512x512_0_2560)) (View.ld w (Rect.unit (s := S1x1x256x4096) ![0, 0, 0, 2560] ![1, 1, 256, 512] inb_S1x1x256x4096_S1x1x256x512_0_0_0_2560))⟩,
    ⟨Rect.unit (s := S512x4096) ![0, 2048] ![512, 512] inb_S512x4096_S512x512_0_2048, tile h (View.ld O (Rect.unit (s := S512x4096) ![0, 2048] ![512, 512] inb_S512x4096_S512x512_0_2048)) (View.ld w (Rect.unit (s := S1x1x256x4096) ![0, 0, 0, 2048] ![1, 1, 256, 512] inb_S1x1x256x4096_S1x1x256x512_0_0_0_2048))⟩,
    ⟨Rect.unit (s := S512x4096) ![0, 1536] ![512, 512] inb_S512x4096_S512x512_0_1536, tile h (View.ld O (Rect.unit (s := S512x4096) ![0, 1536] ![512, 512] inb_S512x4096_S512x512_0_1536)) (View.ld w (Rect.unit (s := S1x1x256x4096) ![0, 0, 0, 1536] ![1, 1, 256, 512] inb_S1x1x256x4096_S1x1x256x512_0_0_0_1536))⟩,
    ⟨Rect.unit (s := S512x4096) ![0, 1024] ![512, 512] inb_S512x4096_S512x512_0_1024, tile h (View.ld O (Rect.unit (s := S512x4096) ![0, 1024] ![512, 512] inb_S512x4096_S512x512_0_1024)) (View.ld w (Rect.unit (s := S1x1x256x4096) ![0, 0, 0, 1024] ![1, 1, 256, 512] inb_S1x1x256x4096_S1x1x256x512_0_0_0_1024))⟩,
    ⟨Rect.unit (s := S512x4096) ![0, 512] ![512, 512] inb_S512x4096_S512x512_0_512, tile h (View.ld O (Rect.unit (s := S512x4096) ![0, 512] ![512, 512] inb_S512x4096_S512x512_0_512)) (View.ld w (Rect.unit (s := S1x1x256x4096) ![0, 0, 0, 512] ![1, 1, 256, 512] inb_S1x1x256x4096_S1x1x256x512_0_0_0_512))⟩,
    ⟨Rect.unit (s := S512x4096) ![0, 0] ![512, 512] inb_S512x4096_S512x512_0_0, tile h (View.ld O (Rect.unit (s := S512x4096) ![0, 0] ![512, 512] inb_S512x4096_S512x512_0_0)) (View.ld w (Rect.unit (s := S1x1x256x4096) ![0, 0, 0, 0] ![1, 1, 256, 512] inb_S1x1x256x4096_S1x1x256x512_0_0_0_0))⟩]

/-- The eight tiles cover the buffer. -/
theorem tiles_cover (h : Vec Ideal S512x256 .bf16) (O : Vec Ideal S512x4096 .f32) (w : Vec Ideal S1x1x256x4096 .bf16) :
    ∀ y : S512x4096.Idx, ∃ p ∈ tileList h O w, y ∈ p.1.set :=
  View.cover_of_tiledL _ S512x512.size (by sl_kernel_rfl)

/-- The eight tiles, stored one after the other over any earlier stores, hold the old contents and the product of the hidden
    units with the output weights. -/
theorem tiles (h : Vec Ideal S512x256 .bf16) (O : Vec Ideal S512x4096 .f32) (w : Vec Ideal S1x1x256x4096 .bf16)
    (L : List (View.Piece (Elt Ideal) S512x4096 .f32)) (y : S512x4096.Idx) :
    View.canon (tileList h O w ++ L) y = O y + mulBlk (fun r k => h (ix2 r k)) w y := by
  refine View.canon_append_of_piecesOf (fun y => O y + mulBlk (fun r k => h (ix2 r k)) w y) L _ ?_ y (tiles_cover h O w y)
  exact ⟨tile_emb h O w 3584 _ _, tile_emb h O w 3072 _ _, tile_emb h O w 2560 _ _, tile_emb h O w 2048 _ _,
    tile_emb h O w 1536 _ _, tile_emb h O w 1024 _ _, tile_emb h O w 512 _ _, tile_emb h O w 0 _ _, trivial⟩

section Loop

variable (𝒱 : Variants) (c : Dev nD) (bd : Option 𝒱.V) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (h2 : k0_cond2 i = 1#1)
  (X2 : BufTy.Contents (Elt Ideal) arg2.view.ty) (X6 : BufTy.Contents (Elt Ideal) arg6.view.ty) (X7 : BufTy.Contents (Elt Ideal) arg7.view.ty)

/-- One trip's only store: the normalized rows. -/
theorem trip (k : Fin k0_t1_loop.trips) (f : BufTy.Contents (Elt Ideal) arg8.view.ty) :
    tripL_k0_t1 (F := Ideal) 𝒱 c bd i arg2 harg2 arg3 harg3 arg4 harg4 arg5 harg5 arg6 harg6 arg7 harg7 arg8 harg8 arg9 harg9 h2 X2 X6 X7 k f
      = [⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            (arg6.view.read (Elt Ideal) X6) (arg7.view.read (Elt Ideal) X7)⟩] := by
  have hz : (![0, 0] : Fin 2 → ℕ) = fun _ => 0 := by funext a; fin_cases a <;> rfl
  have e6 := View.ld_unit_zero (S := S1x4096) hz inb_S1x4096_S1x4096_0_0 (arg6.view.read (Elt Ideal) X6)
  have e7 := View.ld_unit_zero (S := S1x4096) hz inb_S1x4096_S1x4096_0_0 (arg7.view.read (Elt Ideal) X7)
  unfold tripL_k0_t1 trip_k0_t1
  refine Eq.trans ?_ (congrArg₂ (fun u v => [(⟨Rect.unit (s := S512x4096) (k0_off1 k) S32x4096.size (k0_off1_inb i k h2),
          k0_pay4 (View.ld (arg2.view.read (Elt Ideal) X2) (Rect.unit (s := S512x4096) (k0_off1 k) S32x4096.size (k0_off1_inb i k h2)))
            (View.ld (arg8.view.read (Elt Ideal) f) (Rect.unit (s := S512x4096) (k0_off1 k) S32x4096.size (k0_off1_inb i k h2)))
            u v⟩ : View.Piece (Elt Ideal) S512x4096 .f32)]) e6 e7)
  rfl

/-- After `n` trips the first `32 · n` rows are normalized and the rest are as the loop found them. -/
theorem loop (G : BufTy.Contents (Elt Ideal) arg8.view.ty) : ∀ n ≤ 16, ∀ y : S512x4096.Idx,
    arg8.view.read (Elt Ideal) (arg8.view.writes (Elt Ideal) G
        (pb_k0_t1 (F := Ideal) 𝒱 c bd i arg2 harg2 arg3 harg3 arg4 harg4 arg5 harg5 arg6 harg6 arg7 harg7 arg8 harg8 arg9 harg9 h2 X2 X6 X7 G n)) y
      = if (y 0).val < 32 * n then
          norm (fun k => res (arg2.view.read (Elt Ideal) X2 (ix2 (y 0) k)) (arg8.view.read (Elt Ideal) G (ix2 (y 0) k)))
            (fun k => arg6.view.read (Elt Ideal) X6 (ix2 0 k)) (fun k => arg7.view.read (Elt Ideal) X7 (ix2 0 k)) (y 1)
        else arg8.view.read (Elt Ideal) G y := by
  have ht : k0_t1_loop.trips = 16 := by decide +kernel
  intro n
  induction n with
  | zero => intro _ y; rw [if_neg (by omega)]; rfl
  | succ n ih =>
    intro hn y
    have hk : n < k0_t1_loop.trips := by omega
    rw [pb_k0_t1_succ (F := Ideal) 𝒱 c bd i arg2 harg2 arg3 harg3 arg4 harg4 arg5 harg5 arg6 harg6 arg7 harg7 arg8 harg8 arg9 harg9 h2 X2 X6 X7 G ⟨n, hk⟩,
      View.writes_append, trip]
    rw [rows]
    by_cases h : 32 * n ≤ (y 0).val ∧ (y 0).val < 32 * n + 32
    · have h512 : 32 * n + ((y 0).val - 32 * n) < 512 := by have := (y 0).isLt; omega
      have hy : (⟨32 * n + ((y 0).val - 32 * n), h512⟩ : Fin 512) = y 0 := Fin.ext (by show 32 * n + ((y 0).val - 32 * n) = (y 0).val; omega)
      have eo : ∀ k : Fin 4096, arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n)) (ix2 (y 0) k)
          = arg8.view.read (Elt Ideal) G (ix2 (y 0) k) := fun k =>
        (ih (by omega) _).trans (if_neg (by show ¬ (y 0).val < 32 * n; omega))
      rw [dif_pos h, if_pos (by omega), pay4]
      have e2 : ∀ k : Fin 4096, View.ld (arg2.view.read (Elt Ideal) X2) (Rect.unit (s := S512x4096) (k0_off1 ⟨n, hk⟩) S32x4096.size (k0_off1_inb i ⟨n, hk⟩ h2))
          (ix2 ⟨(y 0).val - 32 * n, by omega⟩ k) = arg2.view.read (Elt Ideal) X2 (ix2 (y 0) k) := fun k =>
        (ldRows _ ⟨n, hk⟩ _ _ _ h512).trans (by rw [hy])
      have e8 : ∀ k : Fin 4096, View.ld (arg8.view.read (Elt Ideal) (arg8.view.writes (Elt Ideal) G
          (pb_k0_t1 (F := Ideal) 𝒱 c bd i arg2 harg2 arg3 harg3 arg4 harg4 arg5 harg5 arg6 harg6 arg7 harg7 arg8 harg8 arg9 harg9 h2 X2 X6 X7 G n))) (Rect.unit (s := S512x4096) (k0_off1 ⟨n, hk⟩) S32x4096.size (k0_off1_inb i ⟨n, hk⟩ h2))
          (ix2 ⟨(y 0).val - 32 * n, by omega⟩ k) = arg8.view.read (Elt Ideal) G (ix2 (y 0) k) := fun k =>
        (ldRows _ ⟨n, hk⟩ _ _ _ h512).trans (by rw [hy]; exact eo k)
      exact congrArg (fun f => norm f _ _ _) (funext fun k => congrArg₂ res (e2 k) (e8 k))
    · rw [dif_neg h, ih (by omega) y]
      by_cases h' : (y 0).val < 32 * n
      · rw [if_pos h', if_pos (by omega)]
      · rw [if_neg h', if_neg (by have h'' : ¬ (32 * n ≤ (y 0).val ∧ (y 0).val < 32 * n + 32) := h; omega)]

end Loop

variable (m : (ℓ : Loc nD τ sig) → Buf (Elt Ideal) ℓ) (ρ : Dev nD → PrngReg)

/-- What the first point of a row block leaves: zero and the product of its hidden units with its output weights. -/
theorem firstPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32) (y : S512x4096.Idx) :
    out0_A_6 c i arg2 harg2 arg3 harg3 arg4 harg4 arg5 harg5 arg6 harg6 arg7 harg7 arg8 harg8 arg9 harg9 hc0 hc1 x0 x1 x2 x3 x4 x5 y = 0 + mulBlk (hid x0 x1 x2) x3 y := by
  frame_open
  simp (disch := decide) only [↓ View.readCov_skip, ↓ View.readCov_cons_toLoadRect, ↓ View.readCov_fill]
  frame_out
  simp only [pay8, pay11, pay12, pay13, pay14, pay1, pay2, pay3]
  have key := tiles (k0_pay7 (k0_pay5 x0) x1 x2) (k0_pay6 (F := Ideal)) x3 [⟨Rect.unit (s := S512x4096) ![0, 0] ![512, 4096] inb_S512x4096_S512x4096_0_0, k0_pay6 (F := Ideal)⟩] y
  simp only [tileList, List.cons_append, List.nil_append] at key
  refine key.trans ?_
  refine congrArg₂ (· + ·) ?_ (congrArg (fun f => mulBlk f x3 y) (funext fun r => funext fun k => ?_))
  · pointwise [k0_pay6]
  · pointwise [k0_pay7, k0_pay5, hid, Cert.FfnIdeal.Normed.gate, Ideal.logistic]

/-- What a middle point leaves: what it found and the product of its hidden units with its output weights. -/
theorem midPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : ¬cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_B_6 c i arg2 harg2 arg3 harg3 arg4 harg4 arg5 harg5 arg6 harg6 arg7 harg7 arg8 harg8 arg9 harg9 hc0 hc1 x0 x1 x2 x3 x4 x5 xo6 xs0 y = xo6 y + mulBlk (hid xs0 x1 x2) x3 y := by
  frame_out
  simp only [pay8, pay11, pay12, pay13, pay14, pay1, pay2, pay3]
  refine (tiles (k0_pay7 xs0 x1 x2) xo6 x3 [] y).trans ?_
  exact congrArg (fun f => xo6 y + mulBlk f x3 y) (funext fun r => funext fun k => pay7 _ _ _ _)

/-- What the last point of a row block leaves: the layer norm of the residual and the accumulated product. -/
theorem lastPoint (c : Dev nD) (i : grid0.Coords) (arg2 : Memref sig .tc .vmem S512x4096 .f32) (harg2 : arg2.IsWhole) (arg3 : Memref sig .tc .vmem S1x1x4096x256 .bf16) (harg3 : arg3.IsWhole) (arg4 : Memref sig .tc .vmem S1x1x4096x256 .bf16) (harg4 : arg4.IsWhole) (arg5 : Memref sig .tc .vmem S1x1x256x4096 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc0 : ¬cond0_0 i) (hc1 : cond0_1 i)
    (x0 : Vec Ideal S512x4096 .f32) (x1 x2 : Vec Ideal S1x1x4096x256 .bf16) (x3 : Vec Ideal S1x1x256x4096 .bf16) (x4 x5 : Vec Ideal S1x4096 .f32)
    (xo6 : Vec Ideal S512x4096 .f32) (xs0 : Vec Ideal S512x4096 .bf16) (y : S512x4096.Idx) :
    out0_C_6 c i arg2 harg2 arg3 harg3 arg4 harg4 arg5 harg5 arg6 harg6 arg7 harg7 arg8 harg8 arg9 harg9 hc0 hc1 x0 x1 x2 x3 x4 x5 xo6 xs0 y
      = norm (fun k => res (x0 (ix2 (y 0) k)) (xo6 (ix2 (y 0) k) + mulBlk (hid xs0 x1 x2) x3 (ix2 (y 0) k))) (fun k => x4 (ix2 0 k)) (fun k => x5 (ix2 0 k)) (y 1) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0),
    ← View.read_writes_eq_canon arg8.view arg8.view.junk _ (cover0_C_6 c i arg2 harg2 arg3 harg3 arg4 harg4 arg5 harg5 arg6 harg6 arg7 harg7 arg8 harg8 arg9 harg9 hc0 hc1 x0 x1 x2 x3 x4 x5 xo6 xs0)]
  have hz : (![0, 0] : Fin 2 → ℕ) = fun _ => 0 := by funext a; fin_cases a <;> rfl
  have hz4 : (![0, 0, 0, 0] : Fin 4 → ℕ) = fun _ => 0 := by funext a; fin_cases a <;> rfl
  have ht : (y 0).val < 32 * 16 := (y 0).isLt
  have e : Scf.trips (0#32) (Scalar.addi 0#32 16#32) 1#32 = 16 := by decide +kernel
  unfold kernelRun0_C
  dsimp only
  rw [View.writes_append, e, loop _ _ _ _ _ _ _ _ _ _ _ _ _ _ _ _ _ _ _ _  _ _ _ _ _ 16 le_rfl, if_pos ht]
  sl_unfold_words
  simp only [View.readAt_eq_ld, harg2.read_unread, harg3.read_unread, harg4.read_unread, harg5.read_unread,
    harg6.read_unread, harg7.read_unread, harg8.read_unread, harg9.read_unread]
  rw [View.ld_unit_zero (S := S512x4096) hz inb_S512x4096_S512x4096_0_0 xs0,
    View.ld_unit_zero (S := S1x1x4096x256) hz4 inb_S1x1x4096x256_S1x1x4096x256_0_0_0_0 x1,
    View.ld_unit_zero (S := S1x1x4096x256) hz4 inb_S1x1x4096x256_S1x1x4096x256_0_0_0_0 x2]
  simp only [pay8, pay11, pay12, pay13, pay14, pay1, pay2, pay3]
  refine congrArg (fun f => norm f _ _ _) (funext fun k => congrArg (res _) ?_)
  refine (congrFun (View.read_writes_eq_canon arg8.view arg8.view.junk (tileList (k0_pay7 xs0 x1 x2) xo6 x3) (tiles_cover _ _ _)) _).trans ?_
  refine (tiles (k0_pay7 xs0 x1 x2) xo6 x3 [] _).trans ?_
  exact congrArg (fun f => xo6 (ix2 (y 0) k) + mulBlk f x3 (ix2 (y 0) k)) (funext fun r => funext fun k => pay7 _ _ _ _)

/-- Point `t` of the grid is row block `t / 43` and block `t % 43` of the hidden units. -/
theorem idx : ∀ t : Fin cfg0.N, win0_0.index t = ![t.val / 43, 0] ∧ win0_1.index t = ![1, 1, 0, t.val % 43] ∧ win0_2.index t = ![1, 1, 0, t.val % 43]
    ∧ win0_3.index t = ![1, 1, t.val % 43, 0] ∧ win0_4.index t = ![0, 0] ∧ win0_5.index t = ![0, 0] ∧ win0_6.index t = ![t.val / 43, 0] :=
  (by decide +kernel : ∀ t : Fin grid0.N, _)

/-- What the run keeps in the scratch after point `n`: the row block of the activations. -/
theorem kept (c : Dev nD) : ∀ (n : ℕ) (h : n < cfg0.N), ((outsAt0 m c n h).2 : Vec Ideal S512x4096 .bf16) = (iblk m c 0 ⟨n, h⟩ : Vec Ideal S512x4096 .f32) := by
  intro n
  induction n with
  | zero =>
    intro h
    rw [outsAt0_A m c ⟨0, h⟩ rfl (by show ¬ 0 % 43 = 42; omega)]
    funext y
    frame_out
    pointwise [k0_pay5]
  | succ n ih =>
    intro h
    have e := (idx ⟨n + 1, h⟩).1
    have e' := (idx ⟨n, Nat.lt_of_succ_lt h⟩).1
    by_cases h0 : (n + 1) % 43 = 0
    · rw [outsAt0_A m c ⟨n + 1, h⟩ h0 (by show ¬ (n + 1) % 43 = 42; omega)]
      funext y
      frame_out
      pointwise [k0_pay5]
    · by_cases h1 : (n + 1) % 43 = 42
      · rw [outsAt0_C m c ⟨n + 1, h⟩ h0 h1]
        refine (ih (Nat.lt_of_succ_lt h)).trans ?_
        funext y
        blk_ext [iblk, e, e']
      · rw [outsAt0_B m c ⟨n + 1, h⟩ h0 h1]
        refine (ih (Nat.lt_of_succ_lt h)).trans ?_
        funext y
        blk_ext [iblk, e, e']

/-- The row block that a point finds in the scratch, when it is not the first of its row block. -/
theorem kept_prev (c : Dev nD) (t : Fin cfg0.N) (h : ¬t.val % 43 = 0) :
    ((outsAt0 m c (t.val - 1) (Nat.lt_of_le_of_lt (Nat.sub_le _ _) t.isLt)).2 : Vec Ideal S512x4096 .bf16) = (iblk m c 0 t : Vec Ideal S512x4096 .f32) := by
  have e := (idx t).1
  have e' := (idx ⟨t.val - 1, Nat.lt_of_le_of_lt (Nat.sub_le _ _) t.isLt⟩).1
  have q : (t.val - 1) / 43 = t.val / 43 := by omega
  rw [kept m c (t.val - 1)]
  simp only [q] at e'
  funext y
  blk_ext [iblk, e, e']

/-- What point `t` adds: the product of its hidden units with its output weights. -/
def term (c : Dev nD) (t : Fin cfg0.N) (y : S512x4096.Idx) : EReal :=
  mulBlk (hid (iblk m c 0 t) (iblk m c 1 t) (iblk m c 2 t)) (iblk m c 3 t) y

/-- The accumulated product after point `n`: what the output's buffer holds before the layer norm. -/
def acc (c : Dev nD) (n : ℕ) (h : n < cfg0.N) (y : S512x4096.Idx) : EReal :=
  if n % 43 = 42 then (outsAt0 m c (n - 1) (Nat.lt_of_le_of_lt (Nat.sub_le _ _) h)).1 y + term m c ⟨n, h⟩ y else (outsAt0 m c n h).1 y

/-- The first point of a row block starts from zero. -/
theorem acc_first (c : Dev nD) (t : Fin cfg0.N) (h : t.val % 43 = 0) (y : S512x4096.Idx) :
    acc m c t.val t.isLt y = 0 + term m c t y := by
  rw [acc, if_neg (by omega), outsAt0_A m c t h (by omega)]
  dsimp only
  rw [firstPoint]
  rfl

/-- Every other point adds the product of its blocks. -/
theorem acc_step (c : Dev nD) (t : Fin cfg0.N) (h : ¬t.val % 43 = 0) (y : S512x4096.Idx) :
    acc m c t.val t.isLt y = acc m c (t.val - 1) (Nat.lt_of_le_of_lt (Nat.sub_le _ _) t.isLt) y + term m c t y := by
  rw [acc, acc, if_neg (show ¬ (t.val - 1) % 43 = 42 by omega)]
  by_cases h1 : t.val % 43 = 42
  · rw [if_pos h1]
  · rw [if_neg h1, outsAt0_B m c t h h1]
    dsimp only
    rw [midPoint, kept_prev m c t h]
    rfl

/-- Hidden unit `k` of row `r`. -/
def hidden (x : Vec Ideal S16384x4096 .f32) (wg wu : Vec Ideal S2x2x4096x11008 .f32) (r : Fin 16384) (k : Fin 11008) : EReal :=
  gate (∑ j : Fin 4096, x (ix2 r j) * wg (ix4 1 1 j k)) (∑ j : Fin 4096, x (ix2 r j) * wu (ix4 1 1 j k))

/-- Entry `(r, j)` of the product of the hidden units and the output weights. -/
def prod (x : Vec Ideal S16384x4096 .f32) (wg wu : Vec Ideal S2x2x4096x11008 .f32) (wd : Vec Ideal S2x2x11008x4096 .f32) (r : Fin 16384) (j : Fin 4096) : EReal :=
  ∑ k : Fin 11008, hidden x wg wu r k * wd (ix4 1 1 k j)

/-- The result: the layer norm of the residual sum's rows. -/
def out (x : Vec Ideal S16384x4096 .f32) (wg wu : Vec Ideal S2x2x4096x11008 .f32) (wd : Vec Ideal S2x2x11008x4096 .f32) (lw lb : Vec Ideal S4096 .f32) :
    Vec Ideal S16384x4096 .f32 := fun i =>
  norm (fun j => res (x (ix2 (i 0) j)) (prod x wg wu wd (i 0) j)) (fun j => lw (ix1 j)) (fun j => lb (ix1 j)) (i 1)

/-- The array that the launch fills is the result. -/
theorem final (c : Dev nD) : (dats m 0 c).arrAt 6 cfg0.N
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have h7 : t.val % 43 = 42 := (flush0_6 t).mp hf
  have h0 : ¬t.val % 43 = 0 := by omega
  rw [outsAt0_C m c t h0 h7]
  dsimp only
  rw [lastPoint, kept_prev m c t h0]
  have hs : ∀ j : Fin 4096, (outsAt0 m c (t.val - 1) (Nat.lt_of_le_of_lt (Nat.sub_le _ _) t.isLt)).1 (ix2 (y 0) j)
        + mulBlk (hid (iblk m c 0 t) (iblk m c 1 t) (iblk m c 2 t)) (iblk m c 3 t) (ix2 (y 0) j)
      = 0 + ∑ s : Fin 43, term m c ⟨43 * (t.val / 43) + s.val, Pipeline.run_point_lt_of_flush t h7 s⟩ (ix2 (y 0) j) := fun j => by
    refine Eq.trans ?_ (Pipeline.eq_sum_fin_of_reset_step_apply_of_flush (acc m c) 43 (fun _ => 0) (term m c) (acc_first m c) (acc_step m c) t h7 _)
    rw [acc, if_pos h7]
    rfl
  simp only [hs, zero_add]
  obtain ⟨e0, e1, e2, e3, e4, e5, e6⟩ := idx t
  have hx : ∀ j : Fin 4096, (iblk m c 0 t : Vec Ideal S512x4096 .f32) (ix2 (y 0) j)
      = (m ((c : Thread nD τ).loc main_arg0) : Vec Ideal S16384x4096 .f32) (ix2 (((win0_6.blk t).view.emb y) 0) j) := fun j => by
    blk_point [iblk, V, e0, e6]
  have hw : ∀ j : Fin 4096, (iblk m c 4 t : Vec Ideal S1x4096 .f32) (ix2 0 j)
      = (m ((c : Thread nD τ).loc main_arg4) : Vec Ideal S4096 .f32) (ix1 j) := fun j => by
    blk_point [iblk, V, e4]
  have hb : ∀ j : Fin 4096, (iblk m c 5 t : Vec Ideal S1x4096 .f32) (ix2 0 j)
      = (m ((c : Thread nD τ).loc main_arg5) : Vec Ideal S4096 .f32) (ix1 j) := fun j => by
    blk_point [iblk, V, e5]
  have hy : (y 1).val = ((win0_6.blk t).view.emb y 1).val := by
    show (y 1).val = win0_6.index t 1 * 4096 + 1 * (y 1).val
    rw [e6]
    show (y 1).val = 0 * 4096 + 1 * (y 1).val
    omega
  have hp : ∀ j : Fin 4096, ∑ s : Fin 43, term m c ⟨43 * (t.val / 43) + s.val, Pipeline.run_point_lt_of_flush t h7 s⟩ (ix2 (y 0) j)
      = prod (m ((c : Thread nD τ).loc main_arg0)) (m ((c : Thread nD τ).loc main_arg1)) (m ((c : Thread nD τ).loc main_arg2))
        (m ((c : Thread nD τ).loc main_arg3)) (((win0_6.blk t).view.emb y) 0) j := fun j => by
    refine Fin.sum_mul_add_congr fun s k hl => ?_
    obtain ⟨d0, d1, d2, d3, -⟩ := idx ⟨43 * (t.val / 43) + s.val, Pipeline.run_point_lt_of_flush t h7 s⟩
    have q0 : (43 * (t.val / 43) + s.val) / 43 = t.val / 43 := by omega
    have q1 : (43 * (t.val / 43) + s.val) % 43 = s.val := by omega
    simp only [q0, q1] at d0 d1 d2 d3
    refine congrArg₂ (· * ·) (congrArg₂ gate (Finset.sum_congr rfl fun i _ => congrArg₂ (· * ·) ?_ ?_)
      (Finset.sum_congr rfl fun i _ => congrArg₂ (· * ·) ?_ ?_)) ?_
    · blk_point [iblk, V, d0, e6]
    · blk_point [iblk, V, d1]
    · blk_point [iblk, V, d0, e6]
    · blk_point [iblk, V, d2]
    · blk_point [iblk, V, d3]
  have key := congr (congr (congr (congrArg norm (funext fun j => congrArg₂ res (hx j) (hp j))) (funext hw)) (funext hb)) (Fin.ext hy)
  exact key

end Cert.FfnDIdeal.Normed

end
-- ==== Proof.FfnDRef.lean ====
/- The reference of the feed-forward call at layer 1's second half step, stage by stage: the gated hidden units, the output projection, the residual sum and the
   layer norm, each entry as a plain expression, at the ideal instance. -/
module

public import proofs.«01_k».proof.Defs
public import proofs.«01_k».proof.Proof.OutProjValue
public import proofs.«01_k».proof.Proof.Gen.FfnDRefIdeal.Run
public import Idealize.ShloMosaic.Lib.Pointwise
public import Idealize.ShloMosaic.Lib.Tactic

@[expose] public section

set_option maxRecDepth 16384

noncomputable section
namespace Cert.FfnDRefIdeal.Value
namespace Rows
open Idealize.ShloMosaic Idealize.ShloMosaic.TcCoe Idealize.SL.Sem Cert.FfnDRefIdeal Cert.FfnDRefIdeal.Gen
open Cert.OutProjIdeal.Normed (mean norm)

/-- The reference's gated value of two arrays. -/
def gateA (g u : FVec Ideal S16384x11008 .f32) : FVec Ideal S16384x11008 .f32 := mulf (mulf g (Host.divf (broadcastInDim S16384x11008 ![] bcast_S_S16384x11008 (constant S_ .f32 0x3F800000#32)) (addf (broadcastInDim S16384x11008 ![] bcast_S_S16384x11008 (constant S_ .f32 0x3F800000#32)) (Host.exp (Host.negf g))))) u

/-- The reference's gate projection. -/
def projA (x : FVec Ideal S16384x4096 .f32) (w : FVec Ideal S2x2x4096x11008 .f32) : FVec Ideal S16384x11008 .f32 := Host.dotGeneral dot_S16384x4096_S4096x11008_S16384x11008_1_0_0_1_n_n none x (shapeCast _ (extractStridedSlice S1x1x4096x11008 ![1, 1, 0, 0] w slices_S2x2x4096x11008_S1x1x4096x11008_1_1_0_0) shapeCasts_S1x1x4096x11008_S4096x11008)

/-- The reference's output projection. -/
def downA (h : FVec Ideal S16384x11008 .f32) (wd : FVec Ideal S2x2x11008x4096 .f32) : FVec Ideal S16384x4096 .f32 := Host.dotGeneral dot_S16384x11008_S11008x4096_S16384x4096_1_0_0_1_n_n none h (shapeCast _ (extractStridedSlice S1x1x11008x4096 ![1, 1, 0, 0] wd slices_S2x2x11008x4096_S1x1x11008x4096_1_1_0_0) shapeCasts_S1x1x11008x4096_S11008x4096)

/-- The reference's residual sum. -/
def resA (x O : FVec Ideal S16384x4096 .f32) : FVec Ideal S16384x4096 .f32 := addf (mulf (broadcastInDim S16384x4096 ![] bcast_S_S16384x4096 (constant S_ .f32 0x3FB504F3#32)) x) (mulf (broadcastInDim S16384x4096 ![] bcast_S_S16384x4096 (constant S_ .f32 0x3F000000#32)) O)

/-- The reference's layer norm. -/
def normA (A : FVec Ideal S16384x4096 .f32) (lw lb : FVec Ideal S4096 .f32) : FVec Ideal S16384x4096 .f32 := addf (mulf (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32))))) (subf A (broadcastInDim S16384x4096 ![0, 1] bcast_S16384x1_S16384x4096_0_1 (Host.divf (broadcastInDim S16384x1 ![0] bcast_S16384_S16384x1_0 (Host.reduceAdd A (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 lw))) (broadcastInDim S16384x4096 ![0, 1] bcast_S1x4096_S16384x4096_0_1 (broadcastInDim S1x4096 ![1] bcast_S4096_S1x4096_1 lb))

/-- The named result is the layer norm of the residual sum, stage by stage. -/
theorem res_eq (m : (ℓ : Loc nD τ sig) → Buf (Elt Ideal) ℓ) (c : Dev nD) :
    Value.res_main_v39 m c = normA (resA (m ((c : Thread nD τ).loc main_arg0)) (downA (gateA (projA (m ((c : Thread nD τ).loc main_arg0)) (m ((c : Thread nD τ).loc main_arg1)))
      (projA (m ((c : Thread nD τ).loc main_arg0)) (m ((c : Thread nD τ).loc main_arg2)))) (m ((c : Thread nD τ).loc main_arg3))))
      (m ((c : Thread nD τ).loc main_arg4)) (m ((c : Thread nD τ).loc main_arg5)) := rfl

/-- An entry of the gated values. -/
theorem gateA_at (g u : Vec Ideal S16384x11008 .f32) (i : S16384x11008.Idx) : gateA g u i = g i * Ideal.div 1 (1 + Ideal.exp (-g i)) * u i := by
  pointwise [gateA]

/-- An entry of a projection to the hidden units. -/
theorem projA_at (x : Vec Ideal S16384x4096 .f32) (w : Vec Ideal S2x2x4096x11008 .f32) (i : S16384x11008.Idx) :
    projA x w i = ∑ j : Fin 4096, x (ix2 (i 0) j) * w (ix4 1 1 j (i 1)) := by
  pointwise [projA]

/-- An entry of the output projection. -/
theorem downA_at (h : Vec Ideal S16384x11008 .f32) (w : Vec Ideal S2x2x11008x4096 .f32) (i : S16384x4096.Idx) :
    downA h w i = ∑ k : Fin 11008, h (ix2 (i 0) k) * w (ix4 1 1 k (i 1)) := by
  pointwise [downA]

/-- An entry of the residual sum. -/
theorem resA_at (x O : Vec Ideal S16384x4096 .f32) (i : S16384x4096.Idx) :
    resA x O i = Ideal.ofBits .f32 0x3FB504F3#32 * x i + Ideal.ofBits .f32 0x3F000000#32 * O i := by
  pointwise [resA]

/-- An entry of the layer norm is the normalized row's entry. -/
theorem normA_at (A : Vec Ideal S16384x4096 .f32) (lw lb : Vec Ideal S4096 .f32) (i : S16384x4096.Idx) :
    normA A lw lb i = norm (fun j => A (ix2 (i 0) j)) (fun j => lw (ix1 j)) (fun j => lb (ix1 j)) (i 1) := by
  pointwise [normA, Cert.OutProjIdeal.Normed.norm, Cert.OutProjIdeal.Normed.mean]

end Rows
end Cert.FfnDRefIdeal.Value
end
-- ==== Proof.FfnDClaim.lean ====
/- The value claim of the feed-forward call at layer 1's second half step: the array that the launch fills is the reference's result. -/
module

public import proofs.«01_k».proof.Proof.FfnDValue
public import proofs.«01_k».proof.Proof.FfnDRef

@[expose] public section

set_option maxRecDepth 16384

noncomputable section

open Idealize.ShloMosaic Idealize.ShloMosaic.TcCoe Idealize.SL.Sem

/-- The reference's result is the normalized residual sum. -/
theorem Cert.FfnDRefIdeal.Value.Rows.res_out (m : (ℓ : Loc Cert.FfnDRefIdeal.nD Cert.FfnDRefIdeal.τ Cert.FfnDRefIdeal.sig) → Buf (Elt Ideal) ℓ)
    (c : Dev Cert.FfnDRefIdeal.nD) : Cert.FfnDRefIdeal.Value.res_main_v39 m c
      = Cert.FfnDIdeal.Normed.out (m (c.tc.loc Cert.FfnDRefIdeal.main_arg0)) (m (c.tc.loc Cert.FfnDRefIdeal.main_arg1))
        (m (c.tc.loc Cert.FfnDRefIdeal.main_arg2)) (m (c.tc.loc Cert.FfnDRefIdeal.main_arg3))
        (m (c.tc.loc Cert.FfnDRefIdeal.main_arg4)) (m (c.tc.loc Cert.FfnDRefIdeal.main_arg5)) := by
  funext i
  refine (congrFun (Cert.FfnDRefIdeal.Value.Rows.res_eq m c) i).trans ((Cert.FfnDRefIdeal.Value.Rows.normA_at _ _ _ i).trans ?_)
  refine congrArg (fun f => Cert.OutProjIdeal.Normed.norm f _ _ _) (funext fun j => ?_)
  refine (Cert.FfnDRefIdeal.Value.Rows.resA_at _ _ _).trans (congrArg (Cert.FfnIdeal.Normed.res _) ?_)
  refine (Cert.FfnDRefIdeal.Value.Rows.downA_at _ _ _).trans (Finset.sum_congr rfl fun k _ => congrArg (· * _) ?_)
  refine (Cert.FfnDRefIdeal.Value.Rows.gateA_at _ _ _).trans (congrArg₂ Cert.FfnIdeal.Normed.gate ?_ ?_)
  · exact Cert.FfnDRefIdeal.Value.Rows.projA_at _ _ _
  · exact Cert.FfnDRefIdeal.Value.Rows.projA_at _ _ _

/-- The feed-forward call at layer 1's second half step, with its residual and layer norm, and its reference, end with equal results. -/
theorem Cert.FfnDIdeal.Normed.claim : Cert.algebraic_FfnDIdeal_FfnDRefIdeal := by
  pair_intro
  · run_from Cert.FfnDIdeal.Gen.run_main m g
  · run_from Cert.FfnDRefIdeal.Value.run m' g'
    refine Eq.trans ?_ (Cert.FfnDIdeal.Normed.final m c).symm
    refine (Cert.FfnDRefIdeal.Value.Rows.res_out m' c).trans ?_
    obtain ⟨a0, a1, a2, a3, a4, a5⟩ := hagree c
    rw [a0, a1, a2, a3, a4, a5]

end
-- ==== Proof.lean ====
module

public import proofs.«01_k».proof.Proof.InProjValue
public import proofs.«01_k».proof.Proof.OutProjValue
public import proofs.«01_k».proof.Proof.AttProjValue
public import proofs.«01_k».proof.Proof.QkvProjValue
public import proofs.«01_k».proof.Proof.GateProjValue
public import proofs.«01_k».proof.Proof.PrepValue
public import proofs.«01_k».proof.Proof.FfnClaim
public import proofs.«01_k».proof.Proof.RetentionRun
public import proofs.«01_k».proof.Proof.RetentionClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Loops
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Loops
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Loops
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Loops
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.AttProj
public import proofs.«01_k».proof.Proof.Gen.AttProj.Skeleton
public import proofs.«01_k».proof.Proof.Gen.AttProj.Launch
public import proofs.«01_k».proof.Proof.Gen.AttProj.Points
public import proofs.«01_k».proof.Proof.Gen.AttProj.Frame
public import proofs.«01_k».proof.Proof.Gen.AttProjIdeal
public import proofs.«01_k».proof.Proof.Gen.AttProjIdeal.Skeleton
public import proofs.«01_k».proof.Proof.Gen.AttProjIdeal.Launch
public import proofs.«01_k».proof.Proof.Gen.AttProjIdeal.Points
public import proofs.«01_k».proof.Proof.Gen.AttProjIdeal.Frame
public import proofs.«01_k».proof.Proof.Gen.AttProjRefIdeal
public import proofs.«01_k».proof.Proof.Gen.QkvProj
public import proofs.«01_k».proof.Proof.Gen.QkvProj.Skeleton
public import proofs.«01_k».proof.Proof.Gen.QkvProj.Launch
public import proofs.«01_k».proof.Proof.Gen.QkvProj.Points
public import proofs.«01_k».proof.Proof.Gen.QkvProj.Frame
public import proofs.«01_k».proof.Proof.Gen.QkvProjIdeal
public import proofs.«01_k».proof.Proof.Gen.QkvProjIdeal.Skeleton
public import proofs.«01_k».proof.Proof.Gen.QkvProjIdeal.Launch
public import proofs.«01_k».proof.Proof.Gen.QkvProjIdeal.Points
public import proofs.«01_k».proof.Proof.Gen.QkvProjIdeal.Frame
public import proofs.«01_k».proof.Proof.Gen.QkvProjRefIdeal
public import proofs.«01_k».proof.Proof.Gen.GateProj
public import proofs.«01_k».proof.Proof.Gen.GateProj.Skeleton
public import proofs.«01_k».proof.Proof.Gen.GateProj.Launch
public import proofs.«01_k».proof.Proof.Gen.GateProj.Points
public import proofs.«01_k».proof.Proof.Gen.GateProj.Frame
public import proofs.«01_k».proof.Proof.Gen.GateProjIdeal
public import proofs.«01_k».proof.Proof.Gen.GateProjIdeal.Skeleton
public import proofs.«01_k».proof.Proof.Gen.GateProjIdeal.Launch
public import proofs.«01_k».proof.Proof.Gen.GateProjIdeal.Points
public import proofs.«01_k».proof.Proof.Gen.GateProjIdeal.Frame
public import proofs.«01_k».proof.Proof.Gen.GateProjRefIdeal
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.KernelIdeal.Value
public import proofs.«01_k».proof.Proof.Gen.FfnIdeal.Value
public import proofs.«01_k».proof.Proof.Gen.InProjIdeal.Value
public import proofs.«01_k».proof.Proof.Gen.OutProjIdeal.Value
public import proofs.«01_k».proof.Proof.Gen.ReferenceIdeal.Run
public import proofs.«01_k».proof.Proof.Gen.FfnRefIdeal.Run
public import proofs.«01_k».proof.Proof.Gen.InProjRefIdeal.Run
public import proofs.«01_k».proof.Proof.Gen.OutProjRefIdeal.Run
public import proofs.«01_k».proof.Proof.Gen.AttProjIdeal.Value
public import proofs.«01_k».proof.Proof.Gen.AttProjRefIdeal.Run
public import proofs.«01_k».proof.Proof.Gen.QkvProjIdeal.Value
public import proofs.«01_k».proof.Proof.Gen.QkvProjRefIdeal.Run
public import proofs.«01_k».proof.Proof.Gen.GateProjIdeal.Value
public import proofs.«01_k».proof.Proof.Gen.GateProjRefIdeal.Run
public import proofs.«01_k».proof.Proof.Gen.PrepIdeal.Value
public import proofs.«01_k».proof.Proof.Gen.PrepRefIdeal.Run
public import proofs.«01_k».proof.Proof.FfnBClaim
public import proofs.«01_k».proof.Proof.Gen.FfnB
public import proofs.«01_k».proof.Proof.Gen.FfnB.Skeleton
public import proofs.«01_k».proof.Proof.Gen.FfnB.Loops
public import proofs.«01_k».proof.Proof.Gen.FfnB.Launch
public import proofs.«01_k».proof.Proof.Gen.FfnB.Points
public import proofs.«01_k».proof.Proof.Gen.FfnB.Frame
public import proofs.«01_k».proof.Proof.Gen.FfnBIdeal
public import proofs.«01_k».proof.Proof.Gen.FfnBIdeal.Skeleton
public import proofs.«01_k».proof.Proof.Gen.FfnBIdeal.Loops
public import proofs.«01_k».proof.Proof.Gen.FfnBIdeal.Launch
public import proofs.«01_k».proof.Proof.Gen.FfnBIdeal.Points
public import proofs.«01_k».proof.Proof.Gen.FfnBIdeal.Frame
public import proofs.«01_k».proof.Proof.Gen.FfnBRefIdeal
public import proofs.«01_k».proof.Proof.Gen.FfnBIdeal.Value
public import proofs.«01_k».proof.Proof.Gen.FfnBRefIdeal.Run
public import proofs.«01_k».proof.Proof.FfnCClaim
public import proofs.«01_k».proof.Proof.Gen.FfnC
public import proofs.«01_k».proof.Proof.Gen.FfnC.Skeleton
public import proofs.«01_k».proof.Proof.Gen.FfnC.Loops
public import proofs.«01_k».proof.Proof.Gen.FfnC.Launch
public import proofs.«01_k».proof.Proof.Gen.FfnC.Points
public import proofs.«01_k».proof.Proof.Gen.FfnC.Frame
public import proofs.«01_k».proof.Proof.Gen.FfnCIdeal
public import proofs.«01_k».proof.Proof.Gen.FfnCIdeal.Skeleton
public import proofs.«01_k».proof.Proof.Gen.FfnCIdeal.Loops
public import proofs.«01_k».proof.Proof.Gen.FfnCIdeal.Launch
public import proofs.«01_k».proof.Proof.Gen.FfnCIdeal.Points
public import proofs.«01_k».proof.Proof.Gen.FfnCIdeal.Frame
public import proofs.«01_k».proof.Proof.Gen.FfnCRefIdeal
public import proofs.«01_k».proof.Proof.Gen.FfnCIdeal.Value
public import proofs.«01_k».proof.Proof.Gen.FfnCRefIdeal.Run
public import proofs.«01_k».proof.Proof.FfnDClaim
public import proofs.«01_k».proof.Proof.Gen.FfnD
public import proofs.«01_k».proof.Proof.Gen.FfnD.Skeleton
public import proofs.«01_k».proof.Proof.Gen.FfnD.Loops
public import proofs.«01_k».proof.Proof.Gen.FfnD.Launch
public import proofs.«01_k».proof.Proof.Gen.FfnD.Points
public import proofs.«01_k».proof.Proof.Gen.FfnD.Frame
public import proofs.«01_k».proof.Proof.Gen.FfnDIdeal
public import proofs.«01_k».proof.Proof.Gen.FfnDIdeal.Skeleton
public import proofs.«01_k».proof.Proof.Gen.FfnDIdeal.Loops
public import proofs.«01_k».proof.Proof.Gen.FfnDIdeal.Launch
public import proofs.«01_k».proof.Proof.Gen.FfnDIdeal.Points
public import proofs.«01_k».proof.Proof.Gen.FfnDIdeal.Frame
public import proofs.«01_k».proof.Proof.Gen.FfnDRefIdeal
public import proofs.«01_k».proof.Proof.Gen.FfnDIdeal.Value
public import proofs.«01_k».proof.Proof.Gen.FfnDRefIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.AttProj.Gen.facts, Cert.AttProjIdeal.Gen.facts, Cert.AttProjRefIdeal.Gen.facts, Cert.QkvProj.Gen.facts, Cert.QkvProjIdeal.Gen.facts, Cert.QkvProjRefIdeal.Gen.facts, Cert.GateProj.Gen.facts, Cert.GateProjIdeal.Gen.facts, Cert.GateProjRefIdeal.Gen.facts, Cert.Prep.Gen.facts, Cert.PrepIdeal.Gen.facts, Cert.PrepRefIdeal.Gen.facts, Cert.FfnB.Gen.facts, Cert.FfnBIdeal.Gen.facts, Cert.FfnBRefIdeal.Gen.facts, Cert.FfnC.Gen.facts, Cert.FfnCIdeal.Gen.facts, Cert.FfnCRefIdeal.Gen.facts, Cert.FfnD.Gen.facts, Cert.FfnDIdeal.Gen.facts, Cert.FfnDRefIdeal.Gen.facts,
  fun m ρ _ => Cert.Kernel.Gen.frame m ρ,
  fun m ρ _ => Cert.KernelIdeal.Gen.frame m ρ,
  Cert.ReferenceIdeal.Fold.frame,
  fun m ρ _ => Cert.Ffn.Gen.frame m ρ,
  fun m ρ _ => Cert.FfnIdeal.Gen.frame m ρ,
  fun m ρ _ => (θ_run Cert.FfnRefIdeal.defs _ _).mono (fun r h => ⟨fun c => (h c).2, sem_eq_zero_of_no_sems (by decide) r.2⟩) (Cert.FfnRefIdeal.Value.run m ρ),
  fun m ρ _ => Cert.InProj.Gen.frame m ρ,
  fun m ρ _ => Cert.InProjIdeal.Gen.frame m ρ,
  fun m ρ _ => (θ_run Cert.InProjRefIdeal.defs _ _).mono (fun r h => ⟨fun c => (h c).2, sem_eq_zero_of_no_sems (by decide) r.2⟩) (Cert.InProjRefIdeal.Value.run m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, sem_eq_zero_of_no_sems (by decide) r.2⟩) (Cert.OutProjRefIdeal.Value.run m ρ),
  fun m ρ _ => Cert.AttProj.Gen.frame m ρ,
  fun m ρ _ => Cert.AttProjIdeal.Gen.frame m ρ,
  fun m ρ _ => (θ_run Cert.AttProjRefIdeal.defs _ _).mono (fun r h => ⟨fun c => (h c).2, sem_eq_zero_of_no_sems (by decide) r.2⟩) (Cert.AttProjRefIdeal.Value.run m ρ),
  fun m ρ _ => Cert.QkvProj.Gen.frame m ρ,
  fun m ρ _ => Cert.QkvProjIdeal.Gen.frame m ρ,
  fun m ρ _ => (θ_run Cert.QkvProjRefIdeal.defs _ _).mono (fun r h => ⟨fun c => (h c).2, sem_eq_zero_of_no_sems (by decide) r.2⟩) (Cert.QkvProjRefIdeal.Value.run m ρ),
  fun m ρ _ => Cert.GateProj.Gen.frame m ρ,
  fun m ρ _ => Cert.GateProjIdeal.Gen.frame m ρ,
  fun m ρ _ => (θ_run Cert.GateProjRefIdeal.defs _ _).mono (fun r h => ⟨fun c => (h c).2, sem_eq_zero_of_no_sems (by decide) r.2⟩) (Cert.GateProjRefIdeal.Value.run m ρ),
  fun m ρ _ => Cert.Prep.Gen.frame m ρ,
  fun m ρ _ => Cert.PrepIdeal.Gen.frame m ρ,
  fun m ρ _ => (θ_run Cert.PrepRefIdeal.defs _ _).mono (fun r h => ⟨fun c => (h c).2, sem_eq_zero_of_no_sems (by decide) r.2⟩) (Cert.PrepRefIdeal.Value.run m ρ),
  fun m ρ _ => Cert.FfnB.Gen.frame m ρ,
  fun m ρ _ => Cert.FfnBIdeal.Gen.frame m ρ,
  fun m ρ _ => (θ_run Cert.FfnBRefIdeal.defs _ _).mono (fun r h => ⟨fun c => (h c).2, sem_eq_zero_of_no_sems (by decide) r.2⟩) (Cert.FfnBRefIdeal.Value.run m ρ),
  fun m ρ _ => Cert.FfnC.Gen.frame m ρ,
  fun m ρ _ => Cert.FfnCIdeal.Gen.frame m ρ,
  fun m ρ _ => (θ_run Cert.FfnCRefIdeal.defs _ _).mono (fun r h => ⟨fun c => (h c).2, sem_eq_zero_of_no_sems (by decide) r.2⟩) (Cert.FfnCRefIdeal.Value.run m ρ),
  fun m ρ _ => Cert.FfnD.Gen.frame m ρ,
  fun m ρ _ => Cert.FfnDIdeal.Gen.frame m ρ,
  fun m ρ _ => (θ_run Cert.FfnDRefIdeal.defs _ _).mono (fun r h => ⟨fun c => (h c).2, sem_eq_zero_of_no_sems (by decide) r.2⟩) (Cert.FfnDRefIdeal.Value.run m ρ),
  trivial,
  Cert.ReferenceIdeal.Stages.claim,
  trivial,
  Cert.FfnIdeal.Normed.claim,
  trivial,
  Cert.InProjIdeal.Product.claim,
  trivial,
  Cert.OutProjIdeal.Normed.claim,
  trivial,
  Cert.AttProjIdeal.Product.claim,
  trivial,
  Cert.QkvProjIdeal.Product.claim,
  trivial,
  Cert.GateProjIdeal.Product.claim,
  trivial,
  Cert.PrepIdeal.Conv.claim,
  trivial,
  Cert.FfnBIdeal.Normed.claim,
  trivial,
  Cert.FfnCIdeal.Normed.claim,
  trivial,
  Cert.FfnDIdeal.Normed.claim⟩

end Cert.Proof

end
